-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_at_most_13 [hPre_scores_at_most_13 : Cert.Pre_scores_at_most_13.Facts] (m : (ℓ : Loc Cert.KernelIdeal.nD Cert.KernelIdeal.τ Cert.KernelIdeal.sig) → Buf (Elt Ideal) ℓ) : Prop :=
  ∀ c : Dev Cert.KernelIdeal.nD,
    (Cert.Pre_scores_at_most_13.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_at_most_13 [hPre_scores_at_most_13 : Cert.Pre_scores_at_most_13.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_at_most_13.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Nearest (m : (ℓ : Loc Cert.Nearest.nD Cert.Nearest.τ Cert.Nearest.sig) → Buf (Elt Bits) ℓ) : Prop :=
  True

def Pre_NearestIdeal (m : (ℓ : Loc Cert.NearestIdeal.nD Cert.NearestIdeal.τ Cert.NearestIdeal.sig) → Buf (Elt Ideal) ℓ) : Prop :=
  True

def Pre_NearestIdeal_points_at_most_5e18 [hPre_points_at_most_5e18 : Cert.Pre_points_at_most_5e18.Facts] (m : (ℓ : Loc Cert.NearestIdeal.nD Cert.NearestIdeal.τ Cert.NearestIdeal.sig) → Buf (Elt Ideal) ℓ) : Prop :=
  ∀ c : Dev Cert.NearestIdeal.nD,
    (Cert.Pre_points_at_most_5e18.fn (F := Ideal) (m ((c.tc : Thread Cert.NearestIdeal.nD Cert.NearestIdeal.τ).loc Cert.NearestIdeal.main_arg0)) (m ((c.tc : Thread Cert.NearestIdeal.nD Cert.NearestIdeal.τ).loc Cert.NearestIdeal.main_arg1))) = (fun _ => 1#1)

def Pre_NearestReferenceIdeal (m : (ℓ : Loc Cert.NearestReferenceIdeal.nD Cert.NearestReferenceIdeal.τ Cert.NearestReferenceIdeal.sig) → Buf (Elt Ideal) ℓ) : Prop :=
  True

def Pre_NearestReferenceIdeal_points_at_most_5e18 [hPre_points_at_most_5e18 : Cert.Pre_points_at_most_5e18.Facts] (m : (ℓ : Loc Cert.NearestReferenceIdeal.nD Cert.NearestReferenceIdeal.τ Cert.NearestReferenceIdeal.sig) → Buf (Elt Ideal) ℓ) : Prop :=
  ∀ c : Dev Cert.NearestReferenceIdeal.nD,
    (Cert.Pre_points_at_most_5e18.fn (F := Ideal) (m ((c.tc : Thread Cert.NearestReferenceIdeal.nD Cert.NearestReferenceIdeal.τ).loc Cert.NearestReferenceIdeal.main_arg0)) (m ((c.tc : Thread Cert.NearestReferenceIdeal.nD Cert.NearestReferenceIdeal.τ).loc Cert.NearestReferenceIdeal.main_arg1))) = (fun _ => 1#1)

def Pre_Partition (m : (ℓ : Loc Cert.Partition.nD Cert.Partition.τ Cert.Partition.sig) → Buf (Elt Bits) ℓ) : Prop :=
  True

def Pre_PartitionIdeal (m : (ℓ : Loc Cert.PartitionIdeal.nD Cert.PartitionIdeal.τ Cert.PartitionIdeal.sig) → Buf (Elt Ideal) ℓ) : Prop :=
  True

def Pre_PartitionIdeal_points_at_most_5e18 [hPre_points_at_most_5e18 : Cert.Pre_points_at_most_5e18.Facts] (m : (ℓ : Loc Cert.PartitionIdeal.nD Cert.PartitionIdeal.τ Cert.PartitionIdeal.sig) → Buf (Elt Ideal) ℓ) : Prop :=
  ∀ c : Dev Cert.PartitionIdeal.nD,
    (Cert.Pre_points_at_most_5e18.fn (F := Ideal) (m ((c.tc : Thread Cert.PartitionIdeal.nD Cert.PartitionIdeal.τ).loc Cert.PartitionIdeal.main_arg0)) (m ((c.tc : Thread Cert.PartitionIdeal.nD Cert.PartitionIdeal.τ).loc Cert.PartitionIdeal.main_arg1))) = (fun _ => 1#1)

def Pre_PartitionReferenceIdeal (m : (ℓ : Loc Cert.PartitionReferenceIdeal.nD Cert.PartitionReferenceIdeal.τ Cert.PartitionReferenceIdeal.sig) → Buf (Elt Ideal) ℓ) : Prop :=
  True

def Pre_PartitionReferenceIdeal_points_at_most_5e18 [hPre_points_at_most_5e18 : Cert.Pre_points_at_most_5e18.Facts] (m : (ℓ : Loc Cert.PartitionReferenceIdeal.nD Cert.PartitionReferenceIdeal.τ Cert.PartitionReferenceIdeal.sig) → Buf (Elt Ideal) ℓ) : Prop :=
  ∀ c : Dev Cert.PartitionReferenceIdeal.nD,
    (Cert.Pre_points_at_most_5e18.fn (F := Ideal) (m ((c.tc : Thread Cert.PartitionReferenceIdeal.nD Cert.PartitionReferenceIdeal.τ).loc Cert.PartitionReferenceIdeal.main_arg0)) (m ((c.tc : Thread Cert.PartitionReferenceIdeal.nD Cert.PartitionReferenceIdeal.τ).loc Cert.PartitionReferenceIdeal.main_arg1))) = (fun _ => 1#1)

def Pre_Matching (m : (ℓ : Loc Cert.Matching.nD Cert.Matching.τ Cert.Matching.sig) → Buf (Elt Bits) ℓ) : Prop :=
  True

def Pre_MatchingIdeal (m : (ℓ : Loc Cert.MatchingIdeal.nD Cert.MatchingIdeal.τ Cert.MatchingIdeal.sig) → Buf (Elt Ideal) ℓ) : Prop :=
  True

def Pre_MatchingIdeal_patch_scores_at_most_13 [hPre_patch_scores_at_most_13 : Cert.Pre_patch_scores_at_most_13.Facts] (m : (ℓ : Loc Cert.MatchingIdeal.nD Cert.MatchingIdeal.τ Cert.MatchingIdeal.sig) → Buf (Elt Ideal) ℓ) : Prop :=
  ∀ c : Dev Cert.MatchingIdeal.nD,
    (Cert.Pre_patch_scores_at_most_13.fn (F := Ideal) (m ((c.tc : Thread Cert.MatchingIdeal.nD Cert.MatchingIdeal.τ).loc Cert.MatchingIdeal.main_arg0)) (m ((c.tc : Thread Cert.MatchingIdeal.nD Cert.MatchingIdeal.τ).loc Cert.MatchingIdeal.main_arg1)) (m ((c.tc : Thread Cert.MatchingIdeal.nD Cert.MatchingIdeal.τ).loc Cert.MatchingIdeal.main_arg2)) (m ((c.tc : Thread Cert.MatchingIdeal.nD Cert.MatchingIdeal.τ).loc Cert.MatchingIdeal.main_arg3)) (m ((c.tc : Thread Cert.MatchingIdeal.nD Cert.MatchingIdeal.τ).loc Cert.MatchingIdeal.main_arg4)) (m ((c.tc : Thread Cert.MatchingIdeal.nD Cert.MatchingIdeal.τ).loc Cert.MatchingIdeal.main_arg5)) (m ((c.tc : Thread Cert.MatchingIdeal.nD Cert.MatchingIdeal.τ).loc Cert.MatchingIdeal.main_arg6)) (m ((c.tc : Thread Cert.MatchingIdeal.nD Cert.MatchingIdeal.τ).loc Cert.MatchingIdeal.main_arg7)) (m ((c.tc : Thread Cert.MatchingIdeal.nD Cert.MatchingIdeal.τ).loc Cert.MatchingIdeal.main_arg8)) (m ((c.tc : Thread Cert.MatchingIdeal.nD Cert.MatchingIdeal.τ).loc Cert.MatchingIdeal.main_arg9)) (m ((c.tc : Thread Cert.MatchingIdeal.nD Cert.MatchingIdeal.τ).loc Cert.MatchingIdeal.main_arg10))) = (fun _ => 1#1)

def Pre_MatchingReferenceIdeal (m : (ℓ : Loc Cert.MatchingReferenceIdeal.nD Cert.MatchingReferenceIdeal.τ Cert.MatchingReferenceIdeal.sig) → Buf (Elt Ideal) ℓ) : Prop :=
  True

def Pre_MatchingReferenceIdeal_patch_scores_at_most_13 [hPre_patch_scores_at_most_13 : Cert.Pre_patch_scores_at_most_13.Facts] (m : (ℓ : Loc Cert.MatchingReferenceIdeal.nD Cert.MatchingReferenceIdeal.τ Cert.MatchingReferenceIdeal.sig) → Buf (Elt Ideal) ℓ) : Prop :=
  ∀ c : Dev Cert.MatchingReferenceIdeal.nD,
    (Cert.Pre_patch_scores_at_most_13.fn (F := Ideal) (m ((c.tc : Thread Cert.MatchingReferenceIdeal.nD Cert.MatchingReferenceIdeal.τ).loc Cert.MatchingReferenceIdeal.main_arg0)) (m ((c.tc : Thread Cert.MatchingReferenceIdeal.nD Cert.MatchingReferenceIdeal.τ).loc Cert.MatchingReferenceIdeal.main_arg1)) (m ((c.tc : Thread Cert.MatchingReferenceIdeal.nD Cert.MatchingReferenceIdeal.τ).loc Cert.MatchingReferenceIdeal.main_arg2)) (m ((c.tc : Thread Cert.MatchingReferenceIdeal.nD Cert.MatchingReferenceIdeal.τ).loc Cert.MatchingReferenceIdeal.main_arg3)) (m ((c.tc : Thread Cert.MatchingReferenceIdeal.nD Cert.MatchingReferenceIdeal.τ).loc Cert.MatchingReferenceIdeal.main_arg4)) (m ((c.tc : Thread Cert.MatchingReferenceIdeal.nD Cert.MatchingReferenceIdeal.τ).loc Cert.MatchingReferenceIdeal.main_arg5)) (m ((c.tc : Thread Cert.MatchingReferenceIdeal.nD Cert.MatchingReferenceIdeal.τ).loc Cert.MatchingReferenceIdeal.main_arg6)) (m ((c.tc : Thread Cert.MatchingReferenceIdeal.nD Cert.MatchingReferenceIdeal.τ).loc Cert.MatchingReferenceIdeal.main_arg7)) (m ((c.tc : Thread Cert.MatchingReferenceIdeal.nD Cert.MatchingReferenceIdeal.τ).loc Cert.MatchingReferenceIdeal.main_arg8)) (m ((c.tc : Thread Cert.MatchingReferenceIdeal.nD Cert.MatchingReferenceIdeal.τ).loc Cert.MatchingReferenceIdeal.main_arg9)) (m ((c.tc : Thread Cert.MatchingReferenceIdeal.nD Cert.MatchingReferenceIdeal.τ).loc Cert.MatchingReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_at_most_13 [hKernelIdeal : Cert.KernelIdeal.Facts] [hPre_scores_at_most_13 : Cert.Pre_scores_at_most_13.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_at_most_13 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_at_most_13 [hReferenceIdeal : Cert.ReferenceIdeal.Facts] [hPre_scores_at_most_13 : Cert.Pre_scores_at_most_13.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_at_most_13 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Nearest [hNearest : Cert.Nearest.Facts] : Prop :=
  ∀ (m : (ℓ : Loc Cert.Nearest.nD Cert.Nearest.τ Cert.Nearest.sig) → Buf (Elt Bits) ℓ) (g : Dev Cert.Nearest.nD → PrngReg), Pre_Nearest m →
    θ_run (Cert.Nearest.defs (F := Bits)) (onTc (τ := Cert.Nearest.τ) (Cert.Nearest.main (F := Bits))) ⟨m, fun _ => 0, g⟩ (fun r => (∀ c : Dev Cert.Nearest.nD,
      r.2.mem ((c.tc : Thread Cert.Nearest.nD Cert.Nearest.τ).loc Cert.Nearest.main_arg0) = m ((c.tc : Thread Cert.Nearest.nD Cert.Nearest.τ).loc Cert.Nearest.main_arg0)
      ∧ r.2.mem ((c.tc : Thread Cert.Nearest.nD Cert.Nearest.τ).loc Cert.Nearest.main_arg1) = m ((c.tc : Thread Cert.Nearest.nD Cert.Nearest.τ).loc Cert.Nearest.main_arg1))
      ∧ r.2.sem = fun _ => 0)

def quiescent_NearestIdeal [hNearestIdeal : Cert.NearestIdeal.Facts] : Prop :=
  ∀ (m : (ℓ : Loc Cert.NearestIdeal.nD Cert.NearestIdeal.τ Cert.NearestIdeal.sig) → Buf (Elt Ideal) ℓ) (g : Dev Cert.NearestIdeal.nD → PrngReg), Pre_NearestIdeal m →
    θ_run (Cert.NearestIdeal.defs (F := Ideal)) (onTc (τ := Cert.NearestIdeal.τ) (Cert.NearestIdeal.main (F := Ideal))) ⟨m, fun _ => 0, g⟩ (fun r => (∀ c : Dev Cert.NearestIdeal.nD,
      r.2.mem ((c.tc : Thread Cert.NearestIdeal.nD Cert.NearestIdeal.τ).loc Cert.NearestIdeal.main_arg0) = m ((c.tc : Thread Cert.NearestIdeal.nD Cert.NearestIdeal.τ).loc Cert.NearestIdeal.main_arg0)
      ∧ r.2.mem ((c.tc : Thread Cert.NearestIdeal.nD Cert.NearestIdeal.τ).loc Cert.NearestIdeal.main_arg1) = m ((c.tc : Thread Cert.NearestIdeal.nD Cert.NearestIdeal.τ).loc Cert.NearestIdeal.main_arg1))
      ∧ r.2.sem = fun _ => 0)

def quiescent_NearestIdeal_pre_points_at_most_5e18 [hNearestIdeal : Cert.NearestIdeal.Facts] [hPre_points_at_most_5e18 : Cert.Pre_points_at_most_5e18.Facts] : Prop :=
  ∀ (m : (ℓ : Loc Cert.NearestIdeal.nD Cert.NearestIdeal.τ Cert.NearestIdeal.sig) → Buf (Elt Ideal) ℓ) (g : Dev Cert.NearestIdeal.nD → PrngReg), Pre_NearestIdeal_points_at_most_5e18 m →
    θ_run (Cert.NearestIdeal.defs (F := Ideal)) (onTc (τ := Cert.NearestIdeal.τ) (Cert.NearestIdeal.main (F := Ideal))) ⟨m, fun _ => 0, g⟩ (fun r => (∀ c : Dev Cert.NearestIdeal.nD,
      r.2.mem ((c.tc : Thread Cert.NearestIdeal.nD Cert.NearestIdeal.τ).loc Cert.NearestIdeal.main_arg0) = m ((c.tc : Thread Cert.NearestIdeal.nD Cert.NearestIdeal.τ).loc Cert.NearestIdeal.main_arg0)
      ∧ r.2.mem ((c.tc : Thread Cert.NearestIdeal.nD Cert.NearestIdeal.τ).loc Cert.NearestIdeal.main_arg1) = m ((c.tc : Thread Cert.NearestIdeal.nD Cert.NearestIdeal.τ).loc Cert.NearestIdeal.main_arg1))
      ∧ r.2.sem = fun _ => 0)

def quiescent_NearestReferenceIdeal [hNearestReferenceIdeal : Cert.NearestReferenceIdeal.Facts] : Prop :=
  ∀ (m : (ℓ : Loc Cert.NearestReferenceIdeal.nD Cert.NearestReferenceIdeal.τ Cert.NearestReferenceIdeal.sig) → Buf (Elt Ideal) ℓ) (g : Dev Cert.NearestReferenceIdeal.nD → PrngReg), Pre_NearestReferenceIdeal m →
    θ_run (Cert.NearestReferenceIdeal.defs (F := Ideal)) (onTc (τ := Cert.NearestReferenceIdeal.τ) (Cert.NearestReferenceIdeal.main (F := Ideal))) ⟨m, fun _ => 0, g⟩ (fun r => (∀ c : Dev Cert.NearestReferenceIdeal.nD,
      r.2.mem ((c.tc : Thread Cert.NearestReferenceIdeal.nD Cert.NearestReferenceIdeal.τ).loc Cert.NearestReferenceIdeal.main_arg0) = m ((c.tc : Thread Cert.NearestReferenceIdeal.nD Cert.NearestReferenceIdeal.τ).loc Cert.NearestReferenceIdeal.main_arg0)
      ∧ r.2.mem ((c.tc : Thread Cert.NearestReferenceIdeal.nD Cert.NearestReferenceIdeal.τ).loc Cert.NearestReferenceIdeal.main_arg1) = m ((c.tc : Thread Cert.NearestReferenceIdeal.nD Cert.NearestReferenceIdeal.τ).loc Cert.NearestReferenceIdeal.main_arg1))
      ∧ r.2.sem = fun _ => 0)

def quiescent_NearestReferenceIdeal_pre_points_at_most_5e18 [hNearestReferenceIdeal : Cert.NearestReferenceIdeal.Facts] [hPre_points_at_most_5e18 : Cert.Pre_points_at_most_5e18.Facts] : Prop :=
  ∀ (m : (ℓ : Loc Cert.NearestReferenceIdeal.nD Cert.NearestReferenceIdeal.τ Cert.NearestReferenceIdeal.sig) → Buf (Elt Ideal) ℓ) (g : Dev Cert.NearestReferenceIdeal.nD → PrngReg), Pre_NearestReferenceIdeal_points_at_most_5e18 m →
    θ_run (Cert.NearestReferenceIdeal.defs (F := Ideal)) (onTc (τ := Cert.NearestReferenceIdeal.τ) (Cert.NearestReferenceIdeal.main (F := Ideal))) ⟨m, fun _ => 0, g⟩ (fun r => (∀ c : Dev Cert.NearestReferenceIdeal.nD,
      r.2.mem ((c.tc : Thread Cert.NearestReferenceIdeal.nD Cert.NearestReferenceIdeal.τ).loc Cert.NearestReferenceIdeal.main_arg0) = m ((c.tc : Thread Cert.NearestReferenceIdeal.nD Cert.NearestReferenceIdeal.τ).loc Cert.NearestReferenceIdeal.main_arg0)
      ∧ r.2.mem ((c.tc : Thread Cert.NearestReferenceIdeal.nD Cert.NearestReferenceIdeal.τ).loc Cert.NearestReferenceIdeal.main_arg1) = m ((c.tc : Thread Cert.NearestReferenceIdeal.nD Cert.NearestReferenceIdeal.τ).loc Cert.NearestReferenceIdeal.main_arg1))
      ∧ r.2.sem = fun _ => 0)

def quiescent_Partition [hPartition : Cert.Partition.Facts] : Prop :=
  ∀ (m : (ℓ : Loc Cert.Partition.nD Cert.Partition.τ Cert.Partition.sig) → Buf (Elt Bits) ℓ) (g : Dev Cert.Partition.nD → PrngReg), Pre_Partition m →
    θ_run (Cert.Partition.defs (F := Bits)) (onTc (τ := Cert.Partition.τ) (Cert.Partition.main (F := Bits))) ⟨m, fun _ => 0, g⟩ (fun r => (∀ c : Dev Cert.Partition.nD,
      r.2.mem ((c.tc : Thread Cert.Partition.nD Cert.Partition.τ).loc Cert.Partition.main_arg0) = m ((c.tc : Thread Cert.Partition.nD Cert.Partition.τ).loc Cert.Partition.main_arg0)
      ∧ r.2.mem ((c.tc : Thread Cert.Partition.nD Cert.Partition.τ).loc Cert.Partition.main_arg1) = m ((c.tc : Thread Cert.Partition.nD Cert.Partition.τ).loc Cert.Partition.main_arg1))
      ∧ r.2.sem = fun _ => 0)

def quiescent_PartitionIdeal [hPartitionIdeal : Cert.PartitionIdeal.Facts] : Prop :=
  ∀ (m : (ℓ : Loc Cert.PartitionIdeal.nD Cert.PartitionIdeal.τ Cert.PartitionIdeal.sig) → Buf (Elt Ideal) ℓ) (g : Dev Cert.PartitionIdeal.nD → PrngReg), Pre_PartitionIdeal m →
    θ_run (Cert.PartitionIdeal.defs (F := Ideal)) (onTc (τ := Cert.PartitionIdeal.τ) (Cert.PartitionIdeal.main (F := Ideal))) ⟨m, fun _ => 0, g⟩ (fun r => (∀ c : Dev Cert.PartitionIdeal.nD,
      r.2.mem ((c.tc : Thread Cert.PartitionIdeal.nD Cert.PartitionIdeal.τ).loc Cert.PartitionIdeal.main_arg0) = m ((c.tc : Thread Cert.PartitionIdeal.nD Cert.PartitionIdeal.τ).loc Cert.PartitionIdeal.main_arg0)
      ∧ r.2.mem ((c.tc : Thread Cert.PartitionIdeal.nD Cert.PartitionIdeal.τ).loc Cert.PartitionIdeal.main_arg1) = m ((c.tc : Thread Cert.PartitionIdeal.nD Cert.PartitionIdeal.τ).loc Cert.PartitionIdeal.main_arg1))
      ∧ r.2.sem = fun _ => 0)

def quiescent_PartitionIdeal_pre_points_at_most_5e18 [hPartitionIdeal : Cert.PartitionIdeal.Facts] [hPre_points_at_most_5e18 : Cert.Pre_points_at_most_5e18.Facts] : Prop :=
  ∀ (m : (ℓ : Loc Cert.PartitionIdeal.nD Cert.PartitionIdeal.τ Cert.PartitionIdeal.sig) → Buf (Elt Ideal) ℓ) (g : Dev Cert.PartitionIdeal.nD → PrngReg), Pre_PartitionIdeal_points_at_most_5e18 m →
    θ_run (Cert.PartitionIdeal.defs (F := Ideal)) (onTc (τ := Cert.PartitionIdeal.τ) (Cert.PartitionIdeal.main (F := Ideal))) ⟨m, fun _ => 0, g⟩ (fun r => (∀ c : Dev Cert.PartitionIdeal.nD,
      r.2.mem ((c.tc : Thread Cert.PartitionIdeal.nD Cert.PartitionIdeal.τ).loc Cert.PartitionIdeal.main_arg0) = m ((c.tc : Thread Cert.PartitionIdeal.nD Cert.PartitionIdeal.τ).loc Cert.PartitionIdeal.main_arg0)
      ∧ r.2.mem ((c.tc : Thread Cert.PartitionIdeal.nD Cert.PartitionIdeal.τ).loc Cert.PartitionIdeal.main_arg1) = m ((c.tc : Thread Cert.PartitionIdeal.nD Cert.PartitionIdeal.τ).loc Cert.PartitionIdeal.main_arg1))
      ∧ r.2.sem = fun _ => 0)

def quiescent_PartitionReferenceIdeal [hPartitionReferenceIdeal : Cert.PartitionReferenceIdeal.Facts] : Prop :=
  ∀ (m : (ℓ : Loc Cert.PartitionReferenceIdeal.nD Cert.PartitionReferenceIdeal.τ Cert.PartitionReferenceIdeal.sig) → Buf (Elt Ideal) ℓ) (g : Dev Cert.PartitionReferenceIdeal.nD → PrngReg), Pre_PartitionReferenceIdeal m →
    θ_run (Cert.PartitionReferenceIdeal.defs (F := Ideal)) (onTc (τ := Cert.PartitionReferenceIdeal.τ) (Cert.PartitionReferenceIdeal.main (F := Ideal))) ⟨m, fun _ => 0, g⟩ (fun r => (∀ c : Dev Cert.PartitionReferenceIdeal.nD,
      r.2.mem ((c.tc : Thread Cert.PartitionReferenceIdeal.nD Cert.PartitionReferenceIdeal.τ).loc Cert.PartitionReferenceIdeal.main_arg0) = m ((c.tc : Thread Cert.PartitionReferenceIdeal.nD Cert.PartitionReferenceIdeal.τ).loc Cert.PartitionReferenceIdeal.main_arg0)
      ∧ r.2.mem ((c.tc : Thread Cert.PartitionReferenceIdeal.nD Cert.PartitionReferenceIdeal.τ).loc Cert.PartitionReferenceIdeal.main_arg1) = m ((c.tc : Thread Cert.PartitionReferenceIdeal.nD Cert.PartitionReferenceIdeal.τ).loc Cert.PartitionReferenceIdeal.main_arg1))
      ∧ r.2.sem = fun _ => 0)

def quiescent_PartitionReferenceIdeal_pre_points_at_most_5e18 [hPartitionReferenceIdeal : Cert.PartitionReferenceIdeal.Facts] [hPre_points_at_most_5e18 : Cert.Pre_points_at_most_5e18.Facts] : Prop :=
  ∀ (m : (ℓ : Loc Cert.PartitionReferenceIdeal.nD Cert.PartitionReferenceIdeal.τ Cert.PartitionReferenceIdeal.sig) → Buf (Elt Ideal) ℓ) (g : Dev Cert.PartitionReferenceIdeal.nD → PrngReg), Pre_PartitionReferenceIdeal_points_at_most_5e18 m →
    θ_run (Cert.PartitionReferenceIdeal.defs (F := Ideal)) (onTc (τ := Cert.PartitionReferenceIdeal.τ) (Cert.PartitionReferenceIdeal.main (F := Ideal))) ⟨m, fun _ => 0, g⟩ (fun r => (∀ c : Dev Cert.PartitionReferenceIdeal.nD,
      r.2.mem ((c.tc : Thread Cert.PartitionReferenceIdeal.nD Cert.PartitionReferenceIdeal.τ).loc Cert.PartitionReferenceIdeal.main_arg0) = m ((c.tc : Thread Cert.PartitionReferenceIdeal.nD Cert.PartitionReferenceIdeal.τ).loc Cert.PartitionReferenceIdeal.main_arg0)
      ∧ r.2.mem ((c.tc : Thread Cert.PartitionReferenceIdeal.nD Cert.PartitionReferenceIdeal.τ).loc Cert.PartitionReferenceIdeal.main_arg1) = m ((c.tc : Thread Cert.PartitionReferenceIdeal.nD Cert.PartitionReferenceIdeal.τ).loc Cert.PartitionReferenceIdeal.main_arg1))
      ∧ r.2.sem = fun _ => 0)

def quiescent_Matching [hMatching : Cert.Matching.Facts] : Prop :=
  ∀ (m : (ℓ : Loc Cert.Matching.nD Cert.Matching.τ Cert.Matching.sig) → Buf (Elt Bits) ℓ) (g : Dev Cert.Matching.nD → PrngReg), Pre_Matching m →
    θ_run (Cert.Matching.defs (F := Bits)) (onTc (τ := Cert.Matching.τ) (Cert.Matching.main (F := Bits))) ⟨m, fun _ => 0, g⟩ (fun r => (∀ c : Dev Cert.Matching.nD,
      r.2.mem ((c.tc : Thread Cert.Matching.nD Cert.Matching.τ).loc Cert.Matching.main_arg0) = m ((c.tc : Thread Cert.Matching.nD Cert.Matching.τ).loc Cert.Matching.main_arg0)
      ∧ r.2.mem ((c.tc : Thread Cert.Matching.nD Cert.Matching.τ).loc Cert.Matching.main_arg1) = m ((c.tc : Thread Cert.Matching.nD Cert.Matching.τ).loc Cert.Matching.main_arg1)
      ∧ r.2.mem ((c.tc : Thread Cert.Matching.nD Cert.Matching.τ).loc Cert.Matching.main_arg2) = m ((c.tc : Thread Cert.Matching.nD Cert.Matching.τ).loc Cert.Matching.main_arg2)
      ∧ r.2.mem ((c.tc : Thread Cert.Matching.nD Cert.Matching.τ).loc Cert.Matching.main_arg3) = m ((c.tc : Thread Cert.Matching.nD Cert.Matching.τ).loc Cert.Matching.main_arg3)
      ∧ r.2.mem ((c.tc : Thread Cert.Matching.nD Cert.Matching.τ).loc Cert.Matching.main_arg4) = m ((c.tc : Thread Cert.Matching.nD Cert.Matching.τ).loc Cert.Matching.main_arg4)
      ∧ r.2.mem ((c.tc : Thread Cert.Matching.nD Cert.Matching.τ).loc Cert.Matching.main_arg5) = m ((c.tc : Thread Cert.Matching.nD Cert.Matching.τ).loc Cert.Matching.main_arg5)
      ∧ r.2.mem ((c.tc : Thread Cert.Matching.nD Cert.Matching.τ).loc Cert.Matching.main_arg6) = m ((c.tc : Thread Cert.Matching.nD Cert.Matching.τ).loc Cert.Matching.main_arg6)
      ∧ r.2.mem ((c.tc : Thread Cert.Matching.nD Cert.Matching.τ).loc Cert.Matching.main_arg7) = m ((c.tc : Thread Cert.Matching.nD Cert.Matching.τ).loc Cert.Matching.main_arg7)
      ∧ r.2.mem ((c.tc : Thread Cert.Matching.nD Cert.Matching.τ).loc Cert.Matching.main_arg8) = m ((c.tc : Thread Cert.Matching.nD Cert.Matching.τ).loc Cert.Matching.main_arg8)
      ∧ r.2.mem ((c.tc : Thread Cert.Matching.nD Cert.Matching.τ).loc Cert.Matching.main_arg9) = m ((c.tc : Thread Cert.Matching.nD Cert.Matching.τ).loc Cert.Matching.main_arg9)
      ∧ r.2.mem ((c.tc : Thread Cert.Matching.nD Cert.Matching.τ).loc Cert.Matching.main_arg10) = m ((c.tc : Thread Cert.Matching.nD Cert.Matching.τ).loc Cert.Matching.main_arg10))
      ∧ r.2.sem = fun _ => 0)

def quiescent_MatchingIdeal [hMatchingIdeal : Cert.MatchingIdeal.Facts] : Prop :=
  ∀ (m : (ℓ : Loc Cert.MatchingIdeal.nD Cert.MatchingIdeal.τ Cert.MatchingIdeal.sig) → Buf (Elt Ideal) ℓ) (g : Dev Cert.MatchingIdeal.nD → PrngReg), Pre_MatchingIdeal m →
    θ_run (Cert.MatchingIdeal.defs (F := Ideal)) (onTc (τ := Cert.MatchingIdeal.τ) (Cert.MatchingIdeal.main (F := Ideal))) ⟨m, fun _ => 0, g⟩ (fun r => (∀ c : Dev Cert.MatchingIdeal.nD,
      r.2.mem ((c.tc : Thread Cert.MatchingIdeal.nD Cert.MatchingIdeal.τ).loc Cert.MatchingIdeal.main_arg0) = m ((c.tc : Thread Cert.MatchingIdeal.nD Cert.MatchingIdeal.τ).loc Cert.MatchingIdeal.main_arg0)
      ∧ r.2.mem ((c.tc : Thread Cert.MatchingIdeal.nD Cert.MatchingIdeal.τ).loc Cert.MatchingIdeal.main_arg1) = m ((c.tc : Thread Cert.MatchingIdeal.nD Cert.MatchingIdeal.τ).loc Cert.MatchingIdeal.main_arg1)
      ∧ r.2.mem ((c.tc : Thread Cert.MatchingIdeal.nD Cert.MatchingIdeal.τ).loc Cert.MatchingIdeal.main_arg2) = m ((c.tc : Thread Cert.MatchingIdeal.nD Cert.MatchingIdeal.τ).loc Cert.MatchingIdeal.main_arg2)
      ∧ r.2.mem ((c.tc : Thread Cert.MatchingIdeal.nD Cert.MatchingIdeal.τ).loc Cert.MatchingIdeal.main_arg3) = m ((c.tc : Thread Cert.MatchingIdeal.nD Cert.MatchingIdeal.τ).loc Cert.MatchingIdeal.main_arg3)
      ∧ r.2.mem ((c.tc : Thread Cert.MatchingIdeal.nD Cert.MatchingIdeal.τ).loc Cert.MatchingIdeal.main_arg4) = m ((c.tc : Thread Cert.MatchingIdeal.nD Cert.MatchingIdeal.τ).loc Cert.MatchingIdeal.main_arg4)
      ∧ r.2.mem ((c.tc : Thread Cert.MatchingIdeal.nD Cert.MatchingIdeal.τ).loc Cert.MatchingIdeal.main_arg5) = m ((c.tc : Thread Cert.MatchingIdeal.nD Cert.MatchingIdeal.τ).loc Cert.MatchingIdeal.main_arg5)
      ∧ r.2.mem ((c.tc : Thread Cert.MatchingIdeal.nD Cert.MatchingIdeal.τ).loc Cert.MatchingIdeal.main_arg6) = m ((c.tc : Thread Cert.MatchingIdeal.nD Cert.MatchingIdeal.τ).loc Cert.MatchingIdeal.main_arg6)
      ∧ r.2.mem ((c.tc : Thread Cert.MatchingIdeal.nD Cert.MatchingIdeal.τ).loc Cert.MatchingIdeal.main_arg7) = m ((c.tc : Thread Cert.MatchingIdeal.nD Cert.MatchingIdeal.τ).loc Cert.MatchingIdeal.main_arg7)
      ∧ r.2.mem ((c.tc : Thread Cert.MatchingIdeal.nD Cert.MatchingIdeal.τ).loc Cert.MatchingIdeal.main_arg8) = m ((c.tc : Thread Cert.MatchingIdeal.nD Cert.MatchingIdeal.τ).loc Cert.MatchingIdeal.main_arg8)
      ∧ r.2.mem ((c.tc : Thread Cert.MatchingIdeal.nD Cert.MatchingIdeal.τ).loc Cert.MatchingIdeal.main_arg9) = m ((c.tc : Thread Cert.MatchingIdeal.nD Cert.MatchingIdeal.τ).loc Cert.MatchingIdeal.main_arg9)
      ∧ r.2.mem ((c.tc : Thread Cert.MatchingIdeal.nD Cert.MatchingIdeal.τ).loc Cert.MatchingIdeal.main_arg10) = m ((c.tc : Thread Cert.MatchingIdeal.nD Cert.MatchingIdeal.τ).loc Cert.MatchingIdeal.main_arg10))
      ∧ r.2.sem = fun _ => 0)

def quiescent_MatchingIdeal_pre_patch_scores_at_most_13 [hMatchingIdeal : Cert.MatchingIdeal.Facts] [hPre_patch_scores_at_most_13 : Cert.Pre_patch_scores_at_most_13.Facts] : Prop :=
  ∀ (m : (ℓ : Loc Cert.MatchingIdeal.nD Cert.MatchingIdeal.τ Cert.MatchingIdeal.sig) → Buf (Elt Ideal) ℓ) (g : Dev Cert.MatchingIdeal.nD → PrngReg), Pre_MatchingIdeal_patch_scores_at_most_13 m →
    θ_run (Cert.MatchingIdeal.defs (F := Ideal)) (onTc (τ := Cert.MatchingIdeal.τ) (Cert.MatchingIdeal.main (F := Ideal))) ⟨m, fun _ => 0, g⟩ (fun r => (∀ c : Dev Cert.MatchingIdeal.nD,
      r.2.mem ((c.tc : Thread Cert.MatchingIdeal.nD Cert.MatchingIdeal.τ).loc Cert.MatchingIdeal.main_arg0) = m ((c.tc : Thread Cert.MatchingIdeal.nD Cert.MatchingIdeal.τ).loc Cert.MatchingIdeal.main_arg0)
      ∧ r.2.mem ((c.tc : Thread Cert.MatchingIdeal.nD Cert.MatchingIdeal.τ).loc Cert.MatchingIdeal.main_arg1) = m ((c.tc : Thread Cert.MatchingIdeal.nD Cert.MatchingIdeal.τ).loc Cert.MatchingIdeal.main_arg1)
      ∧ r.2.mem ((c.tc : Thread Cert.MatchingIdeal.nD Cert.MatchingIdeal.τ).loc Cert.MatchingIdeal.main_arg2) = m ((c.tc : Thread Cert.MatchingIdeal.nD Cert.MatchingIdeal.τ).loc Cert.MatchingIdeal.main_arg2)
      ∧ r.2.mem ((c.tc : Thread Cert.MatchingIdeal.nD Cert.MatchingIdeal.τ).loc Cert.MatchingIdeal.main_arg3) = m ((c.tc : Thread Cert.MatchingIdeal.nD Cert.MatchingIdeal.τ).loc Cert.MatchingIdeal.main_arg3)
      ∧ r.2.mem ((c.tc : Thread Cert.MatchingIdeal.nD Cert.MatchingIdeal.τ).loc Cert.MatchingIdeal.main_arg4) = m ((c.tc : Thread Cert.MatchingIdeal.nD Cert.MatchingIdeal.τ).loc Cert.MatchingIdeal.main_arg4)
      ∧ r.2.mem ((c.tc : Thread Cert.MatchingIdeal.nD Cert.MatchingIdeal.τ).loc Cert.MatchingIdeal.main_arg5) = m ((c.tc : Thread Cert.MatchingIdeal.nD Cert.MatchingIdeal.τ).loc Cert.MatchingIdeal.main_arg5)
      ∧ r.2.mem ((c.tc : Thread Cert.MatchingIdeal.nD Cert.MatchingIdeal.τ).loc Cert.MatchingIdeal.main_arg6) = m ((c.tc : Thread Cert.MatchingIdeal.nD Cert.MatchingIdeal.τ).loc Cert.MatchingIdeal.main_arg6)
      ∧ r.2.mem ((c.tc : Thread Cert.MatchingIdeal.nD Cert.MatchingIdeal.τ).loc Cert.MatchingIdeal.main_arg7) = m ((c.tc : Thread Cert.MatchingIdeal.nD Cert.MatchingIdeal.τ).loc Cert.MatchingIdeal.main_arg7)
      ∧ r.2.mem ((c.tc : Thread Cert.MatchingIdeal.nD Cert.MatchingIdeal.τ).loc Cert.MatchingIdeal.main_arg8) = m ((c.tc : Thread Cert.MatchingIdeal.nD Cert.MatchingIdeal.τ).loc Cert.MatchingIdeal.main_arg8)
      ∧ r.2.mem ((c.tc : Thread Cert.MatchingIdeal.nD Cert.MatchingIdeal.τ).loc Cert.MatchingIdeal.main_arg9) = m ((c.tc : Thread Cert.MatchingIdeal.nD Cert.MatchingIdeal.τ).loc Cert.MatchingIdeal.main_arg9)
      ∧ r.2.mem ((c.tc : Thread Cert.MatchingIdeal.nD Cert.MatchingIdeal.τ).loc Cert.MatchingIdeal.main_arg10) = m ((c.tc : Thread Cert.MatchingIdeal.nD Cert.MatchingIdeal.τ).loc Cert.MatchingIdeal.main_arg10))
      ∧ r.2.sem = fun _ => 0)

def quiescent_MatchingReferenceIdeal [hMatchingReferenceIdeal : Cert.MatchingReferenceIdeal.Facts] : Prop :=
  ∀ (m : (ℓ : Loc Cert.MatchingReferenceIdeal.nD Cert.MatchingReferenceIdeal.τ Cert.MatchingReferenceIdeal.sig) → Buf (Elt Ideal) ℓ) (g : Dev Cert.MatchingReferenceIdeal.nD → PrngReg), Pre_MatchingReferenceIdeal m →
    θ_run (Cert.MatchingReferenceIdeal.defs (F := Ideal)) (onTc (τ := Cert.MatchingReferenceIdeal.τ) (Cert.MatchingReferenceIdeal.main (F := Ideal))) ⟨m, fun _ => 0, g⟩ (fun r => (∀ c : Dev Cert.MatchingReferenceIdeal.nD,
      r.2.mem ((c.tc : Thread Cert.MatchingReferenceIdeal.nD Cert.MatchingReferenceIdeal.τ).loc Cert.MatchingReferenceIdeal.main_arg0) = m ((c.tc : Thread Cert.MatchingReferenceIdeal.nD Cert.MatchingReferenceIdeal.τ).loc Cert.MatchingReferenceIdeal.main_arg0)
      ∧ r.2.mem ((c.tc : Thread Cert.MatchingReferenceIdeal.nD Cert.MatchingReferenceIdeal.τ).loc Cert.MatchingReferenceIdeal.main_arg1) = m ((c.tc : Thread Cert.MatchingReferenceIdeal.nD Cert.MatchingReferenceIdeal.τ).loc Cert.MatchingReferenceIdeal.main_arg1)
      ∧ r.2.mem ((c.tc : Thread Cert.MatchingReferenceIdeal.nD Cert.MatchingReferenceIdeal.τ).loc Cert.MatchingReferenceIdeal.main_arg2) = m ((c.tc : Thread Cert.MatchingReferenceIdeal.nD Cert.MatchingReferenceIdeal.τ).loc Cert.MatchingReferenceIdeal.main_arg2)
      ∧ r.2.mem ((c.tc : Thread Cert.MatchingReferenceIdeal.nD Cert.MatchingReferenceIdeal.τ).loc Cert.MatchingReferenceIdeal.main_arg3) = m ((c.tc : Thread Cert.MatchingReferenceIdeal.nD Cert.MatchingReferenceIdeal.τ).loc Cert.MatchingReferenceIdeal.main_arg3)
      ∧ r.2.mem ((c.tc : Thread Cert.MatchingReferenceIdeal.nD Cert.MatchingReferenceIdeal.τ).loc Cert.MatchingReferenceIdeal.main_arg4) = m ((c.tc : Thread Cert.MatchingReferenceIdeal.nD Cert.MatchingReferenceIdeal.τ).loc Cert.MatchingReferenceIdeal.main_arg4)
      ∧ r.2.mem ((c.tc : Thread Cert.MatchingReferenceIdeal.nD Cert.MatchingReferenceIdeal.τ).loc Cert.MatchingReferenceIdeal.main_arg5) = m ((c.tc : Thread Cert.MatchingReferenceIdeal.nD Cert.MatchingReferenceIdeal.τ).loc Cert.MatchingReferenceIdeal.main_arg5)
      ∧ r.2.mem ((c.tc : Thread Cert.MatchingReferenceIdeal.nD Cert.MatchingReferenceIdeal.τ).loc Cert.MatchingReferenceIdeal.main_arg6) = m ((c.tc : Thread Cert.MatchingReferenceIdeal.nD Cert.MatchingReferenceIdeal.τ).loc Cert.MatchingReferenceIdeal.main_arg6)
      ∧ r.2.mem ((c.tc : Thread Cert.MatchingReferenceIdeal.nD Cert.MatchingReferenceIdeal.τ).loc Cert.MatchingReferenceIdeal.main_arg7) = m ((c.tc : Thread Cert.MatchingReferenceIdeal.nD Cert.MatchingReferenceIdeal.τ).loc Cert.MatchingReferenceIdeal.main_arg7)
      ∧ r.2.mem ((c.tc : Thread Cert.MatchingReferenceIdeal.nD Cert.MatchingReferenceIdeal.τ).loc Cert.MatchingReferenceIdeal.main_arg8) = m ((c.tc : Thread Cert.MatchingReferenceIdeal.nD Cert.MatchingReferenceIdeal.τ).loc Cert.MatchingReferenceIdeal.main_arg8)
      ∧ r.2.mem ((c.tc : Thread Cert.MatchingReferenceIdeal.nD Cert.MatchingReferenceIdeal.τ).loc Cert.MatchingReferenceIdeal.main_arg9) = m ((c.tc : Thread Cert.MatchingReferenceIdeal.nD Cert.MatchingReferenceIdeal.τ).loc Cert.MatchingReferenceIdeal.main_arg9)
      ∧ r.2.mem ((c.tc : Thread Cert.MatchingReferenceIdeal.nD Cert.MatchingReferenceIdeal.τ).loc Cert.MatchingReferenceIdeal.main_arg10) = m ((c.tc : Thread Cert.MatchingReferenceIdeal.nD Cert.MatchingReferenceIdeal.τ).loc Cert.MatchingReferenceIdeal.main_arg10))
      ∧ r.2.sem = fun _ => 0)

def quiescent_MatchingReferenceIdeal_pre_patch_scores_at_most_13 [hMatchingReferenceIdeal : Cert.MatchingReferenceIdeal.Facts] [hPre_patch_scores_at_most_13 : Cert.Pre_patch_scores_at_most_13.Facts] : Prop :=
  ∀ (m : (ℓ : Loc Cert.MatchingReferenceIdeal.nD Cert.MatchingReferenceIdeal.τ Cert.MatchingReferenceIdeal.sig) → Buf (Elt Ideal) ℓ) (g : Dev Cert.MatchingReferenceIdeal.nD → PrngReg), Pre_MatchingReferenceIdeal_patch_scores_at_most_13 m →
    θ_run (Cert.MatchingReferenceIdeal.defs (F := Ideal)) (onTc (τ := Cert.MatchingReferenceIdeal.τ) (Cert.MatchingReferenceIdeal.main (F := Ideal))) ⟨m, fun _ => 0, g⟩ (fun r => (∀ c : Dev Cert.MatchingReferenceIdeal.nD,
      r.2.mem ((c.tc : Thread Cert.MatchingReferenceIdeal.nD Cert.MatchingReferenceIdeal.τ).loc Cert.MatchingReferenceIdeal.main_arg0) = m ((c.tc : Thread Cert.MatchingReferenceIdeal.nD Cert.MatchingReferenceIdeal.τ).loc Cert.MatchingReferenceIdeal.main_arg0)
      ∧ r.2.mem ((c.tc : Thread Cert.MatchingReferenceIdeal.nD Cert.MatchingReferenceIdeal.τ).loc Cert.MatchingReferenceIdeal.main_arg1) = m ((c.tc : Thread Cert.MatchingReferenceIdeal.nD Cert.MatchingReferenceIdeal.τ).loc Cert.MatchingReferenceIdeal.main_arg1)
      ∧ r.2.mem ((c.tc : Thread Cert.MatchingReferenceIdeal.nD Cert.MatchingReferenceIdeal.τ).loc Cert.MatchingReferenceIdeal.main_arg2) = m ((c.tc : Thread Cert.MatchingReferenceIdeal.nD Cert.MatchingReferenceIdeal.τ).loc Cert.MatchingReferenceIdeal.main_arg2)
      ∧ r.2.mem ((c.tc : Thread Cert.MatchingReferenceIdeal.nD Cert.MatchingReferenceIdeal.τ).loc Cert.MatchingReferenceIdeal.main_arg3) = m ((c.tc : Thread Cert.MatchingReferenceIdeal.nD Cert.MatchingReferenceIdeal.τ).loc Cert.MatchingReferenceIdeal.main_arg3)
      ∧ r.2.mem ((c.tc : Thread Cert.MatchingReferenceIdeal.nD Cert.MatchingReferenceIdeal.τ).loc Cert.MatchingReferenceIdeal.main_arg4) = m ((c.tc : Thread Cert.MatchingReferenceIdeal.nD Cert.MatchingReferenceIdeal.τ).loc Cert.MatchingReferenceIdeal.main_arg4)
      ∧ r.2.mem ((c.tc : Thread Cert.MatchingReferenceIdeal.nD Cert.MatchingReferenceIdeal.τ).loc Cert.MatchingReferenceIdeal.main_arg5) = m ((c.tc : Thread Cert.MatchingReferenceIdeal.nD Cert.MatchingReferenceIdeal.τ).loc Cert.MatchingReferenceIdeal.main_arg5)
      ∧ r.2.mem ((c.tc : Thread Cert.MatchingReferenceIdeal.nD Cert.MatchingReferenceIdeal.τ).loc Cert.MatchingReferenceIdeal.main_arg6) = m ((c.tc : Thread Cert.MatchingReferenceIdeal.nD Cert.MatchingReferenceIdeal.τ).loc Cert.MatchingReferenceIdeal.main_arg6)
      ∧ r.2.mem ((c.tc : Thread Cert.MatchingReferenceIdeal.nD Cert.MatchingReferenceIdeal.τ).loc Cert.MatchingReferenceIdeal.main_arg7) = m ((c.tc : Thread Cert.MatchingReferenceIdeal.nD Cert.MatchingReferenceIdeal.τ).loc Cert.MatchingReferenceIdeal.main_arg7)
      ∧ r.2.mem ((c.tc : Thread Cert.MatchingReferenceIdeal.nD Cert.MatchingReferenceIdeal.τ).loc Cert.MatchingReferenceIdeal.main_arg8) = m ((c.tc : Thread Cert.MatchingReferenceIdeal.nD Cert.MatchingReferenceIdeal.τ).loc Cert.MatchingReferenceIdeal.main_arg8)
      ∧ r.2.mem ((c.tc : Thread Cert.MatchingReferenceIdeal.nD Cert.MatchingReferenceIdeal.τ).loc Cert.MatchingReferenceIdeal.main_arg9) = m ((c.tc : Thread Cert.MatchingReferenceIdeal.nD Cert.MatchingReferenceIdeal.τ).loc Cert.MatchingReferenceIdeal.main_arg9)
      ∧ r.2.mem ((c.tc : Thread Cert.MatchingReferenceIdeal.nD Cert.MatchingReferenceIdeal.τ).loc Cert.MatchingReferenceIdeal.main_arg10) = m ((c.tc : Thread Cert.MatchingReferenceIdeal.nD Cert.MatchingReferenceIdeal.τ).loc Cert.MatchingReferenceIdeal.main_arg10))
      ∧ r.2.sem = fun _ => 0)

def preserves_Kernel_KernelIdeal : Prop :=
  IdealRules.named_const.Statement Cert.KernelIdeal.κ "unmask" .f32 0x461C4000#32 ⊤
  ∧ IdealRules.named_const.Statement Cert.KernelIdeal.κ "mask" .f32 0xC61C4000#32 ⊥

def algebraic_KernelIdeal_ReferenceIdeal_pre_scores_at_most_13 [hKernelIdeal : Cert.KernelIdeal.Facts] [hReferenceIdeal : Cert.ReferenceIdeal.Facts] [hPre_scores_at_most_13 : Cert.Pre_scores_at_most_13.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_at_most_13 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Nearest_NearestIdeal : Prop :=
  True

def algebraic_NearestIdeal_NearestReferenceIdeal_pre_points_at_most_5e18 [hNearestIdeal : Cert.NearestIdeal.Facts] [hNearestReferenceIdeal : Cert.NearestReferenceIdeal.Facts] [hPre_points_at_most_5e18 : Cert.Pre_points_at_most_5e18.Facts] : Prop :=
  ∀ (m : (ℓ : Loc Cert.NearestIdeal.nD Cert.NearestIdeal.τ Cert.NearestIdeal.sig) → Buf (Elt Ideal) ℓ) (g : Dev Cert.NearestIdeal.nD → PrngReg)
    (m' : (ℓ : Loc Cert.NearestReferenceIdeal.nD Cert.NearestReferenceIdeal.τ Cert.NearestReferenceIdeal.sig) → Buf (Elt Ideal) ℓ) (g' : Dev Cert.NearestReferenceIdeal.nD → PrngReg), Pre_NearestIdeal_points_at_most_5e18 m →
    (∀ c : Dev Cert.NearestIdeal.nD,
      m' ((c.tc : Thread Cert.NearestReferenceIdeal.nD Cert.NearestReferenceIdeal.τ).loc Cert.NearestReferenceIdeal.main_arg0) = m ((c.tc : Thread Cert.NearestIdeal.nD Cert.NearestIdeal.τ).loc Cert.NearestIdeal.main_arg0)
      ∧ m' ((c.tc : Thread Cert.NearestReferenceIdeal.nD Cert.NearestReferenceIdeal.τ).loc Cert.NearestReferenceIdeal.main_arg1) = m ((c.tc : Thread Cert.NearestIdeal.nD Cert.NearestIdeal.τ).loc Cert.NearestIdeal.main_arg1)) →
    ∃ (v0 : (c : Dev Cert.NearestIdeal.nD) → Buf (Elt Ideal) ((c.tc : Thread Cert.NearestIdeal.nD Cert.NearestIdeal.τ).loc Cert.NearestIdeal.main_v1_0)) (v1 : (c : Dev Cert.NearestIdeal.nD) → Buf (Elt Ideal) ((c.tc : Thread Cert.NearestIdeal.nD Cert.NearestIdeal.τ).loc Cert.NearestIdeal.main_v1_1)) (v2 : (c : Dev Cert.NearestIdeal.nD) → Buf (Elt Ideal) ((c.tc : Thread Cert.NearestIdeal.nD Cert.NearestIdeal.τ).loc Cert.NearestIdeal.main_v1_2)),
      θ_run (Cert.NearestIdeal.defs (F := Ideal)) (onTc (τ := Cert.NearestIdeal.τ) (Cert.NearestIdeal.main (F := Ideal))) ⟨m, fun _ => 0, g⟩ (fun r => ∀ c : Dev Cert.NearestIdeal.nD,
          r.2.mem ((c.tc : Thread Cert.NearestIdeal.nD Cert.NearestIdeal.τ).loc Cert.NearestIdeal.main_v1_0) = v0 c
          ∧ r.2.mem ((c.tc : Thread Cert.NearestIdeal.nD Cert.NearestIdeal.τ).loc Cert.NearestIdeal.main_v1_1) = v1 c
          ∧ r.2.mem ((c.tc : Thread Cert.NearestIdeal.nD Cert.NearestIdeal.τ).loc Cert.NearestIdeal.main_v1_2) = v2 c
          ∧ r.2.mem ((c.tc : Thread Cert.NearestIdeal.nD Cert.NearestIdeal.τ).loc Cert.NearestIdeal.main_arg0) = m ((c.tc : Thread Cert.NearestIdeal.nD Cert.NearestIdeal.τ).loc Cert.NearestIdeal.main_arg0)
          ∧ r.2.mem ((c.tc : Thread Cert.NearestIdeal.nD Cert.NearestIdeal.τ).loc Cert.NearestIdeal.main_arg1) = m ((c.tc : Thread Cert.NearestIdeal.nD Cert.NearestIdeal.τ).loc Cert.NearestIdeal.main_arg1))
      ∧ θ_run (Cert.NearestReferenceIdeal.defs (F := Ideal)) (onTc (τ := Cert.NearestReferenceIdeal.τ) (Cert.NearestReferenceIdeal.main (F := Ideal))) ⟨m', fun _ => 0, g'⟩ (fun r => ∀ c : Dev Cert.NearestReferenceIdeal.nD,
          r.2.mem ((c.tc : Thread Cert.NearestReferenceIdeal.nD Cert.NearestReferenceIdeal.τ).loc Cert.NearestReferenceIdeal.main_indices) = v0 c
          ∧ r.2.mem ((c.tc : Thread Cert.NearestReferenceIdeal.nD Cert.NearestReferenceIdeal.τ).loc Cert.NearestReferenceIdeal.main_v20) = v1 c
          ∧ r.2.mem ((c.tc : Thread Cert.NearestReferenceIdeal.nD Cert.NearestReferenceIdeal.τ).loc Cert.NearestReferenceIdeal.main_v22) = v2 c
          ∧ r.2.mem ((c.tc : Thread Cert.NearestReferenceIdeal.nD Cert.NearestReferenceIdeal.τ).loc Cert.NearestReferenceIdeal.main_arg0) = m' ((c.tc : Thread Cert.NearestReferenceIdeal.nD Cert.NearestReferenceIdeal.τ).loc Cert.NearestReferenceIdeal.main_arg0)
          ∧ r.2.mem ((c.tc : Thread Cert.NearestReferenceIdeal.nD Cert.NearestReferenceIdeal.τ).loc Cert.NearestReferenceIdeal.main_arg1) = m' ((c.tc : Thread Cert.NearestReferenceIdeal.nD Cert.NearestReferenceIdeal.τ).loc Cert.NearestReferenceIdeal.main_arg1))

def preserves_Partition_PartitionIdeal : Prop :=
  True

def algebraic_PartitionIdeal_PartitionReferenceIdeal_pre_points_at_most_5e18 [hPartitionIdeal : Cert.PartitionIdeal.Facts] [hPartitionReferenceIdeal : Cert.PartitionReferenceIdeal.Facts] [hPre_points_at_most_5e18 : Cert.Pre_points_at_most_5e18.Facts] : Prop :=
  ∀ (m : (ℓ : Loc Cert.PartitionIdeal.nD Cert.PartitionIdeal.τ Cert.PartitionIdeal.sig) → Buf (Elt Ideal) ℓ) (g : Dev Cert.PartitionIdeal.nD → PrngReg)
    (m' : (ℓ : Loc Cert.PartitionReferenceIdeal.nD Cert.PartitionReferenceIdeal.τ Cert.PartitionReferenceIdeal.sig) → Buf (Elt Ideal) ℓ) (g' : Dev Cert.PartitionReferenceIdeal.nD → PrngReg), Pre_PartitionIdeal_points_at_most_5e18 m →
    (∀ c : Dev Cert.PartitionIdeal.nD,
      m' ((c.tc : Thread Cert.PartitionReferenceIdeal.nD Cert.PartitionReferenceIdeal.τ).loc Cert.PartitionReferenceIdeal.main_arg0) = m ((c.tc : Thread Cert.PartitionIdeal.nD Cert.PartitionIdeal.τ).loc Cert.PartitionIdeal.main_arg0)
      ∧ m' ((c.tc : Thread Cert.PartitionReferenceIdeal.nD Cert.PartitionReferenceIdeal.τ).loc Cert.PartitionReferenceIdeal.main_arg1) = m ((c.tc : Thread Cert.PartitionIdeal.nD Cert.PartitionIdeal.τ).loc Cert.PartitionIdeal.main_arg1)) →
    ∃ (v0 : (c : Dev Cert.PartitionIdeal.nD) → Buf (Elt Ideal) ((c.tc : Thread Cert.PartitionIdeal.nD Cert.PartitionIdeal.τ).loc Cert.PartitionIdeal.main_v7)) (v1 : (c : Dev Cert.PartitionIdeal.nD) → Buf (Elt Ideal) ((c.tc : Thread Cert.PartitionIdeal.nD Cert.PartitionIdeal.τ).loc Cert.PartitionIdeal.main_v16)) (v2 : (c : Dev Cert.PartitionIdeal.nD) → Buf (Elt Ideal) ((c.tc : Thread Cert.PartitionIdeal.nD Cert.PartitionIdeal.τ).loc Cert.PartitionIdeal.main_v1_0)) (v3 : (c : Dev Cert.PartitionIdeal.nD) → Buf (Elt Ideal) ((c.tc : Thread Cert.PartitionIdeal.nD Cert.PartitionIdeal.τ).loc Cert.PartitionIdeal.main_v27)),
      θ_run (Cert.PartitionIdeal.defs (F := Ideal)) (onTc (τ := Cert.PartitionIdeal.τ) (Cert.PartitionIdeal.main (F := Ideal))) ⟨m, fun _ => 0, g⟩ (fun r => ∀ c : Dev Cert.PartitionIdeal.nD,
          r.2.mem ((c.tc : Thread Cert.PartitionIdeal.nD Cert.PartitionIdeal.τ).loc Cert.PartitionIdeal.main_v7) = v0 c
          ∧ r.2.mem ((c.tc : Thread Cert.PartitionIdeal.nD Cert.PartitionIdeal.τ).loc Cert.PartitionIdeal.main_v16) = v1 c
          ∧ r.2.mem ((c.tc : Thread Cert.PartitionIdeal.nD Cert.PartitionIdeal.τ).loc Cert.PartitionIdeal.main_v1_0) = v2 c
          ∧ r.2.mem ((c.tc : Thread Cert.PartitionIdeal.nD Cert.PartitionIdeal.τ).loc Cert.PartitionIdeal.main_v27) = v3 c
          ∧ r.2.mem ((c.tc : Thread Cert.PartitionIdeal.nD Cert.PartitionIdeal.τ).loc Cert.PartitionIdeal.main_arg0) = m ((c.tc : Thread Cert.PartitionIdeal.nD Cert.PartitionIdeal.τ).loc Cert.PartitionIdeal.main_arg0)
          ∧ r.2.mem ((c.tc : Thread Cert.PartitionIdeal.nD Cert.PartitionIdeal.τ).loc Cert.PartitionIdeal.main_arg1) = m ((c.tc : Thread Cert.PartitionIdeal.nD Cert.PartitionIdeal.τ).loc Cert.PartitionIdeal.main_arg1))
      ∧ θ_run (Cert.PartitionReferenceIdeal.defs (F := Ideal)) (onTc (τ := Cert.PartitionReferenceIdeal.τ) (Cert.PartitionReferenceIdeal.main (F := Ideal))) ⟨m', fun _ => 0, g'⟩ (fun r => ∀ c : Dev Cert.PartitionReferenceIdeal.nD,
          r.2.mem ((c.tc : Thread Cert.PartitionReferenceIdeal.nD Cert.PartitionReferenceIdeal.τ).loc Cert.PartitionReferenceIdeal.main_v7) = v0 c
          ∧ r.2.mem ((c.tc : Thread Cert.PartitionReferenceIdeal.nD Cert.PartitionReferenceIdeal.τ).loc Cert.PartitionReferenceIdeal.main_v16) = v1 c
          ∧ r.2.mem ((c.tc : Thread Cert.PartitionReferenceIdeal.nD Cert.PartitionReferenceIdeal.τ).loc Cert.PartitionReferenceIdeal.main_indices) = v2 c
          ∧ r.2.mem ((c.tc : Thread Cert.PartitionReferenceIdeal.nD Cert.PartitionReferenceIdeal.τ).loc Cert.PartitionReferenceIdeal.main_v29) = v3 c
          ∧ r.2.mem ((c.tc : Thread Cert.PartitionReferenceIdeal.nD Cert.PartitionReferenceIdeal.τ).loc Cert.PartitionReferenceIdeal.main_arg0) = m' ((c.tc : Thread Cert.PartitionReferenceIdeal.nD Cert.PartitionReferenceIdeal.τ).loc Cert.PartitionReferenceIdeal.main_arg0)
          ∧ r.2.mem ((c.tc : Thread Cert.PartitionReferenceIdeal.nD Cert.PartitionReferenceIdeal.τ).loc Cert.PartitionReferenceIdeal.main_arg1) = m' ((c.tc : Thread Cert.PartitionReferenceIdeal.nD Cert.PartitionReferenceIdeal.τ).loc Cert.PartitionReferenceIdeal.main_arg1))

def preserves_Matching_MatchingIdeal : Prop :=
  IdealRules.named_const.Statement Cert.MatchingIdeal.κ "unmask" .f32 0x461C4000#32 ⊤
  ∧ IdealRules.named_const.Statement Cert.MatchingIdeal.κ "mask" .f32 0xC61C4000#32 ⊥

def algebraic_MatchingIdeal_MatchingReferenceIdeal_pre_patch_scores_at_most_13 [hMatchingIdeal : Cert.MatchingIdeal.Facts] [hMatchingReferenceIdeal : Cert.MatchingReferenceIdeal.Facts] [hPre_patch_scores_at_most_13 : Cert.Pre_patch_scores_at_most_13.Facts] : Prop :=
  ∀ (m : (ℓ : Loc Cert.MatchingIdeal.nD Cert.MatchingIdeal.τ Cert.MatchingIdeal.sig) → Buf (Elt Ideal) ℓ) (g : Dev Cert.MatchingIdeal.nD → PrngReg)
    (m' : (ℓ : Loc Cert.MatchingReferenceIdeal.nD Cert.MatchingReferenceIdeal.τ Cert.MatchingReferenceIdeal.sig) → Buf (Elt Ideal) ℓ) (g' : Dev Cert.MatchingReferenceIdeal.nD → PrngReg), Pre_MatchingIdeal_patch_scores_at_most_13 m →
    (∀ c : Dev Cert.MatchingIdeal.nD,
      m' ((c.tc : Thread Cert.MatchingReferenceIdeal.nD Cert.MatchingReferenceIdeal.τ).loc Cert.MatchingReferenceIdeal.main_arg0) = m ((c.tc : Thread Cert.MatchingIdeal.nD Cert.MatchingIdeal.τ).loc Cert.MatchingIdeal.main_arg0)
      ∧ m' ((c.tc : Thread Cert.MatchingReferenceIdeal.nD Cert.MatchingReferenceIdeal.τ).loc Cert.MatchingReferenceIdeal.main_arg1) = m ((c.tc : Thread Cert.MatchingIdeal.nD Cert.MatchingIdeal.τ).loc Cert.MatchingIdeal.main_arg1)
      ∧ m' ((c.tc : Thread Cert.MatchingReferenceIdeal.nD Cert.MatchingReferenceIdeal.τ).loc Cert.MatchingReferenceIdeal.main_arg2) = m ((c.tc : Thread Cert.MatchingIdeal.nD Cert.MatchingIdeal.τ).loc Cert.MatchingIdeal.main_arg2)
      ∧ m' ((c.tc : Thread Cert.MatchingReferenceIdeal.nD Cert.MatchingReferenceIdeal.τ).loc Cert.MatchingReferenceIdeal.main_arg3) = m ((c.tc : Thread Cert.MatchingIdeal.nD Cert.MatchingIdeal.τ).loc Cert.MatchingIdeal.main_arg3)
      ∧ m' ((c.tc : Thread Cert.MatchingReferenceIdeal.nD Cert.MatchingReferenceIdeal.τ).loc Cert.MatchingReferenceIdeal.main_arg4) = m ((c.tc : Thread Cert.MatchingIdeal.nD Cert.MatchingIdeal.τ).loc Cert.MatchingIdeal.main_arg4)
      ∧ m' ((c.tc : Thread Cert.MatchingReferenceIdeal.nD Cert.MatchingReferenceIdeal.τ).loc Cert.MatchingReferenceIdeal.main_arg5) = m ((c.tc : Thread Cert.MatchingIdeal.nD Cert.MatchingIdeal.τ).loc Cert.MatchingIdeal.main_arg5)
      ∧ m' ((c.tc : Thread Cert.MatchingReferenceIdeal.nD Cert.MatchingReferenceIdeal.τ).loc Cert.MatchingReferenceIdeal.main_arg6) = m ((c.tc : Thread Cert.MatchingIdeal.nD Cert.MatchingIdeal.τ).loc Cert.MatchingIdeal.main_arg6)
      ∧ m' ((c.tc : Thread Cert.MatchingReferenceIdeal.nD Cert.MatchingReferenceIdeal.τ).loc Cert.MatchingReferenceIdeal.main_arg7) = m ((c.tc : Thread Cert.MatchingIdeal.nD Cert.MatchingIdeal.τ).loc Cert.MatchingIdeal.main_arg7)
      ∧ m' ((c.tc : Thread Cert.MatchingReferenceIdeal.nD Cert.MatchingReferenceIdeal.τ).loc Cert.MatchingReferenceIdeal.main_arg8) = m ((c.tc : Thread Cert.MatchingIdeal.nD Cert.MatchingIdeal.τ).loc Cert.MatchingIdeal.main_arg8)
      ∧ m' ((c.tc : Thread Cert.MatchingReferenceIdeal.nD Cert.MatchingReferenceIdeal.τ).loc Cert.MatchingReferenceIdeal.main_arg9) = m ((c.tc : Thread Cert.MatchingIdeal.nD Cert.MatchingIdeal.τ).loc Cert.MatchingIdeal.main_arg9)
      ∧ m' ((c.tc : Thread Cert.MatchingReferenceIdeal.nD Cert.MatchingReferenceIdeal.τ).loc Cert.MatchingReferenceIdeal.main_arg10) = m ((c.tc : Thread Cert.MatchingIdeal.nD Cert.MatchingIdeal.τ).loc Cert.MatchingIdeal.main_arg10)) →
    ∃ (v0 : (c : Dev Cert.MatchingIdeal.nD) → Buf (Elt Ideal) ((c.tc : Thread Cert.MatchingIdeal.nD Cert.MatchingIdeal.τ).loc Cert.MatchingIdeal.main_v100)),
      θ_run (Cert.MatchingIdeal.defs (F := Ideal)) (onTc (τ := Cert.MatchingIdeal.τ) (Cert.MatchingIdeal.main (F := Ideal))) ⟨m, fun _ => 0, g⟩ (fun r => ∀ c : Dev Cert.MatchingIdeal.nD,
          r.2.mem ((c.tc : Thread Cert.MatchingIdeal.nD Cert.MatchingIdeal.τ).loc Cert.MatchingIdeal.main_v100) = v0 c
          ∧ r.2.mem ((c.tc : Thread Cert.MatchingIdeal.nD Cert.MatchingIdeal.τ).loc Cert.MatchingIdeal.main_arg0) = m ((c.tc : Thread Cert.MatchingIdeal.nD Cert.MatchingIdeal.τ).loc Cert.MatchingIdeal.main_arg0)
          ∧ r.2.mem ((c.tc : Thread Cert.MatchingIdeal.nD Cert.MatchingIdeal.τ).loc Cert.MatchingIdeal.main_arg1) = m ((c.tc : Thread Cert.MatchingIdeal.nD Cert.MatchingIdeal.τ).loc Cert.MatchingIdeal.main_arg1)
          ∧ r.2.mem ((c.tc : Thread Cert.MatchingIdeal.nD Cert.MatchingIdeal.τ).loc Cert.MatchingIdeal.main_arg2) = m ((c.tc : Thread Cert.MatchingIdeal.nD Cert.MatchingIdeal.τ).loc Cert.MatchingIdeal.main_arg2)
          ∧ r.2.mem ((c.tc : Thread Cert.MatchingIdeal.nD Cert.MatchingIdeal.τ).loc Cert.MatchingIdeal.main_arg3) = m ((c.tc : Thread Cert.MatchingIdeal.nD Cert.MatchingIdeal.τ).loc Cert.MatchingIdeal.main_arg3)
          ∧ r.2.mem ((c.tc : Thread Cert.MatchingIdeal.nD Cert.MatchingIdeal.τ).loc Cert.MatchingIdeal.main_arg4) = m ((c.tc : Thread Cert.MatchingIdeal.nD Cert.MatchingIdeal.τ).loc Cert.MatchingIdeal.main_arg4)
          ∧ r.2.mem ((c.tc : Thread Cert.MatchingIdeal.nD Cert.MatchingIdeal.τ).loc Cert.MatchingIdeal.main_arg5) = m ((c.tc : Thread Cert.MatchingIdeal.nD Cert.MatchingIdeal.τ).loc Cert.MatchingIdeal.main_arg5)
          ∧ r.2.mem ((c.tc : Thread Cert.MatchingIdeal.nD Cert.MatchingIdeal.τ).loc Cert.MatchingIdeal.main_arg6) = m ((c.tc : Thread Cert.MatchingIdeal.nD Cert.MatchingIdeal.τ).loc Cert.MatchingIdeal.main_arg6)
          ∧ r.2.mem ((c.tc : Thread Cert.MatchingIdeal.nD Cert.MatchingIdeal.τ).loc Cert.MatchingIdeal.main_arg7) = m ((c.tc : Thread Cert.MatchingIdeal.nD Cert.MatchingIdeal.τ).loc Cert.MatchingIdeal.main_arg7)
          ∧ r.2.mem ((c.tc : Thread Cert.MatchingIdeal.nD Cert.MatchingIdeal.τ).loc Cert.MatchingIdeal.main_arg8) = m ((c.tc : Thread Cert.MatchingIdeal.nD Cert.MatchingIdeal.τ).loc Cert.MatchingIdeal.main_arg8)
          ∧ r.2.mem ((c.tc : Thread Cert.MatchingIdeal.nD Cert.MatchingIdeal.τ).loc Cert.MatchingIdeal.main_arg9) = m ((c.tc : Thread Cert.MatchingIdeal.nD Cert.MatchingIdeal.τ).loc Cert.MatchingIdeal.main_arg9)
          ∧ r.2.mem ((c.tc : Thread Cert.MatchingIdeal.nD Cert.MatchingIdeal.τ).loc Cert.MatchingIdeal.main_arg10) = m ((c.tc : Thread Cert.MatchingIdeal.nD Cert.MatchingIdeal.τ).loc Cert.MatchingIdeal.main_arg10))
      ∧ θ_run (Cert.MatchingReferenceIdeal.defs (F := Ideal)) (onTc (τ := Cert.MatchingReferenceIdeal.τ) (Cert.MatchingReferenceIdeal.main (F := Ideal))) ⟨m', fun _ => 0, g'⟩ (fun r => ∀ c : Dev Cert.MatchingReferenceIdeal.nD,
          r.2.mem ((c.tc : Thread Cert.MatchingReferenceIdeal.nD Cert.MatchingReferenceIdeal.τ).loc Cert.MatchingReferenceIdeal.main_v147) = v0 c
          ∧ r.2.mem ((c.tc : Thread Cert.MatchingReferenceIdeal.nD Cert.MatchingReferenceIdeal.τ).loc Cert.MatchingReferenceIdeal.main_arg0) = m' ((c.tc : Thread Cert.MatchingReferenceIdeal.nD Cert.MatchingReferenceIdeal.τ).loc Cert.MatchingReferenceIdeal.main_arg0)
          ∧ r.2.mem ((c.tc : Thread Cert.MatchingReferenceIdeal.nD Cert.MatchingReferenceIdeal.τ).loc Cert.MatchingReferenceIdeal.main_arg1) = m' ((c.tc : Thread Cert.MatchingReferenceIdeal.nD Cert.MatchingReferenceIdeal.τ).loc Cert.MatchingReferenceIdeal.main_arg1)
          ∧ r.2.mem ((c.tc : Thread Cert.MatchingReferenceIdeal.nD Cert.MatchingReferenceIdeal.τ).loc Cert.MatchingReferenceIdeal.main_arg2) = m' ((c.tc : Thread Cert.MatchingReferenceIdeal.nD Cert.MatchingReferenceIdeal.τ).loc Cert.MatchingReferenceIdeal.main_arg2)
          ∧ r.2.mem ((c.tc : Thread Cert.MatchingReferenceIdeal.nD Cert.MatchingReferenceIdeal.τ).loc Cert.MatchingReferenceIdeal.main_arg3) = m' ((c.tc : Thread Cert.MatchingReferenceIdeal.nD Cert.MatchingReferenceIdeal.τ).loc Cert.MatchingReferenceIdeal.main_arg3)
          ∧ r.2.mem ((c.tc : Thread Cert.MatchingReferenceIdeal.nD Cert.MatchingReferenceIdeal.τ).loc Cert.MatchingReferenceIdeal.main_arg4) = m' ((c.tc : Thread Cert.MatchingReferenceIdeal.nD Cert.MatchingReferenceIdeal.τ).loc Cert.MatchingReferenceIdeal.main_arg4)
          ∧ r.2.mem ((c.tc : Thread Cert.MatchingReferenceIdeal.nD Cert.MatchingReferenceIdeal.τ).loc Cert.MatchingReferenceIdeal.main_arg5) = m' ((c.tc : Thread Cert.MatchingReferenceIdeal.nD Cert.MatchingReferenceIdeal.τ).loc Cert.MatchingReferenceIdeal.main_arg5)
          ∧ r.2.mem ((c.tc : Thread Cert.MatchingReferenceIdeal.nD Cert.MatchingReferenceIdeal.τ).loc Cert.MatchingReferenceIdeal.main_arg6) = m' ((c.tc : Thread Cert.MatchingReferenceIdeal.nD Cert.MatchingReferenceIdeal.τ).loc Cert.MatchingReferenceIdeal.main_arg6)
          ∧ r.2.mem ((c.tc : Thread Cert.MatchingReferenceIdeal.nD Cert.MatchingReferenceIdeal.τ).loc Cert.MatchingReferenceIdeal.main_arg7) = m' ((c.tc : Thread Cert.MatchingReferenceIdeal.nD Cert.MatchingReferenceIdeal.τ).loc Cert.MatchingReferenceIdeal.main_arg7)
          ∧ r.2.mem ((c.tc : Thread Cert.MatchingReferenceIdeal.nD Cert.MatchingReferenceIdeal.τ).loc Cert.MatchingReferenceIdeal.main_arg8) = m' ((c.tc : Thread Cert.MatchingReferenceIdeal.nD Cert.MatchingReferenceIdeal.τ).loc Cert.MatchingReferenceIdeal.main_arg8)
          ∧ r.2.mem ((c.tc : Thread Cert.MatchingReferenceIdeal.nD Cert.MatchingReferenceIdeal.τ).loc Cert.MatchingReferenceIdeal.main_arg9) = m' ((c.tc : Thread Cert.MatchingReferenceIdeal.nD Cert.MatchingReferenceIdeal.τ).loc Cert.MatchingReferenceIdeal.main_arg9)
          ∧ r.2.mem ((c.tc : Thread Cert.MatchingReferenceIdeal.nD Cert.MatchingReferenceIdeal.τ).loc Cert.MatchingReferenceIdeal.main_arg10) = m' ((c.tc : Thread Cert.MatchingReferenceIdeal.nD Cert.MatchingReferenceIdeal.τ).loc Cert.MatchingReferenceIdeal.main_arg10))

def Claim : Prop :=
  ∃ (hKernel : Cert.Kernel.Facts) (hKernelIdeal : Cert.KernelIdeal.Facts) (hReferenceIdeal : Cert.ReferenceIdeal.Facts) (hNearest : Cert.Nearest.Facts) (hNearestIdeal : Cert.NearestIdeal.Facts) (hNearestReferenceIdeal : Cert.NearestReferenceIdeal.Facts) (hPartition : Cert.Partition.Facts) (hPartitionIdeal : Cert.PartitionIdeal.Facts) (hPartitionReferenceIdeal : Cert.PartitionReferenceIdeal.Facts) (hMatching : Cert.Matching.Facts) (hMatchingIdeal : Cert.MatchingIdeal.Facts) (hMatchingReferenceIdeal : Cert.MatchingReferenceIdeal.Facts) (hPre_scores_at_most_13 : Cert.Pre_scores_at_most_13.Facts) (hPre_points_at_most_5e18 : Cert.Pre_points_at_most_5e18.Facts) (hPre_patch_scores_at_most_13 : Cert.Pre_patch_scores_at_most_13.Facts),
    quiescent_Kernel (hKernel := hKernel)
    ∧ quiescent_KernelIdeal (hKernelIdeal := hKernelIdeal)
    ∧ quiescent_KernelIdeal_pre_scores_at_most_13 (hKernelIdeal := hKernelIdeal) (hPre_scores_at_most_13 := hPre_scores_at_most_13)
    ∧ quiescent_ReferenceIdeal (hReferenceIdeal := hReferenceIdeal)
    ∧ quiescent_ReferenceIdeal_pre_scores_at_most_13 (hReferenceIdeal := hReferenceIdeal) (hPre_scores_at_most_13 := hPre_scores_at_most_13)
    ∧ quiescent_Nearest (hNearest := hNearest)
    ∧ quiescent_NearestIdeal (hNearestIdeal := hNearestIdeal)
    ∧ quiescent_NearestIdeal_pre_points_at_most_5e18 (hNearestIdeal := hNearestIdeal) (hPre_points_at_most_5e18 := hPre_points_at_most_5e18)
    ∧ quiescent_NearestReferenceIdeal (hNearestReferenceIdeal := hNearestReferenceIdeal)
    ∧ quiescent_NearestReferenceIdeal_pre_points_at_most_5e18 (hNearestReferenceIdeal := hNearestReferenceIdeal) (hPre_points_at_most_5e18 := hPre_points_at_most_5e18)
    ∧ quiescent_Partition (hPartition := hPartition)
    ∧ quiescent_PartitionIdeal (hPartitionIdeal := hPartitionIdeal)
    ∧ quiescent_PartitionIdeal_pre_points_at_most_5e18 (hPartitionIdeal := hPartitionIdeal) (hPre_points_at_most_5e18 := hPre_points_at_most_5e18)
    ∧ quiescent_PartitionReferenceIdeal (hPartitionReferenceIdeal := hPartitionReferenceIdeal)
    ∧ quiescent_PartitionReferenceIdeal_pre_points_at_most_5e18 (hPartitionReferenceIdeal := hPartitionReferenceIdeal) (hPre_points_at_most_5e18 := hPre_points_at_most_5e18)
    ∧ quiescent_Matching (hMatching := hMatching)
    ∧ quiescent_MatchingIdeal (hMatchingIdeal := hMatchingIdeal)
    ∧ quiescent_MatchingIdeal_pre_patch_scores_at_most_13 (hMatchingIdeal := hMatchingIdeal) (hPre_patch_scores_at_most_13 := hPre_patch_scores_at_most_13)
    ∧ quiescent_MatchingReferenceIdeal (hMatchingReferenceIdeal := hMatchingReferenceIdeal)
    ∧ quiescent_MatchingReferenceIdeal_pre_patch_scores_at_most_13 (hMatchingReferenceIdeal := hMatchingReferenceIdeal) (hPre_patch_scores_at_most_13 := hPre_patch_scores_at_most_13)
    ∧ preserves_Kernel_KernelIdeal
    ∧ algebraic_KernelIdeal_ReferenceIdeal_pre_scores_at_most_13 (hKernelIdeal := hKernelIdeal) (hReferenceIdeal := hReferenceIdeal) (hPre_scores_at_most_13 := hPre_scores_at_most_13)
    ∧ preserves_Nearest_NearestIdeal
    ∧ algebraic_NearestIdeal_NearestReferenceIdeal_pre_points_at_most_5e18 (hNearestIdeal := hNearestIdeal) (hNearestReferenceIdeal := hNearestReferenceIdeal) (hPre_points_at_most_5e18 := hPre_points_at_most_5e18)
    ∧ preserves_Partition_PartitionIdeal
    ∧ algebraic_PartitionIdeal_PartitionReferenceIdeal_pre_points_at_most_5e18 (hPartitionIdeal := hPartitionIdeal) (hPartitionReferenceIdeal := hPartitionReferenceIdeal) (hPre_points_at_most_5e18 := hPre_points_at_most_5e18)
    ∧ preserves_Matching_MatchingIdeal
    ∧ algebraic_MatchingIdeal_MatchingReferenceIdeal_pre_patch_scores_at_most_13 (hMatchingIdeal := hMatchingIdeal) (hMatchingReferenceIdeal := hMatchingReferenceIdeal) (hPre_patch_scores_at_most_13 := hPre_patch_scores_at_most_13)
-- ==== Pre_patch_scores_at_most_13.lean ====
abbrev S20000x256 : Shape := ⟨2, ![20000, 256]⟩
abbrev S256x256 : Shape := ⟨2, ![256, 256]⟩
abbrev S256 : Shape := ⟨1, ![256]⟩
abbrev S256x64 : Shape := ⟨2, ![256, 64]⟩
abbrev S1 : Shape := ⟨1, ![1]⟩
abbrev S_ : Shape := ⟨0, ![]⟩
abbrev S256x1 : Shape := ⟨2, ![256, 1]⟩
abbrev S1x256 : Shape := ⟨2, ![1, 256]⟩
abbrev S65536 : Shape := ⟨1, ![65536]⟩
abbrev S20001x256 : Shape := ⟨2, ![20001, 256]⟩
abbrev S256x64x1 : Shape := ⟨3, ![256, 64, 1]⟩
abbrev S256x64x256 : Shape := ⟨3, ![256, 64, 256]⟩
abbrev S256x64x64 : Shape := ⟨3, ![256, 64, 64]⟩
abbrev S256x1x64 : Shape := ⟨3, ![256, 1, 64]⟩
abbrev S1x1x1 : Shape := ⟨3, ![1, 1, 1]⟩

class Facts : Prop where
  reducesTo_S256x256_S256_d1 : S256x256.ReducesTo [1] S256
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  bcast_S256x1_S256x256_0_1 : S256x1.BroadcastsInDim S256x256 (![0, 1] : Fin 2 → Fin S256x256.rank)
  transposes_S256x256_S256x256_1_0 : S256x256.Transposes [1, 0] S256x256
  bcast_S_S256x256 : S_.BroadcastsInDim S256x256 (![] : Fin 0 → Fin S256x256.rank)
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  reducesTo_S256x256_S256_d0 : S256x256.ReducesTo [0] S256
  bcast_S_S1x256 : S_.BroadcastsInDim S1x256 (![] : Fin 0 → Fin S1x256.rank)
  shapeCasts_S256x256_S65536 : S256x256.ShapeCasts S65536
  sliceFits_S65536_S256 : S65536.Slices (fun _ => 0) S256
  bcast_S_S256 : S_.BroadcastsInDim S256 (![] : Fin 0 → Fin S256.rank)
  slices_S20000x256_S1x256_0_0 : S20000x256.Slices ![0, 0] S1x256
  concatenates_S20000x256_S1x256_S20001x256_d0 : Shape.Concatenates [S20000x256, S1x256] S20001x256 0
  bcast_S_S256x64 : S_.BroadcastsInDim S256x64 (![] : Fin 0 → Fin S256x64.rank)
  bcast_S256x64_S256x64x1_0_1 : S256x64.BroadcastsInDim S256x64x1 (![0, 1] : Fin 2 → Fin S256x64x1.rank)
  bcast_S256x64_S256x1x64_0_2 : S256x64.BroadcastsInDim S256x1x64 (![0, 2] : Fin 2 → Fin S256x1x64.rank)
  bcast_S256x64x1_S256x64x64_0_1_2 : S256x64x1.BroadcastsInDim S256x64x64 (![0, 1, 2] : Fin 3 → Fin S256x64x64.rank)
  bcast_S256x1x64_S256x64x64_0_1_2 : S256x1x64.BroadcastsInDim S256x64x64 (![0, 1, 2] : Fin 3 → Fin S256x64x64.rank)
  bcast_S_S256x64x64 : S_.BroadcastsInDim S256x64x64 (![] : Fin 0 → Fin S256x64x64.rank)
  bcast_S_S1 : S_.BroadcastsInDim S1 (![] : Fin 0 → Fin S1.rank)
  bcast_S1_S1x1x1_2 : S1.BroadcastsInDim S1x1x1 (![2] : Fin 1 → Fin S1x1x1.rank)
  bcast_S1x1x1_S256x64x64_0_1_2 : S1x1x1.BroadcastsInDim S256x64x64 (![0, 1, 2] : Fin 3 → Fin S256x64x64.rank)
  dot_S256x256_S256x256_S256x256_1_0_0_1_n_n_wf : DotDims.WF S256x256 S256x256 S256x256 [1] [0] [0] [1] [] []
  gather_S256x64_S256x1_S256x64_1_0_n_n_0_1_164_wf : GatherDims.WF S256x64 S256x1 S256x64 [1] [0] [] [0] [] 1 ![1, 64]
  gather_S20001x256_S256x64x1_S256x64x256_2_0_n_n_0_2_1256_wf : GatherDims.WF S20001x256 S256x64x1 S256x64x256 [2] [0] [] [0] [] 2 ![1, 256]
  dot_S256x64x256_S256x64x256_S256x64x64_2_2_1_1_0_0_wf : DotDims.WF S256x64x256 S256x64x256 S256x64x64 [2] [2] [1] [1] [0] [0]

variable [Facts]

def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def gather_S256x64_S256x1_S256x64_1_0_n_n_0_1_164 : GatherDims S256x64 S256x1 S256x64 where
  offsetDims := [1]
  collapsedSliceDims := [0]
  operandBatchingDims := []
  startIndicesBatchingDims := []
  startIndexMap := [0]
  indexVectorDim := 1
  sliceSizes := ![1, 64]
  wf := gather_S256x64_S256x1_S256x64_1_0_n_n_0_1_164_wf
def gather_S20001x256_S256x64x1_S256x64x256_2_0_n_n_0_2_1256 : GatherDims S20001x256 S256x64x1 S256x64x256 where
  offsetDims := [2]
  collapsedSliceDims := [0]
  operandBatchingDims := []
  startIndicesBatchingDims := []
  startIndexMap := [0]
  indexVectorDim := 2
  sliceSizes := ![1, 256]
  wf := gather_S20001x256_S256x64x1_S256x64x256_2_0_n_n_0_2_1256_wf
def dot_S256x64x256_S256x64x256_S256x64x64_2_2_1_1_0_0 : DotDims S256x64x256 S256x64x256 S256x64x64 where
  lhsContracting := [2]
  rhsContracting := [2]
  lhsNonContracting := [1]
  rhsNonContracting := [1]
  lhsBatch := [0]
  rhsBatch := [0]
  wf := dot_S256x64x256_S256x64x256_S256x64x64_2_2_1_1_0_0_wf
def fn_norm {F : FTy → Type} [FloatOps F] (arg0 : FVec F S256x256 .f32) : FVec F S256x1 .f32 :=
  let v0 : FVec F S256x256 .f32 := mulf arg0 arg0
  let cst : FVec F S_ .f32 := constant S_ .f32 0x00000000#32
  let v1 : FVec F S256 .f32 := (fun x v => Host.reduceAdd x v reducesTo_S256x256_S256_d1 h_S_) v0 cst
  let v2 : FVec F S256x1 .f32 := broadcastInDim S256x1 ![0] bcast_S256_S256x1_0 v1
  let v3 : FVec F S256x1 .f32 := Host.sqrt v2
  v3

def fn_where {F : FTy → Type} [FloatOps F] (arg0 : IVec S256x256 1) (arg1 : FVec F S256x256 .f32) (arg2 : FVec F S_ .f32) : FVec F S256x256 .f32 :=
  let v0 : FVec F S_ .f32 := id arg2
  let v1 : FVec F S256x256 .f32 := broadcastInDim S256x256 ![] bcast_S_S256x256 v0
  let v2 : FVec F S256x256 .f32 := select arg0 arg1 v1
  v2

def fn_where_0 {F : FTy → Type} [FloatOps F] (arg0 : IVec S256 1) (arg1 : IVec S256 32) (arg2 : IVec S256 32) : IVec S256 32 :=
  let v0 : IVec S256 32 := select arg0 arg1 arg2
  v0

def fn_floor_divide {F : FTy → Type} [FloatOps F] (arg0 : IVec S256 32) (arg1 : IVec S_ 32) : IVec S256 32 :=
  let v0 : IVec S_ 32 := id arg1
  let v1 : IVec S256 32 := broadcastInDim S256 ![] bcast_S_S256 v0
  let v2 : IVec S256 32 := Host.divsi arg0 v1
  let v3 : IVec S256 32 := signi arg0
  let v4 : IVec S_ 32 := signi v0
  let v5 : IVec S256 32 := broadcastInDim S256 ![] bcast_S_S256 v4
  let v6 : IVec S256 1 := cmpi .ne v3 v5
  let v7 : IVec S256 32 := broadcastInDim S256 ![] bcast_S_S256 v0
  let v8 : IVec S256 32 := Host.remsi arg0 v7
  let c : IVec S_ 32 := constantI S_ 32 0#32
  let v9 : IVec S256 32 := broadcastInDim S256 ![] bcast_S_S256 c
  let v10 : IVec S256 1 := cmpi .ne v8 v9
  let v11 : IVec S256 1 := andi v6 v10
  let c_0 : IVec S_ 32 := constantI S_ 32 1#32
  let v12 : IVec S256 32 := broadcastInDim S256 ![] bcast_S_S256 c_0
  let v13 : IVec S256 32 := subi v2 v12
  let v14 : IVec S256 32 := fn_where_0 (F := F) v11 v13 v2
  v14

def fn_where_1 {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S256 32) (arg1 : IVec S_ 32) : IVec S256 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where_1 (F := F) v1 c_0 v0
  let v3 : IVec S256 32 := broadcastInDim S256 ![] bcast_S_S256 v2
  let v4 : IVec S256 32 := Host.remsi arg0 v3
  let c_1 : IVec S_ 32 := constantI S_ 32 0#32
  let v5 : IVec S256 32 := broadcastInDim S256 ![] bcast_S_S256 c_1
  let v6 : IVec S256 1 := cmpi .ne v4 v5
  let c_2 : IVec S_ 32 := constantI S_ 32 0#32
  let v7 : IVec S256 32 := broadcastInDim S256 ![] bcast_S_S256 c_2
  let v8 : IVec S256 1 := cmpi .slt v4 v7
  let c_3 : IVec S_ 32 := constantI S_ 32 0#32
  let v9 : IVec S_ 1 := cmpi .slt v2 c_3
  let v10 : IVec S256 1 := broadcastInDim S256 ![] bcast_S_S256 v9
  let v11 : IVec S256 1 := cmpi .ne v8 v10
  let v12 : IVec S256 1 := andi v11 v6
  let v13 : IVec S256 32 := broadcastInDim S256 ![] bcast_S_S256 v2
  let v14 : IVec S256 32 := addi v4 v13
  let v15 : IVec S256 32 := select v12 v14 v4
  v15

def fn_part5 {F : FTy → Type} [FloatOps F] (main_arg10 : FVec F S1 .f32) (main_v88 : FVec F S256x64x64 .f32) (main_v91 : IVec S256x64x64 1) (main_v92 : IVec S256x64x64 1) : IVec S256x64x64 1 :=
  let main_v93 : IVec S256x64x64 1 := andi main_v91 main_v92
  let main_v94 : IVec S256x64x64 1 := noti main_v93
  let main_v95 : FVec F S256x64x64 .f32 := Host.absf main_v88
  let main_cst_23 : FVec F S_ .f32 := constant S_ .f32 0x43500000#32
  let main_v96 : FVec F S256x64x64 .f32 := broadcastInDim S256x64x64 ![] bcast_S_S256x64x64 main_cst_23
  let main_v97 : IVec S256x64x64 1 := cmpf .ole main_v95 main_v96
  let main_v98 : IVec S256x64x64 1 := ori main_v94 main_v97
  let main_v99 : FVec F S1 .f32 := Host.absf main_arg10
  let main_cst_24 : FVec F S_ .f32 := constant S_ .f32 0x41500000#32
  let main_v100 : FVec F S1 .f32 := broadcastInDim S1 ![] bcast_S_S1 main_cst_24
  let main_v101 : IVec S1 1 := cmpf .ole main_v99 main_v100
  let main_v102 : IVec S1x1x1 1 := broadcastInDim S1x1x1 ![2] bcast_S1_S1x1x1_2 main_v101
  let main_v103 : IVec S256x64x64 1 := broadcastInDim S256x64x64 ![0, 1, 2] bcast_S1x1x1_S256x64x64_0_1_2 main_v102
  let main_v104 : IVec S256x64x64 1 := andi main_v98 main_v103
  main_v104

def fn_part4 {F : FTy → Type} [FloatOps F] (main_arg1 : FVec F S20000x256 .f32) (main_arg10 : FVec F S1 .f32) (main_v46 : IVec S256x64 32) (main_v53 : IVec S256x64 32) (main_v60 : IVec S256x64 1) (main_v67 : IVec S256x64 1) (main_v70 : FVec F S20001x256 .f32) (main_v72 : FVec F S1x256 .f32) : IVec S256x64x64 1 :=
  let main_v73 : FVec F S20001x256 .f32 := (fun a b => concatenate S20001x256 0 [⟨S20000x256, a⟩, ⟨S1x256, b⟩] concatenates_S20000x256_S1x256_S20001x256_d0) main_arg1 main_v72
  let main_c_19 : IVec S_ 32 := constantI S_ 32 0#32
  let main_v74 : IVec S256x64 32 := broadcastInDim S256x64 ![] bcast_S_S256x64 main_c_19
  let main_v75 : IVec S256x64 1 := cmpi .slt main_v46 main_v74
  let main_c_20 : IVec S_ 32 := constantI S_ 32 20001#32
  let main_v76 : IVec S256x64 32 := broadcastInDim S256x64 ![] bcast_S_S256x64 main_c_20
  let main_v77 : IVec S256x64 32 := addi main_v46 main_v76
  let main_v78 : IVec S256x64 32 := select main_v75 main_v77 main_v46
  let main_v79 : IVec S256x64x1 32 := broadcastInDim S256x64x1 ![0, 1] bcast_S256x64_S256x64x1_0_1 main_v78
  let main_v80 : FVec F S256x64x256 .f32 := (fun x i => Host.gather gather_S20001x256_S256x64x1_S256x64x256_2_0_n_n_0_2_1256 x i) main_v70 main_v79
  let main_c_21 : IVec S_ 32 := constantI S_ 32 0#32
  let main_v81 : IVec S256x64 32 := broadcastInDim S256x64 ![] bcast_S_S256x64 main_c_21
  let main_v82 : IVec S256x64 1 := cmpi .slt main_v53 main_v81
  let main_c_22 : IVec S_ 32 := constantI S_ 32 20001#32
  let main_v83 : IVec S256x64 32 := broadcastInDim S256x64 ![] bcast_S_S256x64 main_c_22
  let main_v84 : IVec S256x64 32 := addi main_v53 main_v83
  let main_v85 : IVec S256x64 32 := select main_v82 main_v84 main_v53
  let main_v86 : IVec S256x64x1 32 := broadcastInDim S256x64x1 ![0, 1] bcast_S256x64_S256x64x1_0_1 main_v85
  let main_v87 : FVec F S256x64x256 .f32 := (fun x i => Host.gather gather_S20001x256_S256x64x1_S256x64x256_2_0_n_n_0_2_1256 x i) main_v73 main_v86
  let main_v88 : FVec F S256x64x64 .f32 := (fun l r => Host.dotGeneral dot_S256x64x256_S256x64x256_S256x64x64_2_2_1_1_0_0 none l r) main_v80 main_v87
  let main_v89 : IVec S256x64x1 1 := broadcastInDim S256x64x1 ![0, 1] bcast_S256x64_S256x64x1_0_1 main_v60
  let main_v90 : IVec S256x1x64 1 := broadcastInDim S256x1x64 ![0, 2] bcast_S256x64_S256x1x64_0_2 main_v67
  let main_v91 : IVec S256x64x64 1 := broadcastInDim S256x64x64 ![0, 1, 2] bcast_S256x64x1_S256x64x64_0_1_2 main_v89
  let main_v92 : IVec S256x64x64 1 := broadcastInDim S256x64x64 ![0, 1, 2] bcast_S256x1x64_S256x64x64_0_1_2 main_v90
  fn_part5 (F := F) main_arg10 main_v88 main_v91 main_v92

def fn_part3 {F : FTy → Type} [FloatOps F] (main_arg0 : FVec F S20000x256 .f32) (main_arg1 : FVec F S20000x256 .f32) (main_arg8 : IVec S256x64 1) (main_arg9 : IVec S256x64 1) (main_arg10 : FVec F S1 .f32) (main_v38 : IVec S256 32) (main_v39 : IVec S256 32) (main_v46 : IVec S256x64 32) (main_v53 : IVec S256x64 32) (main_c_13 : IVec S_ 32) : IVec S256x64x64 1 :=
  let main_v54 : IVec S256 32 := broadcastInDim S256 ![] bcast_S_S256 main_c_13
  let main_v55 : IVec S256 1 := cmpi .slt main_v38 main_v54
  let main_c_14 : IVec S_ 32 := constantI S_ 32 256#32
  let main_v56 : IVec S256 32 := broadcastInDim S256 ![] bcast_S_S256 main_c_14
  let main_v57 : IVec S256 32 := addi main_v38 main_v56
  let main_v58 : IVec S256 32 := select main_v55 main_v57 main_v38
  let main_v59 : IVec S256x1 32 := broadcastInDim S256x1 ![0] bcast_S256_S256x1_0 main_v58
  let main_v60 : IVec S256x64 1 := (fun x i => Host.gather gather_S256x64_S256x1_S256x64_1_0_n_n_0_1_164 x i) main_arg8 main_v59
  let main_c_15 : IVec S_ 32 := constantI S_ 32 0#32
  let main_v61 : IVec S256 32 := broadcastInDim S256 ![] bcast_S_S256 main_c_15
  let main_v62 : IVec S256 1 := cmpi .slt main_v39 main_v61
  let main_c_16 : IVec S_ 32 := constantI S_ 32 256#32
  let main_v63 : IVec S256 32 := broadcastInDim S256 ![] bcast_S_S256 main_c_16
  let main_v64 : IVec S256 32 := addi main_v39 main_v63
  let main_v65 : IVec S256 32 := select main_v62 main_v64 main_v39
  let main_v66 : IVec S256x1 32 := broadcastInDim S256x1 ![0] bcast_S256_S256x1_0 main_v65
  let main_v67 : IVec S256x64 1 := (fun x i => Host.gather gather_S256x64_S256x1_S256x64_1_0_n_n_0_1_164 x i) main_arg9 main_v66
  let main_v68 : FVec F S1x256 .f32 := (extractStridedSlice S1x256 ![0, 0] · slices_S20000x256_S1x256_0_0) main_arg0
  let main_cst_17 : FVec F S_ .f32 := constant S_ .f32 0x00000000#32
  let main_v69 : FVec F S1x256 .f32 := broadcastInDim S1x256 ![] bcast_S_S1x256 main_cst_17
  let main_v70 : FVec F S20001x256 .f32 := (fun a b => concatenate S20001x256 0 [⟨S20000x256, a⟩, ⟨S1x256, b⟩] concatenates_S20000x256_S1x256_S20001x256_d0) main_arg0 main_v69
  let main_v71 : FVec F S1x256 .f32 := (extractStridedSlice S1x256 ![0, 0] · slices_S20000x256_S1x256_0_0) main_arg1
  let main_cst_18 : FVec F S_ .f32 := constant S_ .f32 0x00000000#32
  let main_v72 : FVec F S1x256 .f32 := broadcastInDim S1x256 ![] bcast_S_S1x256 main_cst_18
  fn_part4 (F := F) main_arg1 main_arg10 main_v46 main_v53 main_v60 main_v67 main_v70 main_v72

def fn_part2 {F : FTy → Type} [FloatOps F] (main_arg0 : FVec F S20000x256 .f32) (main_arg1 : FVec F S20000x256 .f32) (main_arg6 : IVec S256x64 32) (main_arg7 : IVec S256x64 32) (main_arg8 : IVec S256x64 1) (main_arg9 : IVec S256x64 1) (main_arg10 : FVec F S1 .f32) (main_v37 : FVec F S65536 .f32) : IVec S256x64x64 1 :=
  let main_indices : IVec S256 32 := (fun x => (Host.topK S256 0 (FloatOps.cmpfTotal .gt) x sliceFits_S65536_S256).2) main_v37
  let main_c : IVec S_ 32 := constantI S_ 32 256#32
  let main_v38 : IVec S256 32 := fn_floor_divide (F := F) main_indices main_c
  let main_c_8 : IVec S_ 32 := constantI S_ 32 256#32
  let main_v39 : IVec S256 32 := fn_remainder (F := F) main_indices main_c_8
  let main_c_9 : IVec S_ 32 := constantI S_ 32 0#32
  let main_v40 : IVec S256 32 := broadcastInDim S256 ![] bcast_S_S256 main_c_9
  let main_v41 : IVec S256 1 := cmpi .slt main_v38 main_v40
  let main_c_10 : IVec S_ 32 := constantI S_ 32 256#32
  let main_v42 : IVec S256 32 := broadcastInDim S256 ![] bcast_S_S256 main_c_10
  let main_v43 : IVec S256 32 := addi main_v38 main_v42
  let main_v44 : IVec S256 32 := select main_v41 main_v43 main_v38
  let main_v45 : IVec S256x1 32 := broadcastInDim S256x1 ![0] bcast_S256_S256x1_0 main_v44
  let main_v46 : IVec S256x64 32 := (fun x i => Host.gather gather_S256x64_S256x1_S256x64_1_0_n_n_0_1_164 x i) main_arg6 main_v45
  let main_c_11 : IVec S_ 32 := constantI S_ 32 0#32
  let main_v47 : IVec S256 32 := broadcastInDim S256 ![] bcast_S_S256 main_c_11
  let main_v48 : IVec S256 1 := cmpi .slt main_v39 main_v47
  let main_c_12 : IVec S_ 32 := constantI S_ 32 256#32
  let main_v49 : IVec S256 32 := broadcastInDim S256 ![] bcast_S_S256 main_c_12
  let main_v50 : IVec S256 32 := addi main_v39 main_v49
  let main_v51 : IVec S256 32 := select main_v48 main_v50 main_v39
  let main_v52 : IVec S256x1 32 := broadcastInDim S256x1 ![0] bcast_S256_S256x1_0 main_v51
  let main_v53 : IVec S256x64 32 := (fun x i => Host.gather gather_S256x64_S256x1_S256x64_1_0_n_n_0_1_164 x i) main_arg7 main_v52
  let main_c_13 : IVec S_ 32 := constantI S_ 32 0#32
  fn_part3 (F := F) main_arg0 main_arg1 main_arg8 main_arg9 main_arg10 main_v38 main_v39 main_v46 main_v53 main_c_13

def fn_part1 {F : FTy → Type} [FloatOps F] (main_arg0 : FVec F S20000x256 .f32) (main_arg1 : FVec F S20000x256 .f32) (main_arg6 : IVec S256x64 32) (main_arg7 : IVec S256x64 32) (main_arg8 : IVec S256x64 1) (main_arg9 : IVec S256x64 1) (main_arg10 : FVec F S1 .f32) (main_v17 : FVec F S256x256 .f32) (main_v18 : IVec S256x1 1) (main_v19 : IVec S1x256 1) : IVec S256x64x64 1 :=
  let main_v20 : IVec S256x256 1 := broadcastInDim S256x256 ![0, 1] bcast_S256x1_S256x256_0_1 main_v18
  let main_v21 : IVec S256x256 1 := broadcastInDim S256x256 ![0, 1] bcast_S1x256_S256x256_0_1 main_v19
  let main_v22 : IVec S256x256 1 := andi main_v20 main_v21
  let main_cst_3 : FVec F S_ .f32 := constant S_ .f32 0x00000000#32
  let main_v23 : FVec F S256x256 .f32 := fn_where (F := F) main_v22 main_v17 main_cst_3
  let main_cst_4 : FVec F S_ .f32 := constant S_ .f32 0x00000000#32
  let main_v24 : FVec F S256 .f32 := (fun x v => Host.reduceAdd x v reducesTo_S256x256_S256_d1 h_S_) main_v23 main_cst_4
  let main_v25 : FVec F S256x1 .f32 := broadcastInDim S256x1 ![0] bcast_S256_S256x1_0 main_v24
  let main_cst_5 : FVec F S_ .f32 := constant S_ .f32 0x2B8CBCCC#32
  let main_v26 : FVec F S256x1 .f32 := broadcastInDim S256x1 ![] bcast_S_S256x1 main_cst_5
  let main_v27 : FVec F S256x1 .f32 := addf main_v25 main_v26
  let main_v28 : FVec F S256x256 .f32 := broadcastInDim S256x256 ![0, 1] bcast_S256x1_S256x256_0_1 main_v27
  let main_v29 : FVec F S256x256 .f32 := Host.divf main_v23 main_v28
  let main_cst_6 : FVec F S_ .f32 := constant S_ .f32 0x00000000#32
  let main_v30 : FVec F S256 .f32 := (fun x v => Host.reduceAdd x v reducesTo_S256x256_S256_d0 h_S_) main_v23 main_cst_6
  let main_v31 : FVec F S1x256 .f32 := broadcastInDim S1x256 ![1] bcast_S256_S1x256_1 main_v30
  let main_cst_7 : FVec F S_ .f32 := constant S_ .f32 0x2B8CBCCC#32
  let main_v32 : FVec F S1x256 .f32 := broadcastInDim S1x256 ![] bcast_S_S1x256 main_cst_7
  let main_v33 : FVec F S1x256 .f32 := addf main_v31 main_v32
  let main_v34 : FVec F S256x256 .f32 := broadcastInDim S256x256 ![0, 1] bcast_S1x256_S256x256_0_1 main_v33
  let main_v35 : FVec F S256x256 .f32 := Host.divf main_v23 main_v34
  let main_v36 : FVec F S256x256 .f32 := mulf main_v29 main_v35
  let main_v37 : FVec F S65536 .f32 := shapeCast S65536 main_v36 shapeCasts_S256x256_S65536
  let main_values : FVec F S256 .f32 := (fun x => (Host.topK S256 0 (FloatOps.cmpfTotal .gt) x sliceFits_S65536_S256).1) main_v37
  fn_part2 (F := F) main_arg0 main_arg1 main_arg6 main_arg7 main_arg8 main_arg9 main_arg10 main_v37

def fn {F : FTy → Type} [FloatOps F] (main_arg0 : FVec F S20000x256 .f32) (main_arg1 : FVec F S20000x256 .f32) (main_arg2 : FVec F S256x256 .f32) (main_arg3 : FVec F S256x256 .f32) (main_arg4 : IVec S256 1) (main_arg5 : IVec S256 1) (main_arg6 : IVec S256x64 32) (main_arg7 : IVec S256x64 32) (main_arg8 : IVec S256x64 1) (main_arg9 : IVec S256x64 1) (main_arg10 : FVec F S1 .f32) : IVec S256x64x64 1 :=
  let main_v0 : FVec F S256x1 .f32 := fn_norm (F := F) main_arg2
  let main_cst : FVec F S_ .f32 := constant S_ .f32 0x2B8CBCCC#32
  let main_v1 : FVec F S256x1 .f32 := broadcastInDim S256x1 ![] bcast_S_S256x1 main_cst
  let main_v2 : FVec F S256x1 .f32 := addf main_v0 main_v1
  let main_v3 : FVec F S256x256 .f32 := broadcastInDim S256x256 ![0, 1] bcast_S256x1_S256x256_0_1 main_v2
  let main_v4 : FVec F S256x256 .f32 := Host.divf main_arg2 main_v3
  let main_v5 : FVec F S256x1 .f32 := fn_norm (F := F) main_arg3
  let main_cst_0 : FVec F S_ .f32 := constant S_ .f32 0x2B8CBCCC#32
  let main_v6 : FVec F S256x1 .f32 := broadcastInDim S256x1 ![] bcast_S_S256x1 main_cst_0
  let main_v7 : FVec F S256x1 .f32 := addf main_v5 main_v6
  let main_v8 : FVec F S256x256 .f32 := broadcastInDim S256x256 ![0, 1] bcast_S256x1_S256x256_0_1 main_v7
  let main_v9 : FVec F S256x256 .f32 := Host.divf main_arg3 main_v8
  let main_v10 : FVec F S256x256 .f32 := (transpose S256x256 [1, 0] · transposes_S256x256_S256x256_1_0) main_v9
  let main_v11 : FVec F S256x256 .f32 := (fun l r => Host.dotGeneral dot_S256x256_S256x256_S256x256_1_0_0_1_n_n none l r) main_v4 main_v10
  let main_cst_1 : FVec F S_ .f32 := constant S_ .f32 0x40000000#32
  let main_v12 : FVec F S256x256 .f32 := broadcastInDim S256x256 ![] bcast_S_S256x256 main_cst_1
  let main_v13 : FVec F S256x256 .f32 := mulf main_v12 main_v11
  let main_cst_2 : FVec F S_ .f32 := constant S_ .f32 0x40000000#32
  let main_v14 : FVec F S256x256 .f32 := broadcastInDim S256x256 ![] bcast_S_S256x256 main_cst_2
  let main_v15 : FVec F S256x256 .f32 := subf main_v14 main_v13
  let main_v16 : FVec F S256x256 .f32 := Host.negf main_v15
  let main_v17 : FVec F S256x256 .f32 := Host.exp main_v16
  let main_v18 : IVec S256x1 1 := broadcastInDim S256x1 ![0] bcast_S256_S256x1_0 main_arg4
  let main_v19 : IVec S1x256 1 := broadcastInDim S1x256 ![1] bcast_S256_S1x256_1 main_arg5
  fn_part1 (F := F) main_arg0 main_arg1 main_arg6 main_arg7 main_arg8 main_arg9 main_arg10 main_v17 main_v18 main_v19
-- ==== Pre_points_at_most_5e18.lean ====
abbrev S20000x3 : Shape := ⟨2, ![20000, 3]⟩
abbrev S256x3 : Shape := ⟨2, ![256, 3]⟩
abbrev S_ : Shape := ⟨0, ![]⟩

class Facts : Prop where
  bcast_S_S20000x3 : S_.BroadcastsInDim S20000x3 (![] : Fin 0 → Fin S20000x3.rank)
  reducesTo_S20000x3_S_d0_1 : S20000x3.ReducesTo [0, 1] S_
  h_S_ : 0 < S_.numel
  bcast_S_S256x3 : S_.BroadcastsInDim S256x3 (![] : Fin 0 → Fin S256x3.rank)
  reducesTo_S256x3_S_d0_1 : S256x3.ReducesTo [0, 1] S_

variable [Facts]

def fn {F : FTy → Type} [FloatOps F] (main_arg0 : FVec F S20000x3 .f32) (main_arg1 : FVec F S256x3 .f32) : IVec S_ 1 :=
  let main_v0 : FVec F S20000x3 .f32 := Host.absf main_arg0
  let main_cst : FVec F S_ .f32 := constant S_ .f32 0x5E8AC723#32
  let main_v1 : FVec F S20000x3 .f32 := broadcastInDim S20000x3 ![] bcast_S_S20000x3 main_cst
  let main_v2 : IVec S20000x3 1 := cmpf .ole main_v0 main_v1
  let main_c : IVec S_ 1 := constantI S_ 1 1#1
  let main_v3 : IVec S_ 1 := (fun x v => Host.reduce IntOp.andi x v reducesTo_S20000x3_S_d0_1 h_S_) main_v2 main_c
  let main_v4 : FVec F S256x3 .f32 := Host.absf main_arg1
  let main_cst_0 : FVec F S_ .f32 := constant S_ .f32 0x5E8AC723#32
  let main_v5 : FVec F S256x3 .f32 := broadcastInDim S256x3 ![] bcast_S_S256x3 main_cst_0
  let main_v6 : IVec S256x3 1 := cmpf .ole main_v4 main_v5
  let main_c_1 : IVec S_ 1 := constantI S_ 1 1#1
  let main_v7 : IVec S_ 1 := (fun x v => Host.reduce IntOp.andi x v reducesTo_S256x3_S_d0_1 h_S_) main_v6 main_c_1
  let main_v8 : IVec S_ 1 := andi main_v3 main_v7
  main_v8
-- ==== Pre_scores_at_most_13.lean ====
abbrev S256x64x256 : Shape := ⟨3, ![256, 64, 256]⟩
abbrev S256x64 : Shape := ⟨2, ![256, 64]⟩
abbrev S1 : Shape := ⟨1, ![1]⟩
abbrev S256x64x64 : Shape := ⟨3, ![256, 64, 64]⟩
abbrev S256x64x1 : Shape := ⟨3, ![256, 64, 1]⟩
abbrev S256x1x64 : Shape := ⟨3, ![256, 1, 64]⟩
abbrev S_ : Shape := ⟨0, ![]⟩
abbrev S1x1x1 : Shape := ⟨3, ![1, 1, 1]⟩

class Facts : Prop where
  bcast_S256x64_S256x64x1_0_1 : S256x64.BroadcastsInDim S256x64x1 (![0, 1] : Fin 2 → Fin S256x64x1.rank)
  bcast_S256x64_S256x1x64_0_2 : S256x64.BroadcastsInDim S256x1x64 (![0, 2] : Fin 2 → Fin S256x1x64.rank)
  bcast_S256x64x1_S256x64x64_0_1_2 : S256x64x1.BroadcastsInDim S256x64x64 (![0, 1, 2] : Fin 3 → Fin S256x64x64.rank)
  bcast_S256x1x64_S256x64x64_0_1_2 : S256x1x64.BroadcastsInDim S256x64x64 (![0, 1, 2] : Fin 3 → Fin S256x64x64.rank)
  bcast_S_S256x64x64 : S_.BroadcastsInDim S256x64x64 (![] : Fin 0 → Fin S256x64x64.rank)
  bcast_S_S1 : S_.BroadcastsInDim S1 (![] : Fin 0 → Fin S1.rank)
  bcast_S1_S1x1x1_2 : S1.BroadcastsInDim S1x1x1 (![2] : Fin 1 → Fin S1x1x1.rank)
  bcast_S1x1x1_S256x64x64_0_1_2 : S1x1x1.BroadcastsInDim S256x64x64 (![0, 1, 2] : Fin 3 → Fin S256x64x64.rank)
  dot_S256x64x256_S256x64x256_S256x64x64_2_2_1_1_0_0_wf : DotDims.WF S256x64x256 S256x64x256 S256x64x64 [2] [2] [1] [1] [0] [0]

variable [Facts]

def dot_S256x64x256_S256x64x256_S256x64x64_2_2_1_1_0_0 : DotDims S256x64x256 S256x64x256 S256x64x64 where
  lhsContracting := [2]
  rhsContracting := [2]
  lhsNonContracting := [1]
  rhsNonContracting := [1]
  lhsBatch := [0]
  rhsBatch := [0]
  wf := dot_S256x64x256_S256x64x256_S256x64x64_2_2_1_1_0_0_wf
def fn {F : FTy → Type} [FloatOps F] (main_arg0 : FVec F S256x64x256 .f32) (main_arg1 : FVec F S256x64x256 .f32) (main_arg2 : IVec S256x64 1) (main_arg3 : IVec S256x64 1) (main_arg4 : FVec F S1 .f32) : IVec S256x64x64 1 :=
  let main_v0 : FVec F S256x64x64 .f32 := (fun l r => Host.dotGeneral dot_S256x64x256_S256x64x256_S256x64x64_2_2_1_1_0_0 none l r) main_arg0 main_arg1
  let main_v1 : IVec S256x64x1 1 := broadcastInDim S256x64x1 ![0, 1] bcast_S256x64_S256x64x1_0_1 main_arg2
  let main_v2 : IVec S256x1x64 1 := broadcastInDim S256x1x64 ![0, 2] bcast_S256x64_S256x1x64_0_2 main_arg3
  let main_v3 : IVec S256x64x64 1 := broadcastInDim S256x64x64 ![0, 1, 2] bcast_S256x64x1_S256x64x64_0_1_2 main_v1
  let main_v4 : IVec S256x64x64 1 := broadcastInDim S256x64x64 ![0, 1, 2] bcast_S256x1x64_S256x64x64_0_1_2 main_v2
  let main_v5 : IVec S256x64x64 1 := andi main_v3 main_v4
  let main_v6 : IVec S256x64x64 1 := noti main_v5
  let main_v7 : FVec F S256x64x64 .f32 := Host.absf main_v0
  let main_cst : FVec F S_ .f32 := constant S_ .f32 0x43500000#32
  let main_v8 : FVec F S256x64x64 .f32 := broadcastInDim S256x64x64 ![] bcast_S_S256x64x64 main_cst
  let main_v9 : IVec S256x64x64 1 := cmpf .ole main_v7 main_v8
  let main_v10 : IVec S256x64x64 1 := ori main_v6 main_v9
  let main_v11 : FVec F S1 .f32 := Host.absf main_arg4
  let main_cst_0 : FVec F S_ .f32 := constant S_ .f32 0x41500000#32
  let main_v12 : FVec F S1 .f32 := broadcastInDim S1 ![] bcast_S_S1 main_cst_0
  let main_v13 : IVec S1 1 := cmpf .ole main_v11 main_v12
  let main_v14 : IVec S1x1x1 1 := broadcastInDim S1x1x1 ![2] bcast_S1_S1x1x1_2 main_v13
  let main_v15 : IVec S256x64x64 1 := broadcastInDim S256x64x64 ![0, 1, 2] bcast_S1x1x1_S256x64x64_0_1_2 main_v14
  let main_v16 : IVec S256x64x64 1 := andi main_v10 main_v15
  main_v16
-- ==== Kernel.lean ====
abbrev S256x64x256 : Shape := ⟨3, ![256, 64, 256]⟩
abbrev S256x64 : Shape := ⟨2, ![256, 64]⟩
abbrev S1 : Shape := ⟨1, ![1]⟩
abbrev S_ : Shape := ⟨0, ![]⟩
abbrev S256x72x256 : Shape := ⟨3, ![256, 72, 256]⟩
abbrev S256x128x256 : Shape := ⟨3, ![256, 128, 256]⟩
abbrev S256x72 : Shape := ⟨2, ![256, 72]⟩
abbrev S256 : Shape := ⟨1, ![256]⟩
abbrev S256x128 : Shape := ⟨2, ![256, 128]⟩
abbrev S256x65x65 : Shape := ⟨3, ![256, 65, 65]⟩
abbrev S32x72x256 : Shape := ⟨3, ![32, 72, 256]⟩
abbrev S32x128x256 : Shape := ⟨3, ![32, 128, 256]⟩
abbrev S32x72 : Shape := ⟨2, ![32, 72]⟩
abbrev S32x128 : Shape := ⟨2, ![32, 128]⟩
abbrev S32x65x65 : Shape := ⟨3, ![32, 65, 65]⟩
abbrev S32x72x128 : Shape := ⟨3, ![32, 72, 128]⟩
abbrev S32x72x1 : Shape := ⟨3, ![32, 72, 1]⟩
abbrev S32x1x128 : Shape := ⟨3, ![32, 1, 128]⟩
abbrev S1x72x1 : Shape := ⟨3, ![1, 72, 1]⟩
abbrev S1x1x128 : Shape := ⟨3, ![1, 1, 128]⟩
abbrev S1x72x128 : Shape := ⟨3, ![1, 72, 128]⟩
abbrev S32x1 : Shape := ⟨2, ![32, 1]⟩
abbrev S32x1x1 : Shape := ⟨3, ![32, 1, 1]⟩

abbrev nBuf : Space → Nat
  | .hbm => 30
  | .vmem => 10
  | .smem => 1
  | _ => 0

abbrev bufTy : (tb : Table) → Fin (tcTables nBuf tb) → BufTy
  | .hbm, ⟨0, _⟩ => ⟨S256x64x256, .f32⟩
  | .hbm, ⟨1, _⟩ => ⟨S256x64x256, .f32⟩
  | .hbm, ⟨2, _⟩ => ⟨S256x64, .i1⟩
  | .hbm, ⟨3, _⟩ => ⟨S256x64, .i1⟩
  | .hbm, ⟨4, _⟩ => ⟨S1, .f32⟩
  | .hbm, ⟨5, _⟩ => ⟨S_, .i32⟩
  | .hbm, ⟨6, _⟩ => ⟨S_, .f32⟩
  | .hbm, ⟨7, _⟩ => ⟨S256x72x256, .f32⟩
  | .hbm, ⟨8, _⟩ => ⟨S_, .i32⟩
  | .hbm, ⟨9, _⟩ => ⟨S_, .f32⟩
  | .hbm, ⟨10, _⟩ => ⟨S256x128x256, .f32⟩
  | .hbm, ⟨11, _⟩ => ⟨S256x64, .f32⟩
  | .hbm, ⟨12, _⟩ => ⟨S_, .i32⟩
  | .hbm, ⟨13, _⟩ => ⟨S_, .f32⟩
  | .hbm, ⟨14, _⟩ => ⟨S256x72, .f32⟩
  | .hbm, ⟨15, _⟩ => ⟨S_, .i32⟩
  | .hbm, ⟨16, _⟩ => ⟨S1, .i32⟩
  | .hbm, ⟨17, _⟩ => ⟨S_, .f32⟩
  | .hbm, ⟨18, _⟩ => ⟨S256, .f32⟩
  | .hbm, ⟨19, _⟩ => ⟨S256x72, .f32⟩
  | .hbm, ⟨20, _⟩ => ⟨S256x64, .f32⟩
  | .hbm, ⟨21, _⟩ => ⟨S_, .i32⟩
  | .hbm, ⟨22, _⟩ => ⟨S_, .f32⟩
  | .hbm, ⟨23, _⟩ => ⟨S256x128, .f32⟩
  | .hbm, ⟨24, _⟩ => ⟨S_, .i32⟩
  | .hbm, ⟨25, _⟩ => ⟨S1, .i32⟩
  | .hbm, ⟨26, _⟩ => ⟨S_, .f32⟩
  | .hbm, ⟨27, _⟩ => ⟨S256, .f32⟩
  | .hbm, ⟨28, _⟩ => ⟨S256x128, .f32⟩
  | .hbm, ⟨29, _⟩ => ⟨S256x65x65, .f32⟩
  | .local _ .vmem, ⟨0, _⟩ => ⟨S32x72x256, .f32⟩
  | .local _ .vmem, ⟨1, _⟩ => ⟨S32x72x256, .f32⟩
  | .local _ .vmem, ⟨2, _⟩ => ⟨S32x128x256, .f32⟩
  | .local _ .vmem, ⟨3, _⟩ => ⟨S32x128x256, .f32⟩
  | .local _ .vmem, ⟨4, _⟩ => ⟨S32x72, .f32⟩
  | .local _ .vmem, ⟨5, _⟩ => ⟨S32x72, .f32⟩
  | .local _ .vmem, ⟨6, _⟩ => ⟨S32x128, .f32⟩
  | .local _ .vmem, ⟨7, _⟩ => ⟨S32x128, .f32⟩
  | .local _ .vmem, ⟨8, _⟩ => ⟨S32x65x65, .f32⟩
  | .local _ .vmem, ⟨9, _⟩ => ⟨S32x65x65, .f32⟩
  | .local _ .smem, ⟨0, _⟩ => ⟨S1, .f32⟩
  | _, _ => ⟨S256x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_v2 : Ref sig .tc := ⟨.hbm, 11, rfl⟩
abbrev main_c_1 : Ref sig .tc := ⟨.hbm, 12, rfl⟩
abbrev main_call2_v0 : Ref sig .tc := ⟨.hbm, 13, rfl⟩
abbrev main_v3 : Ref sig .tc := ⟨.hbm, 14, rfl⟩
abbrev main_c_2 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_3 : Ref sig .tc := ⟨.hbm, 21, rfl⟩
abbrev main_call3_v0 : Ref sig .tc := ⟨.hbm, 22, rfl⟩
abbrev main_v8 : Ref sig .tc := ⟨.hbm, 23, rfl⟩
abbrev main_c_4 : Ref sig .tc := ⟨.hbm, 24, rfl⟩
abbrev main_v9 : Ref sig .tc := ⟨.hbm, 25, rfl⟩
abbrev main_cst_5 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c100_i32 : BitVec 32 := 100#32
  let v98 : BitVec 32 := Scalar.addi c0_i32 c100_i32
  let c1_i32 : BitVec 32 := 1#32
  ⟨c0_i32, v98, c1_i32⟩
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x72x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x72 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x65x65 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "mask" => some ⊥
  | "unmask" => some ⊤
  | _ => none
-- ==== ReferenceIdeal.lean ====
abbrev S256x64x256 : Shape := ⟨3, ![256, 64, 256]⟩
abbrev S256x64 : Shape := ⟨2, ![256, 64]⟩
abbrev S1 : Shape := ⟨1, ![1]⟩
abbrev S_ : Shape := ⟨0, ![]⟩
abbrev S256x64x64 : Shape := ⟨3, ![256, 64, 64]⟩
abbrev S256x64x1 : Shape := ⟨3, ![256, 64, 1]⟩
abbrev S256x1x65 : Shape := ⟨3, ![256, 1, 65]⟩
abbrev S256x64x65 : Shape := ⟨3, ![256, 64, 65]⟩
abbrev S256x65x65 : Shape := ⟨3, ![256, 65, 65]⟩
abbrev S256x1 : Shape := ⟨2, ![256, 1]⟩
abbrev S256x65 : Shape := ⟨2, ![256, 65]⟩
abbrev S256x65x1 : Shape := ⟨3, ![256, 65, 1]⟩
abbrev S256 : Shape := ⟨1, ![256]⟩

abbrev nBuf : Space → Nat
  | .hbm => 144
  | .vmem => 0
  | .smem => 0
  | _ => 0

abbrev hbmTy0_0 (i : Nat) : BufTy := match i % 128 with
  | 0 => ⟨S256x64x256, .f32⟩
  | 1 => ⟨S256x64x256, .f32⟩
  | 2 => ⟨S256x64, .i1⟩
  | 3 => ⟨S256x64, .i1⟩
  | 4 => ⟨S1, .f32⟩
  | 5 => ⟨S_, .f32⟩
  | 6 => ⟨S256x64x64, .f32⟩
  | 7 => ⟨S_, .f32⟩
  | 8 => ⟨S_, .f32⟩
  | 9 => ⟨S_, .f32⟩
  | 10 => ⟨S256x64x64, .f32⟩
  | 11 => ⟨S256x64x64, .f32⟩
  | 12 => ⟨S_, .f32⟩
  | 13 => ⟨S256x64x1, .f32⟩
  | 14 => ⟨S256x64x1, .f32⟩
  | 15 => ⟨S256x64x1, .f32⟩
  | 16 => ⟨S_, .f32⟩
  | 17 => ⟨S256x1x65, .f32⟩
  | 18 => ⟨S256x1x65, .f32⟩
  | 19 => ⟨S256x1x65, .f32⟩
  | 20 => ⟨S256x64x65, .f32⟩
  | 21 => ⟨S256x65x65, .f32⟩
  | 22 => ⟨S_, .i1⟩
  | 23 => ⟨S256x1, .i1⟩
  | 24 => ⟨S256x65, .i1⟩
  | 25 => ⟨S_, .i1⟩
  | 26 => ⟨S256x1, .i1⟩
  | 27 => ⟨S256x65, .i1⟩
  | 28 => ⟨S256x65x1, .i1⟩
  | 29 => ⟨S256x1x65, .i1⟩
  | 30 => ⟨S256x65x65, .i1⟩
  | 31 => ⟨S256x65x65, .i1⟩
  | 32 => ⟨S256x65x65, .i1⟩
  | 33 => ⟨S_, .f32⟩
  | 34 => ⟨S_, .f32⟩
  | 35 => ⟨S256x65x65, .f32⟩
  | 36 => ⟨S256x65x65, .f32⟩
  | 37 => ⟨S256x64, .i32⟩
  | 38 => ⟨S_, .i32⟩
  | 39 => ⟨S256, .i32⟩
  | 40 => ⟨S256, .f32⟩
  | 41 => ⟨S256x64, .i32⟩
  | 42 => ⟨S_, .i32⟩
  | 43 => ⟨S256, .i32⟩
  | 44 => ⟨S256, .f32⟩
  | 45 => ⟨S256, .f32⟩
  | 46 => ⟨S_, .f32⟩
  | 47 => ⟨S256, .f32⟩
  | 48 => ⟨S256, .f32⟩
  | 49 => ⟨S256, .f32⟩
  | 50 => ⟨S256, .f32⟩
  | 51 => ⟨S256x1, .f32⟩
  | 52 => ⟨S_, .f32⟩
  | 53 => ⟨S_, .f32⟩
  | 54 => ⟨S256x64, .f32⟩
  | 55 => ⟨S256x64, .f32⟩
  | 56 => ⟨S256x64, .f32⟩
  | 57 => ⟨S_, .f32⟩
  | 58 => ⟨S256, .f32⟩
  | 59 => ⟨S256, .f32⟩
  | 60 => ⟨S256, .f32⟩
  | 61 => ⟨S256, .f32⟩
  | 62 => ⟨S256x1, .f32⟩
  | 63 => ⟨S256x65, .f32⟩
  | 64 => ⟨S256x1, .f32⟩
  | 65 => ⟨S_, .f32⟩
  | 66 => ⟨S_, .f32⟩
  | 67 => ⟨S256x64, .f32⟩
  | 68 => ⟨S256x64, .f32⟩
  | 69 => ⟨S256x64, .f32⟩
  | 70 => ⟨S_, .f32⟩
  | 71 => ⟨S256, .f32⟩
  | 72 => ⟨S256, .f32⟩
  | 73 => ⟨S256, .f32⟩
  | 74 => ⟨S256, .f32⟩
  | 75 => ⟨S256x1, .f32⟩
  | 76 => ⟨S256x65, .f32⟩
  | 77 => ⟨S_, .f32⟩
  | 78 => ⟨S256x65, .f32⟩
  | 79 => ⟨S_, .f32⟩
  | 80 => ⟨S256x65, .f32⟩
  | 81 => ⟨S_, .i32⟩
  | 82 => ⟨S_, .i32⟩
  | 83 => ⟨S256x65x65, .f32⟩
  | 84 => ⟨S256x65, .f32⟩
  | 85 => ⟨S256x65, .f32⟩
  | 86 => ⟨S_, .i32⟩
  | 87 => ⟨S_, .i32⟩
  | 88 => ⟨S256x65, .f32⟩
  | 89 => ⟨S256x65, .f32⟩
  | 90 => ⟨S_, .i32⟩
  | 91 => ⟨S_, .i1⟩
  | 92 => ⟨S_, .i32⟩
  | 93 => ⟨S_, .i32⟩
  | 94 => ⟨S256x1x65, .f32⟩
  | 95 => ⟨S256x65x65, .f32⟩
  | 96 => ⟨S256x65x65, .f32⟩
  | 97 => ⟨S_, .f32⟩
  | 98 => ⟨S256x65, .f32⟩
  | 99 => ⟨S_, .f32⟩
  | 100 => ⟨S256x65, .f32⟩
  | 101 => ⟨S256x65, .i1⟩
  | 102 => ⟨S_, .f32⟩
  | 103 => ⟨S_, .f32⟩
  | 104 => ⟨S256x65, .f32⟩
  | 105 => ⟨S256x65, .f32⟩
  | 106 => ⟨S256x65x1, .f32⟩
  | 107 => ⟨S256x65x65, .f32⟩
  | 108 => ⟨S256x65x65, .f32⟩
  | 109 => ⟨S256x65x65, .f32⟩
  | 110 => ⟨S_, .f32⟩
  | 111 => ⟨S256x65, .f32⟩
  | 112 => ⟨S256x65, .f32⟩
  | 113 => ⟨S256x65, .f32⟩
  | 114 => ⟨S256x65, .f32⟩
  | 115 => ⟨S256x65x1, .f32⟩
  | 116 => ⟨S256x65x65, .f32⟩
  | 117 => ⟨S256x65x65, .f32⟩
  | 118 => ⟨S_, .f32⟩
  | 119 => ⟨S256x65, .f32⟩
  | 120 => ⟨S_, .f32⟩
  | 121 => ⟨S256x65, .f32⟩
  | 122 => ⟨S256x65, .i1⟩
  | 123 => ⟨S_, .f32⟩
  | 124 => ⟨S_, .f32⟩
  | 125 => ⟨S256x65, .f32⟩
  | 126 => ⟨S256x65, .f32⟩
  | 127 => ⟨S256x1x65, .f32⟩
  | _ => ⟨S256x64x256, .f32⟩

abbrev hbmTy0_1 (i : Nat) : BufTy := match i % 128 with
  | 0 => ⟨S256x65x65, .f32⟩
  | 1 => ⟨S256x65x65, .f32⟩
  | 2 => ⟨S256x65x65, .f32⟩
  | 3 => ⟨S_, .f32⟩
  | 4 => ⟨S256x65, .f32⟩
  | 5 => ⟨S256x65, .f32⟩
  | 6 => ⟨S256x65, .f32⟩
  | 7 => ⟨S256x65, .f32⟩
  | 8 => ⟨S_, .i32⟩
  | 9 => ⟨S_, .i32⟩
  | 10 => ⟨S256x65x1, .f32⟩
  | 11 => ⟨S256x65x65, .f32⟩
  | 12 => ⟨S256x65x65, .f32⟩
  | 13 => ⟨S256x1x65, .f32⟩
  | 14 => ⟨S256x65x65, .f32⟩
  | 15 => ⟨S256x65x65, .f32⟩
  | _ => ⟨S256x64x256, .f32⟩

abbrev hbmTy (i : Nat) : BufTy := match i / 128 with
  | 0 => hbmTy0_0 i
  | 1 => hbmTy0_1 i
  | _ => ⟨S256x64x256, .f32⟩

abbrev bufTy : (tb : Table) → Fin (tcTables nBuf tb) → BufTy
  | .hbm, ⟨i, _⟩ => hbmTy i
  | _, _ => ⟨S256x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_v44 : Ref sig .tc := ⟨.hbm, 69, rfl⟩
abbrev main_cst_10 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_11 : Ref sig .tc := ⟨.hbm, 77, rfl⟩
abbrev main_v51 : Ref sig .tc := ⟨.hbm, 78, rfl⟩
abbrev main_cst_12 : Ref sig .tc := ⟨.hbm, 79, rfl⟩
abbrev main_v52 : Ref sig .tc := ⟨.hbm, 80, rfl⟩
abbrev main_c_13 : Ref sig .tc := ⟨.hbm, 81, rfl⟩
abbrev main_c_14 : Ref sig .tc := ⟨.hbm, 82, rfl⟩
abbrev main_v53_0 : Ref sig .tc := ⟨.hbm, 83, rfl⟩
abbrev main_v53_1 : Ref sig .tc := ⟨.hbm, 84, rfl⟩
abbrev main_v53_2 : Ref sig .tc := ⟨.hbm, 85, rfl⟩
abbrev main_v53_3 : Ref sig .tc := ⟨.hbm, 86, rfl⟩
abbrev main_v53_4 : Ref sig .tc := ⟨.hbm, 87, rfl⟩
abbrev main_v53_5 : Ref sig .tc := ⟨.hbm, 88, rfl⟩
abbrev main_v53_6 : Ref sig .tc := ⟨.hbm, 89, rfl⟩
abbrev main_while0c_c_21 : Ref sig .tc := ⟨.hbm, 90, rfl⟩
abbrev main_while0c_v60 : Ref sig .tc := ⟨.hbm, 91, rfl⟩
abbrev main_while0b_c_21 : Ref sig .tc := ⟨.hbm, 92, rfl⟩
abbrev main_while0b_v60 : Ref sig .tc := ⟨.hbm, 93, rfl⟩
abbrev main_while0b_v61 : Ref sig .tc := ⟨.hbm, 94, rfl⟩
abbrev main_while0b_v62 : Ref sig .tc := ⟨.hbm, 95, rfl⟩
abbrev main_while0b_v63 : Ref sig .tc := ⟨.hbm, 96, rfl⟩
abbrev main_while0b_cst_22 : Ref sig .tc := ⟨.hbm, 97, rfl⟩
abbrev main_while0b_v64 : Ref sig .tc := ⟨.hbm, 98, rfl⟩
abbrev main_while0b_cst_23 : Ref sig .tc := ⟨.hbm, 99, rfl⟩
abbrev main_while0b_v65 : Ref sig .tc := ⟨.hbm, 100, rfl⟩
abbrev main_while0b_v66 : Ref sig .tc := ⟨.hbm, 101, rfl⟩
abbrev main_while0b_cst_24 : Ref sig .tc := ⟨.hbm, 102, rfl⟩
abbrev main_while0b_call3_v0 : Ref sig .tc := ⟨.hbm, 103, rfl⟩
abbrev main_while0b_call3_v1 : Ref sig .tc := ⟨.hbm, 104, rfl⟩
abbrev main_while0b_v67 : Ref sig .tc := ⟨.hbm, 105, rfl⟩
abbrev main_while0b_v68 : Ref sig .tc := ⟨.hbm, 106, rfl⟩
abbrev main_while0b_v69 : Ref sig .tc := ⟨.hbm, 107, rfl⟩
abbrev main_while0b_v70 : Ref sig .tc := ⟨.hbm, 108, rfl⟩
abbrev main_while0b_v71 : Ref sig .tc := ⟨.hbm, 109, rfl⟩
abbrev main_while0b_cst_25 : Ref sig .tc := ⟨.hbm, 110, rfl⟩
abbrev main_while0b_v72 : Ref sig .tc := ⟨.hbm, 111, rfl⟩
abbrev main_while0b_v73 : Ref sig .tc := ⟨.hbm, 112, rfl⟩
abbrev main_while0b_v74 : Ref sig .tc := ⟨.hbm, 113, rfl⟩
abbrev main_while0b_v75 : Ref sig .tc := ⟨.hbm, 114, rfl⟩
abbrev main_while0b_v76 : Ref sig .tc := ⟨.hbm, 115, rfl⟩
abbrev main_while0b_v77 : Ref sig .tc := ⟨.hbm, 116, rfl⟩
abbrev main_while0b_v78 : Ref sig .tc := ⟨.hbm, 117, rfl⟩
abbrev main_while0b_cst_26 : Ref sig .tc := ⟨.hbm, 118, rfl⟩
abbrev main_while0b_v79 : Ref sig .tc := ⟨.hbm, 119, rfl⟩
abbrev main_while0b_cst_27 : Ref sig .tc := ⟨.hbm, 120, rfl⟩
abbrev main_while0b_v80 : Ref sig .tc := ⟨.hbm, 121, rfl⟩
abbrev main_while0b_v81 : Ref sig .tc := ⟨.hbm, 122, rfl⟩
abbrev main_while0b_cst_28 : Ref sig .tc := ⟨.hbm, 123, rfl⟩
abbrev main_while0b_call4_v0 : Ref sig .tc := ⟨.hbm, 124, rfl⟩
abbrev main_while0b_call4_v1 : Ref sig .tc := ⟨.hbm, 125, rfl⟩
abbrev main_while0b_v82 : Ref sig .tc := ⟨.hbm, 126, rfl⟩
abbrev main_while0b_v83 : Ref sig .tc := ⟨.hbm, 127, rfl⟩
abbrev main_while0b_v84 : Ref sig .tc := ⟨.hbm, 128, rfl⟩
abbrev main_while0b_v85 : Ref sig .tc := ⟨.hbm, 129, rfl⟩
abbrev main_while0b_v86 : Ref sig .tc := ⟨.hbm, 130, rfl⟩
abbrev main_while0b_cst_29 : Ref sig .tc := ⟨.hbm, 131, rfl⟩
abbrev main_while0b_v87 : Ref sig .tc := ⟨.hbm, 132, rfl⟩
abbrev main_while0b_v88 : Ref sig .tc := ⟨.hbm, 133, rfl⟩
abbrev main_while0b_v89 : Ref sig .tc := ⟨.hbm, 134, rfl⟩
abbrev main_while0b_v90 : Ref sig .tc := ⟨.hbm, 135, rfl⟩
abbrev main_while0b_c_30 : Ref sig .tc := ⟨.hbm, 136, rfl⟩
abbrev main_while0b_v91 : Ref sig .tc := ⟨.hbm, 137, rfl⟩
abbrev main_v54 : Ref sig .tc := ⟨.hbm, 138, rfl⟩
abbrev main_v55 : Ref sig .tc := ⟨.hbm, 139, rfl⟩
abbrev main_v56 : Ref sig .tc := ⟨.hbm, 140, rfl⟩
abbrev main_v57 : Ref sig .tc := ⟨.hbm, 141, rfl⟩
abbrev main_v58 : Ref sig .tc := ⟨.hbm, 142, rfl⟩
abbrev main_v59 : Ref sig .tc := ⟨.hbm, 143, rfl⟩

abbrev nD : Nat := 1
abbrev τ : Topo := Topo.v7x

variable {F : FTy → Type} [FloatOps F]

abbrev main_while0_count : Scf.Loop 32 := ⟨0#32, 100#32, 1#32⟩
-- ==== Nearest.lean ====
abbrev S20000x3 : Shape := ⟨2, ![20000, 3]⟩
abbrev S256x3 : Shape := ⟨2, ![256, 3]⟩
abbrev S3x20000 : Shape := ⟨2, ![3, 20000]⟩
abbrev S256x64 : Shape := ⟨2, ![256, 64]⟩
abbrev S4x1x20000 : Shape := ⟨3, ![4, 1, 20000]⟩
abbrev S64x3 : Shape := ⟨2, ![64, 3]⟩
abbrev S64x64 : Shape := ⟨2, ![64, 64]⟩
abbrev S1x1x20000 : Shape := ⟨3, ![1, 1, 20000]⟩
abbrev S64x1 : Shape := ⟨2, ![64, 1]⟩
abbrev S1x20000 : Shape := ⟨2, ![1, 20000]⟩
abbrev S64x20000 : Shape := ⟨2, ![64, 20000]⟩
abbrev S20000 : Shape := ⟨1, ![20000]⟩
abbrev S64 : Shape := ⟨1, ![64]⟩

abbrev nBuf : Space → Nat
  | .hbm => 6
  | .vmem => 9
  | .smem => 0
  | _ => 0

abbrev bufTy : (tb : Table) → Fin (tcTables nBuf tb) → BufTy
  | .hbm, ⟨0, _⟩ => ⟨S20000x3, .f32⟩
  | .hbm, ⟨1, _⟩ => ⟨S256x3, .f32⟩
  | .hbm, ⟨2, _⟩ => ⟨S3x20000, .f32⟩
  | .hbm, ⟨3, _⟩ => ⟨S256x64, .i32⟩
  | .hbm, ⟨4, _⟩ => ⟨S4x1x20000, .f32⟩
  | .hbm, ⟨5, _⟩ => ⟨S4x1x20000, .i32⟩
  | .local _ .vmem, ⟨0, _⟩ => ⟨S64x3, .f32⟩
  | .local _ .vmem, ⟨1, _⟩ => ⟨S64x3, .f32⟩
  | .local _ .vmem, ⟨2, _⟩ => ⟨S3x20000, .f32⟩
  | .local _ .vmem, ⟨3, _⟩ => ⟨S64x64, .i32⟩
  | .local _ .vmem, ⟨4, _⟩ => ⟨S64x64, .i32⟩
  | .local _ .vmem, ⟨5, _⟩ => ⟨S1x1x20000, .f32⟩
  | .local _ .vmem, ⟨6, _⟩ => ⟨S1x1x20000, .f32⟩
  | .local _ .vmem, ⟨7, _⟩ => ⟨S1x1x20000, .i32⟩
  | .local _ .vmem, ⟨8, _⟩ => ⟨S1x1x20000, .i32⟩
  | _, _ => ⟨S20000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_13 : BitVec 32 := 0#32
  let c64_i32_14 : BitVec 32 := 64#32
  let v45 : BitVec 32 := Scalar.addi c0_i32_13 c64_i32_14
  let c1_i32 : BitVec 32 := 1#32
  ⟨c0_i32_13, v45, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x20000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x64 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x20000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x20000 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NearestReferenceIdeal.lean ====
abbrev S20000x3 : Shape := ⟨2, ![20000, 3]⟩
abbrev S256x3 : Shape := ⟨2, ![256, 3]⟩
abbrev S20000x1x3 : Shape := ⟨3, ![20000, 1, 3]⟩
abbrev S1x256x3 : Shape := ⟨3, ![1, 256, 3]⟩
abbrev S20000x256x3 : Shape := ⟨3, ![20000, 256, 3]⟩
abbrev S_ : Shape := ⟨0, ![]⟩
abbrev S20000x256 : Shape := ⟨2, ![20000, 256]⟩
abbrev S256x20000 : Shape := ⟨2, ![256, 20000]⟩
abbrev S256x64 : Shape := ⟨2, ![256, 64]⟩
abbrev S20000x4x64 : Shape := ⟨3, ![20000, 4, 64]⟩
abbrev S20000x4 : Shape := ⟨2, ![20000, 4]⟩
abbrev S20000x4x1 : Shape := ⟨3, ![20000, 4, 1]⟩
abbrev S4 : Shape := ⟨1, ![4]⟩
abbrev S1x4 : Shape := ⟨2, ![1, 4]⟩
abbrev S4x20000 : Shape := ⟨2, ![4, 20000]⟩
abbrev S4x1x20000 : Shape := ⟨3, ![4, 1, 20000]⟩

abbrev nBuf : Space → Nat
  | .hbm => 32
  | .vmem => 0
  | .smem => 0
  | _ => 0

abbrev bufTy : (tb : Table) → Fin (tcTables nBuf tb) → BufTy
  | .hbm, ⟨0, _⟩ => ⟨S20000x3, .f32⟩
  | .hbm, ⟨1, _⟩ => ⟨S256x3, .f32⟩
  | .hbm, ⟨2, _⟩ => ⟨S20000x1x3, .f32⟩
  | .hbm, ⟨3, _⟩ => ⟨S1x256x3, .f32⟩
  | .hbm, ⟨4, _⟩ => ⟨S20000x256x3, .f32⟩
  | .hbm, ⟨5, _⟩ => ⟨S20000x256x3, .f32⟩
  | .hbm, ⟨6, _⟩ => ⟨S20000x256x3, .f32⟩
  | .hbm, ⟨7, _⟩ => ⟨S20000x256x3, .f32⟩
  | .hbm, ⟨8, _⟩ => ⟨S_, .f32⟩
  | .hbm, ⟨9, _⟩ => ⟨S20000x256, .f32⟩
  | .hbm, ⟨10, _⟩ => ⟨S256x20000, .f32⟩
  | .hbm, ⟨11, _⟩ => ⟨S256x20000, .f32⟩
  | .hbm, ⟨12, _⟩ => ⟨S256x64, .f32⟩
  | .hbm, ⟨13, _⟩ => ⟨S256x64, .i32⟩
  | .hbm, ⟨14, _⟩ => ⟨S20000x4x64, .f32⟩
  | .hbm, ⟨15, _⟩ => ⟨S_, .f32⟩
  | .hbm, ⟨16, _⟩ => ⟨S20000x4, .f32⟩
  | .hbm, ⟨17, _⟩ => ⟨S20000x4x64, .f32⟩
  | .hbm, ⟨18, _⟩ => ⟨S20000x4x1, .f32⟩
  | .hbm, ⟨19, _⟩ => ⟨S20000x4x1, .i32⟩
  | .hbm, ⟨20, _⟩ => ⟨S20000x4, .i32⟩
  | .hbm, ⟨21, _⟩ => ⟨S4, .i32⟩
  | .hbm, ⟨22, _⟩ => ⟨S_, .i32⟩
  | .hbm, ⟨23, _⟩ => ⟨S4, .i32⟩
  | .hbm, ⟨24, _⟩ => ⟨S4, .i32⟩
  | .hbm, ⟨25, _⟩ => ⟨S1x4, .i32⟩
  | .hbm, ⟨26, _⟩ => ⟨S20000x4, .i32⟩
  | .hbm, ⟨27, _⟩ => ⟨S20000x4, .i32⟩
  | .hbm, ⟨28, _⟩ => ⟨S4x20000, .f32⟩
  | .hbm, ⟨29, _⟩ => ⟨S4x1x20000, .f32⟩
  | .hbm, ⟨30, _⟩ => ⟨S4x20000, .i32⟩
  | .hbm, ⟨31, _⟩ => ⟨S4x1x20000, .i32⟩
  | _, _ => ⟨S20000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_values : Ref sig .tc := ⟨.hbm, 12, rfl⟩
abbrev main_indices : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_values_1 : Ref sig .tc := ⟨.hbm, 18, rfl⟩
abbrev main_indices_2 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Partition.lean ====
abbrev S20000x3 : Shape := ⟨2, ![20000, 3]⟩
abbrev S256x3 : Shape := ⟨2, ![256, 3]⟩
abbrev S3x20000 : Shape := ⟨2, ![3, 20000]⟩
abbrev S256x64 : Shape := ⟨2, ![256, 64]⟩
abbrev S4x1x20000 : Shape := ⟨3, ![4, 1, 20000]⟩
abbrev S64x3 : Shape := ⟨2, ![64, 3]⟩
abbrev S64x64 : Shape := ⟨2, ![64, 64]⟩
abbrev S1x1x20000 : Shape := ⟨3, ![1, 1, 20000]⟩
abbrev S64x1 : Shape := ⟨2, ![64, 1]⟩
abbrev S1x20000 : Shape := ⟨2, ![1, 20000]⟩
abbrev S64x20000 : Shape := ⟨2, ![64, 20000]⟩
abbrev S20000 : Shape := ⟨1, ![20000]⟩
abbrev S64 : Shape := ⟨1, ![64]⟩
abbrev S4x20000 : Shape := ⟨2, ![4, 20000]⟩
abbrev S_ : Shape := ⟨0, ![]⟩
abbrev S1x20000x1 : Shape := ⟨3, ![1, 20000, 1]⟩
abbrev S1 : Shape := ⟨1, ![1]⟩
abbrev S1x1x1 : Shape := ⟨3, ![1, 1, 1]⟩
abbrev S256 : Shape := ⟨1, ![256]⟩
abbrev S20000x1 : Shape := ⟨2, ![20000, 1]⟩
abbrev S256x64x1 : Shape := ⟨3, ![256, 64, 1]⟩
abbrev S256x1 : Shape := ⟨2, ![256, 1]⟩

abbrev nBuf : Space → Nat
  | .hbm => 63
  | .vmem => 9
  | .smem => 0
  | _ => 0

abbrev bufTy : (tb : Table) → Fin (tcTables nBuf tb) → BufTy
  | .hbm, ⟨0, _⟩ => ⟨S20000x3, .f32⟩
  | .hbm, ⟨1, _⟩ => ⟨S256x3, .f32⟩
  | .hbm, ⟨2, _⟩ => ⟨S3x20000, .f32⟩
  | .hbm, ⟨3, _⟩ => ⟨S256x64, .i32⟩
  | .hbm, ⟨4, _⟩ => ⟨S4x1x20000, .f32⟩
  | .hbm, ⟨5, _⟩ => ⟨S4x1x20000, .i32⟩
  | .hbm, ⟨6, _⟩ => ⟨S4x20000, .f32⟩
  | .hbm, ⟨7, _⟩ => ⟨S4x20000, .i32⟩
  | .hbm, ⟨8, _⟩ => ⟨S4x20000, .i32⟩
  | .hbm, ⟨9, _⟩ => ⟨S_, .f32⟩
  | .hbm, ⟨10, _⟩ => ⟨S_, .i32⟩
  | .hbm, ⟨11, _⟩ => ⟨S20000, .f32⟩
  | .hbm, ⟨12, _⟩ => ⟨S20000, .i32⟩
  | .hbm, ⟨13, _⟩ => ⟨S1x20000, .i32⟩
  | .hbm, ⟨14, _⟩ => ⟨S_, .i32⟩
  | .hbm, ⟨15, _⟩ => ⟨S1x20000, .i32⟩
  | .hbm, ⟨16, _⟩ => ⟨S1x20000, .i1⟩
  | .hbm, ⟨17, _⟩ => ⟨S_, .i32⟩
  | .hbm, ⟨18, _⟩ => ⟨S1x20000, .i32⟩
  | .hbm, ⟨19, _⟩ => ⟨S1x20000, .i32⟩
  | .hbm, ⟨20, _⟩ => ⟨S1x20000, .i32⟩
  | .hbm, ⟨21, _⟩ => ⟨S1x20000x1, .i32⟩
  | .hbm, ⟨22, _⟩ => ⟨S1, .i32⟩
  | .hbm, ⟨23, _⟩ => ⟨S_, .i32⟩
  | .hbm, ⟨24, _⟩ => ⟨S1x20000x1, .i32⟩
  | .hbm, ⟨25, _⟩ => ⟨S1x20000x1, .i1⟩
  | .hbm, ⟨26, _⟩ => ⟨S1x1x1, .i32⟩
  | .hbm, ⟨27, _⟩ => ⟨S1x20000x1, .i32⟩
  | .hbm, ⟨28, _⟩ => ⟨S1x20000x1, .i1⟩
  | .hbm, ⟨29, _⟩ => ⟨S1x20000x1, .i1⟩
  | .hbm, ⟨30, _⟩ => ⟨S_, .i1⟩
  | .hbm, ⟨31, _⟩ => ⟨S1x20000, .i1⟩
  | .hbm, ⟨32, _⟩ => ⟨S1x20000, .i32⟩
  | .hbm, ⟨33, _⟩ => ⟨S_, .i32⟩
  | .hbm, ⟨34, _⟩ => ⟨S1x20000, .i32⟩
  | .hbm, ⟨35, _⟩ => ⟨S1x20000, .i32⟩
  | .hbm, ⟨36, _⟩ => ⟨S20000, .i32⟩
  | .hbm, ⟨37, _⟩ => ⟨S_, .i1⟩
  | .hbm, ⟨38, _⟩ => ⟨S256, .i1⟩
  | .hbm, ⟨39, _⟩ => ⟨S_, .i32⟩
  | .hbm, ⟨40, _⟩ => ⟨S20000, .i32⟩
  | .hbm, ⟨41, _⟩ => ⟨S20000, .i1⟩
  | .hbm, ⟨42, _⟩ => ⟨S_, .i32⟩
  | .hbm, ⟨43, _⟩ => ⟨S20000, .i32⟩
  | .hbm, ⟨44, _⟩ => ⟨S20000, .i32⟩
  | .hbm, ⟨45, _⟩ => ⟨S20000, .i32⟩
  | .hbm, ⟨46, _⟩ => ⟨S20000x1, .i32⟩
  | .hbm, ⟨47, _⟩ => ⟨S_, .i1⟩
  | .hbm, ⟨48, _⟩ => ⟨S20000, .i1⟩
  | .hbm, ⟨49, _⟩ => ⟨S256, .i1⟩
  | .hbm, ⟨50, _⟩ => ⟨S_, .i32⟩
  | .hbm, ⟨51, _⟩ => ⟨S256x64, .i32⟩
  | .hbm, ⟨52, _⟩ => ⟨S256x64, .i1⟩
  | .hbm, ⟨53, _⟩ => ⟨S_, .i32⟩
  | .hbm, ⟨54, _⟩ => ⟨S256x64, .i32⟩
  | .hbm, ⟨55, _⟩ => ⟨S256x64, .i32⟩
  | .hbm, ⟨56, _⟩ => ⟨S256x64, .i32⟩
  | .hbm, ⟨57, _⟩ => ⟨S256x64x1, .i32⟩
  | .hbm, ⟨58, _⟩ => ⟨S256x64, .i32⟩
  | .hbm, ⟨59, _⟩ => ⟨S256, .i32⟩
  | .hbm, ⟨60, _⟩ => ⟨S256x1, .i32⟩
  | .hbm, ⟨61, _⟩ => ⟨S256x64, .i32⟩
  | .hbm, ⟨62, _⟩ => ⟨S256x64, .i1⟩
  | .local _ .vmem, ⟨0, _⟩ => ⟨S64x3, .f32⟩
  | .local _ .vmem, ⟨1, _⟩ => ⟨S64x3, .f32⟩
  | .local _ .vmem, ⟨2, _⟩ => ⟨S3x20000, .f32⟩
  | .local _ .vmem, ⟨3, _⟩ => ⟨S64x64, .i32⟩
  | .local _ .vmem, ⟨4, _⟩ => ⟨S64x64, .i32⟩
  | .local _ .vmem, ⟨5, _⟩ => ⟨S1x1x20000, .f32⟩
  | .local _ .vmem, ⟨6, _⟩ => ⟨S1x1x20000, .f32⟩
  | .local _ .vmem, ⟨7, _⟩ => ⟨S1x1x20000, .i32⟩
  | .local _ .vmem, ⟨8, _⟩ => ⟨S1x1x20000, .i32⟩
  | _, _ => ⟨S20000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_cst : Ref sig .tc := ⟨.hbm, 9, rfl⟩
abbrev main_call0_c : Ref sig .tc := ⟨.hbm, 10, rfl⟩
abbrev main_call0_v1_0 : Ref sig .tc := ⟨.hbm, 11, rfl⟩
abbrev main_v4 : Ref sig .tc := ⟨.hbm, 12, rfl⟩
abbrev main_v5 : Ref sig .tc := ⟨.hbm, 13, rfl⟩
abbrev main_call1_c : Ref sig .tc := ⟨.hbm, 14, rfl⟩
abbrev main_call1_v0 : Ref sig .tc := ⟨.hbm, 15, rfl⟩
abbrev main_call1_v1 : Ref sig .tc := ⟨.hbm, 16, rfl⟩
abbrev main_call1_c_0 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_v5 : Ref sig .tc := ⟨.hbm, 21, rfl⟩
abbrev main_call1_c_1 : Ref sig .tc := ⟨.hbm, 22, rfl⟩
abbrev main_call1_c_2 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_call1_v9 : Ref sig .tc := ⟨.hbm, 27, rfl⟩
abbrev main_call1_v10 : Ref sig .tc := ⟨.hbm, 28, rfl⟩
abbrev main_call1_v11 : Ref sig .tc := ⟨.hbm, 29, rfl⟩
abbrev main_call1_c_3 : Ref sig .tc := ⟨.hbm, 30, rfl⟩
abbrev main_call1_v12 : Ref sig .tc := ⟨.hbm, 31, rfl⟩
abbrev main_call1_v13 : Ref sig .tc := ⟨.hbm, 32, rfl⟩
abbrev main_call1_c_4 : Ref sig .tc := ⟨.hbm, 33, rfl⟩
abbrev main_call1_v14 : Ref sig .tc := ⟨.hbm, 34, rfl⟩
abbrev main_v6 : Ref sig .tc := ⟨.hbm, 35, rfl⟩
abbrev main_v7 : Ref sig .tc := ⟨.hbm, 36, rfl⟩
abbrev main_c : Ref sig .tc := ⟨.hbm, 37, rfl⟩
abbrev main_v8 : Ref sig .tc := ⟨.hbm, 38, rfl⟩
abbrev main_c_0 : Ref sig .tc := ⟨.hbm, 39, rfl⟩
abbrev main_v9 : Ref sig .tc := ⟨.hbm, 40, rfl⟩
abbrev main_v10 : Ref sig .tc := ⟨.hbm, 41, rfl⟩
abbrev main_c_1 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_c_2 : Ref sig .tc := ⟨.hbm, 47, rfl⟩
abbrev main_v15 : Ref sig .tc := ⟨.hbm, 48, rfl⟩
abbrev main_v16 : Ref sig .tc := ⟨.hbm, 49, rfl⟩
abbrev main_c_3 : Ref sig .tc := ⟨.hbm, 50, rfl⟩
abbrev main_v17 : Ref sig .tc := ⟨.hbm, 51, rfl⟩
abbrev main_v18 : Ref sig .tc := ⟨.hbm, 52, rfl⟩
abbrev main_c_4 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_13 : BitVec 32 := 0#32
  let c64_i32_14 : BitVec 32 := 64#32
  let v45 : BitVec 32 := Scalar.addi c0_i32_13 c64_i32_14
  let c1_i32 : BitVec 32 := 1#32
  ⟨c0_i32_13, v45, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x20000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x64 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x20000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x20000 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PartitionReferenceIdeal.lean ====
abbrev S20000x3 : Shape := ⟨2, ![20000, 3]⟩
abbrev S256x3 : Shape := ⟨2, ![256, 3]⟩
abbrev S20000x1x3 : Shape := ⟨3, ![20000, 1, 3]⟩
abbrev S1x256x3 : Shape := ⟨3, ![1, 256, 3]⟩
abbrev S20000x256x3 : Shape := ⟨3, ![20000, 256, 3]⟩
abbrev S_ : Shape := ⟨0, ![]⟩
abbrev S20000x256 : Shape := ⟨2, ![20000, 256]⟩
abbrev S20000 : Shape := ⟨1, ![20000]⟩
abbrev S256 : Shape := ⟨1, ![256]⟩
abbrev S20000x1 : Shape := ⟨2, ![20000, 1]⟩
abbrev S256x20000 : Shape := ⟨2, ![256, 20000]⟩
abbrev S256x64 : Shape := ⟨2, ![256, 64]⟩
abbrev S256x64x1 : Shape := ⟨3, ![256, 64, 1]⟩
abbrev S256x1 : Shape := ⟨2, ![256, 1]⟩

abbrev nBuf : Space → Nat
  | .hbm => 45
  | .vmem => 0
  | .smem => 0
  | _ => 0

abbrev bufTy : (tb : Table) → Fin (tcTables nBuf tb) → BufTy
  | .hbm, ⟨0, _⟩ => ⟨S20000x3, .f32⟩
  | .hbm, ⟨1, _⟩ => ⟨S256x3, .f32⟩
  | .hbm, ⟨2, _⟩ => ⟨S20000x1x3, .f32⟩
  | .hbm, ⟨3, _⟩ => ⟨S1x256x3, .f32⟩
  | .hbm, ⟨4, _⟩ => ⟨S20000x256x3, .f32⟩
  | .hbm, ⟨5, _⟩ => ⟨S20000x256x3, .f32⟩
  | .hbm, ⟨6, _⟩ => ⟨S20000x256x3, .f32⟩
  | .hbm, ⟨7, _⟩ => ⟨S20000x256x3, .f32⟩
  | .hbm, ⟨8, _⟩ => ⟨S_, .f32⟩
  | .hbm, ⟨9, _⟩ => ⟨S20000x256, .f32⟩
  | .hbm, ⟨10, _⟩ => ⟨S20000x256, .i32⟩
  | .hbm, ⟨11, _⟩ => ⟨S_, .f32⟩
  | .hbm, ⟨12, _⟩ => ⟨S_, .i32⟩
  | .hbm, ⟨13, _⟩ => ⟨S20000, .f32⟩
  | .hbm, ⟨14, _⟩ => ⟨S20000, .i32⟩
  | .hbm, ⟨15, _⟩ => ⟨S_, .i1⟩
  | .hbm, ⟨16, _⟩ => ⟨S256, .i1⟩
  | .hbm, ⟨17, _⟩ => ⟨S_, .i32⟩
  | .hbm, ⟨18, _⟩ => ⟨S20000, .i32⟩
  | .hbm, ⟨19, _⟩ => ⟨S20000, .i1⟩
  | .hbm, ⟨20, _⟩ => ⟨S_, .i32⟩
  | .hbm, ⟨21, _⟩ => ⟨S20000, .i32⟩
  | .hbm, ⟨22, _⟩ => ⟨S20000, .i32⟩
  | .hbm, ⟨23, _⟩ => ⟨S20000, .i32⟩
  | .hbm, ⟨24, _⟩ => ⟨S20000x1, .i32⟩
  | .hbm, ⟨25, _⟩ => ⟨S_, .i1⟩
  | .hbm, ⟨26, _⟩ => ⟨S20000, .i1⟩
  | .hbm, ⟨27, _⟩ => ⟨S256, .i1⟩
  | .hbm, ⟨28, _⟩ => ⟨S256x20000, .f32⟩
  | .hbm, ⟨29, _⟩ => ⟨S256x20000, .f32⟩
  | .hbm, ⟨30, _⟩ => ⟨S256x64, .f32⟩
  | .hbm, ⟨31, _⟩ => ⟨S256x64, .i32⟩
  | .hbm, ⟨32, _⟩ => ⟨S_, .i32⟩
  | .hbm, ⟨33, _⟩ => ⟨S256x64, .i32⟩
  | .hbm, ⟨34, _⟩ => ⟨S256x64, .i1⟩
  | .hbm, ⟨35, _⟩ => ⟨S_, .i32⟩
  | .hbm, ⟨36, _⟩ => ⟨S256x64, .i32⟩
  | .hbm, ⟨37, _⟩ => ⟨S256x64, .i32⟩
  | .hbm, ⟨38, _⟩ => ⟨S256x64, .i32⟩
  | .hbm, ⟨39, _⟩ => ⟨S256x64x1, .i32⟩
  | .hbm, ⟨40, _⟩ => ⟨S256x64, .i32⟩
  | .hbm, ⟨41, _⟩ => ⟨S256, .i32⟩
  | .hbm, ⟨42, _⟩ => ⟨S256x1, .i32⟩
  | .hbm, ⟨43, _⟩ => ⟨S256x64, .i32⟩
  | .hbm, ⟨44, _⟩ => ⟨S256x64, .i1⟩
  | _, _ => ⟨S20000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_call0_v0 : Ref sig .tc := ⟨.hbm, 10, rfl⟩
abbrev main_call0_cst : Ref sig .tc := ⟨.hbm, 11, rfl⟩
abbrev main_call0_c : Ref sig .tc := ⟨.hbm, 12, rfl⟩
abbrev main_call0_v1_0 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_values : Ref sig .tc := ⟨.hbm, 30, rfl⟩
abbrev main_indices : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== Matching.lean ====
abbrev S20000x256 : Shape := ⟨2, ![20000, 256]⟩
abbrev S256x256 : Shape := ⟨2, ![256, 256]⟩
abbrev S256 : Shape := ⟨1, ![256]⟩
abbrev S256x64 : Shape := ⟨2, ![256, 64]⟩
abbrev S1 : Shape := ⟨1, ![1]⟩
abbrev S_ : Shape := ⟨0, ![]⟩
abbrev S256x1 : Shape := ⟨2, ![256, 1]⟩
abbrev S1x256 : Shape := ⟨2, ![1, 256]⟩
abbrev S65536 : Shape := ⟨1, ![65536]⟩
abbrev S20001x256 : Shape := ⟨2, ![20001, 256]⟩
abbrev S256x64x1 : Shape := ⟨3, ![256, 64, 1]⟩
abbrev S256x64x256 : Shape := ⟨3, ![256, 64, 256]⟩
abbrev S256x72x256 : Shape := ⟨3, ![256, 72, 256]⟩
abbrev S256x128x256 : Shape := ⟨3, ![256, 128, 256]⟩
abbrev S256x72 : Shape := ⟨2, ![256, 72]⟩
abbrev S256x128 : Shape := ⟨2, ![256, 128]⟩
abbrev S256x65x65 : Shape := ⟨3, ![256, 65, 65]⟩
abbrev S32x72x256 : Shape := ⟨3, ![32, 72, 256]⟩
abbrev S32x128x256 : Shape := ⟨3, ![32, 128, 256]⟩
abbrev S32x72 : Shape := ⟨2, ![32, 72]⟩
abbrev S32x128 : Shape := ⟨2, ![32, 128]⟩
abbrev S32x65x65 : Shape := ⟨3, ![32, 65, 65]⟩
abbrev S32x72x128 : Shape := ⟨3, ![32, 72, 128]⟩
abbrev S32x72x1 : Shape := ⟨3, ![32, 72, 1]⟩
abbrev S32x1x128 : Shape := ⟨3, ![32, 1, 128]⟩
abbrev S1x72x1 : Shape := ⟨3, ![1, 72, 1]⟩
abbrev S1x1x128 : Shape := ⟨3, ![1, 1, 128]⟩
abbrev S1x72x128 : Shape := ⟨3, ![1, 72, 128]⟩
abbrev S32x1 : Shape := ⟨2, ![32, 1]⟩
abbrev S32x1x1 : Shape := ⟨3, ![32, 1, 1]⟩

abbrev nBuf : Space → Nat
  | .hbm => 197
  | .vmem => 10
  | .smem => 1
  | _ => 0

abbrev hbmTy0_0 (i : Nat) : BufTy := match i % 128 with
  | 0 => ⟨S20000x256, .f32⟩
  | 1 => ⟨S20000x256, .f32⟩
  | 2 => ⟨S256x256, .f32⟩
  | 3 => ⟨S256x256, .f32⟩
  | 4 => ⟨S256, .i1⟩
  | 5 => ⟨S256, .i1⟩
  | 6 => ⟨S256x64, .i32⟩
  | 7 => ⟨S256x64, .i32⟩
  | 8 => ⟨S256x64, .i1⟩
  | 9 => ⟨S256x64, .i1⟩
  | 10 => ⟨S1, .f32⟩
  | 11 => ⟨S256x256, .f32⟩
  | 12 => ⟨S_, .f32⟩
  | 13 => ⟨S256, .f32⟩
  | 14 => ⟨S256x1, .f32⟩
  | 15 => ⟨S256x1, .f32⟩
  | 16 => ⟨S_, .f32⟩
  | 17 => ⟨S256x1, .f32⟩
  | 18 => ⟨S256x1, .f32⟩
  | 19 => ⟨S256x256, .f32⟩
  | 20 => ⟨S256x256, .f32⟩
  | 21 => ⟨S256x256, .f32⟩
  | 22 => ⟨S_, .f32⟩
  | 23 => ⟨S256, .f32⟩
  | 24 => ⟨S256x1, .f32⟩
  | 25 => ⟨S256x1, .f32⟩
  | 26 => ⟨S_, .f32⟩
  | 27 => ⟨S256x1, .f32⟩
  | 28 => ⟨S256x1, .f32⟩
  | 29 => ⟨S256x256, .f32⟩
  | 30 => ⟨S256x256, .f32⟩
  | 31 => ⟨S256x256, .f32⟩
  | 32 => ⟨S256x256, .f32⟩
  | 33 => ⟨S_, .f32⟩
  | 34 => ⟨S256x256, .f32⟩
  | 35 => ⟨S256x256, .f32⟩
  | 36 => ⟨S_, .f32⟩
  | 37 => ⟨S256x256, .f32⟩
  | 38 => ⟨S256x256, .f32⟩
  | 39 => ⟨S256x256, .f32⟩
  | 40 => ⟨S256x256, .f32⟩
  | 41 => ⟨S256x1, .i1⟩
  | 42 => ⟨S1x256, .i1⟩
  | 43 => ⟨S256x256, .i1⟩
  | 44 => ⟨S256x256, .i1⟩
  | 45 => ⟨S256x256, .i1⟩
  | 46 => ⟨S_, .f32⟩
  | 47 => ⟨S_, .f32⟩
  | 48 => ⟨S256x256, .f32⟩
  | 49 => ⟨S256x256, .f32⟩
  | 50 => ⟨S_, .f32⟩
  | 51 => ⟨S256, .f32⟩
  | 52 => ⟨S256x1, .f32⟩
  | 53 => ⟨S_, .f32⟩
  | 54 => ⟨S256x1, .f32⟩
  | 55 => ⟨S256x1, .f32⟩
  | 56 => ⟨S256x256, .f32⟩
  | 57 => ⟨S256x256, .f32⟩
  | 58 => ⟨S_, .f32⟩
  | 59 => ⟨S256, .f32⟩
  | 60 => ⟨S1x256, .f32⟩
  | 61 => ⟨S_, .f32⟩
  | 62 => ⟨S1x256, .f32⟩
  | 63 => ⟨S1x256, .f32⟩
  | 64 => ⟨S256x256, .f32⟩
  | 65 => ⟨S256x256, .f32⟩
  | 66 => ⟨S256x256, .f32⟩
  | 67 => ⟨S65536, .f32⟩
  | 68 => ⟨S256, .f32⟩
  | 69 => ⟨S256, .i32⟩
  | 70 => ⟨S_, .i32⟩
  | 71 => ⟨S_, .i32⟩
  | 72 => ⟨S256, .i32⟩
  | 73 => ⟨S256, .i32⟩
  | 74 => ⟨S256, .i32⟩
  | 75 => ⟨S_, .i32⟩
  | 76 => ⟨S256, .i32⟩
  | 77 => ⟨S256, .i1⟩
  | 78 => ⟨S256, .i32⟩
  | 79 => ⟨S256, .i32⟩
  | 80 => ⟨S_, .i32⟩
  | 81 => ⟨S256, .i32⟩
  | 82 => ⟨S256, .i1⟩
  | 83 => ⟨S256, .i1⟩
  | 84 => ⟨S_, .i32⟩
  | 85 => ⟨S256, .i32⟩
  | 86 => ⟨S256, .i32⟩
  | 87 => ⟨S256, .i32⟩
  | 88 => ⟨S_, .i32⟩
  | 89 => ⟨S_, .i32⟩
  | 90 => ⟨S_, .i32⟩
  | 91 => ⟨S_, .i1⟩
  | 92 => ⟨S_, .i32⟩
  | 93 => ⟨S_, .i32⟩
  | 94 => ⟨S256, .i32⟩
  | 95 => ⟨S256, .i32⟩
  | 96 => ⟨S_, .i32⟩
  | 97 => ⟨S256, .i32⟩
  | 98 => ⟨S256, .i1⟩
  | 99 => ⟨S_, .i32⟩
  | 100 => ⟨S256, .i32⟩
  | 101 => ⟨S256, .i1⟩
  | 102 => ⟨S_, .i32⟩
  | 103 => ⟨S_, .i1⟩
  | 104 => ⟨S256, .i1⟩
  | 105 => ⟨S256, .i1⟩
  | 106 => ⟨S256, .i1⟩
  | 107 => ⟨S256, .i32⟩
  | 108 => ⟨S256, .i32⟩
  | 109 => ⟨S256, .i32⟩
  | 110 => ⟨S_, .i32⟩
  | 111 => ⟨S256, .i32⟩
  | 112 => ⟨S256, .i1⟩
  | 113 => ⟨S_, .i32⟩
  | 114 => ⟨S256, .i32⟩
  | 115 => ⟨S256, .i32⟩
  | 116 => ⟨S256, .i32⟩
  | 117 => ⟨S256x1, .i32⟩
  | 118 => ⟨S256x64, .i32⟩
  | 119 => ⟨S_, .i32⟩
  | 120 => ⟨S256, .i32⟩
  | 121 => ⟨S256, .i1⟩
  | 122 => ⟨S_, .i32⟩
  | 123 => ⟨S256, .i32⟩
  | 124 => ⟨S256, .i32⟩
  | 125 => ⟨S256, .i32⟩
  | 126 => ⟨S256x1, .i32⟩
  | 127 => ⟨S256x64, .i32⟩
  | _ => ⟨S20000x256, .f32⟩

abbrev hbmTy0_1 (i : Nat) : BufTy := match i % 128 with
  | 0 => ⟨S_, .i32⟩
  | 1 => ⟨S256, .i32⟩
  | 2 => ⟨S256, .i1⟩
  | 3 => ⟨S_, .i32⟩
  | 4 => ⟨S256, .i32⟩
  | 5 => ⟨S256, .i32⟩
  | 6 => ⟨S256, .i32⟩
  | 7 => ⟨S256x1, .i32⟩
  | 8 => ⟨S256x64, .i1⟩
  | 9 => ⟨S_, .i32⟩
  | 10 => ⟨S256, .i32⟩
  | 11 => ⟨S256, .i1⟩
  | 12 => ⟨S_, .i32⟩
  | 13 => ⟨S256, .i32⟩
  | 14 => ⟨S256, .i32⟩
  | 15 => ⟨S256, .i32⟩
  | 16 => ⟨S256x1, .i32⟩
  | 17 => ⟨S256x64, .i1⟩
  | 18 => ⟨S1x256, .f32⟩
  | 19 => ⟨S_, .f32⟩
  | 20 => ⟨S1x256, .f32⟩
  | 21 => ⟨S20001x256, .f32⟩
  | 22 => ⟨S1x256, .f32⟩
  | 23 => ⟨S_, .f32⟩
  | 24 => ⟨S1x256, .f32⟩
  | 25 => ⟨S20001x256, .f32⟩
  | 26 => ⟨S_, .i32⟩
  | 27 => ⟨S256x64, .i32⟩
  | 28 => ⟨S256x64, .i1⟩
  | 29 => ⟨S_, .i32⟩
  | 30 => ⟨S256x64, .i32⟩
  | 31 => ⟨S256x64, .i32⟩
  | 32 => ⟨S256x64, .i32⟩
  | 33 => ⟨S256x64x1, .i32⟩
  | 34 => ⟨S256x64x256, .f32⟩
  | 35 => ⟨S_, .i32⟩
  | 36 => ⟨S256x64, .i32⟩
  | 37 => ⟨S256x64, .i1⟩
  | 38 => ⟨S_, .i32⟩
  | 39 => ⟨S256x64, .i32⟩
  | 40 => ⟨S256x64, .i32⟩
  | 41 => ⟨S256x64, .i32⟩
  | 42 => ⟨S256x64x1, .i32⟩
  | 43 => ⟨S256x64x256, .f32⟩
  | 44 => ⟨S_, .i32⟩
  | 45 => ⟨S_, .f32⟩
  | 46 => ⟨S256x72x256, .f32⟩
  | 47 => ⟨S_, .i32⟩
  | 48 => ⟨S_, .f32⟩
  | 49 => ⟨S256x128x256, .f32⟩
  | 50 => ⟨S256x64, .f32⟩
  | 51 => ⟨S_, .i32⟩
  | 52 => ⟨S_, .f32⟩
  | 53 => ⟨S256x72, .f32⟩
  | 54 => ⟨S_, .i32⟩
  | 55 => ⟨S1, .i32⟩
  | 56 => ⟨S_, .f32⟩
  | 57 => ⟨S256, .f32⟩
  | 58 => ⟨S256x72, .f32⟩
  | 59 => ⟨S256x64, .f32⟩
  | 60 => ⟨S_, .i32⟩
  | 61 => ⟨S_, .f32⟩
  | 62 => ⟨S256x128, .f32⟩
  | 63 => ⟨S_, .i32⟩
  | 64 => ⟨S1, .i32⟩
  | 65 => ⟨S_, .f32⟩
  | 66 => ⟨S256, .f32⟩
  | 67 => ⟨S256x128, .f32⟩
  | 68 => ⟨S256x65x65, .f32⟩
  | _ => ⟨S20000x256, .f32⟩

abbrev hbmTy (i : Nat) : BufTy := match i / 128 with
  | 0 => hbmTy0_0 i
  | 1 => hbmTy0_1 i
  | _ => ⟨S20000x256, .f32⟩

abbrev bufTy : (tb : Table) → Fin (tcTables nBuf tb) → BufTy
  | .hbm, ⟨i, _⟩ => hbmTy i
  | .local _ .vmem, ⟨0, _⟩ => ⟨S32x72x256, .f32⟩
  | .local _ .vmem, ⟨1, _⟩ => ⟨S32x72x256, .f32⟩
  | .local _ .vmem, ⟨2, _⟩ => ⟨S32x128x256, .f32⟩
  | .local _ .vmem, ⟨3, _⟩ => ⟨S32x128x256, .f32⟩
  | .local _ .vmem, ⟨4, _⟩ => ⟨S32x72, .f32⟩
  | .local _ .vmem, ⟨5, _⟩ => ⟨S32x72, .f32⟩
  | .local _ .vmem, ⟨6, _⟩ => ⟨S32x128, .f32⟩
  | .local _ .vmem, ⟨7, _⟩ => ⟨S32x128, .f32⟩
  | .local _ .vmem, ⟨8, _⟩ => ⟨S32x65x65, .f32⟩
  | .local _ .vmem, ⟨9, _⟩ => ⟨S32x65x65, .f32⟩
  | .local _ .smem, ⟨0, _⟩ => ⟨S1, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_call0_v2 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_call1_v0 : Ref sig .tc := ⟨.hbm, 21, rfl⟩
abbrev main_call1_cst : Ref sig .tc := ⟨.hbm, 22, rfl⟩
abbrev main_call1_v1 : Ref sig .tc := ⟨.hbm, 23, rfl⟩
abbrev main_call1_v2 : Ref sig .tc := ⟨.hbm, 24, rfl⟩
abbrev main_v5 : Ref sig .tc := ⟨.hbm, 25, rfl⟩
abbrev main_cst_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_1 : Ref sig .tc := ⟨.hbm, 33, rfl⟩
abbrev main_v12 : Ref sig .tc := ⟨.hbm, 34, rfl⟩
abbrev main_v13 : Ref sig .tc := ⟨.hbm, 35, rfl⟩
abbrev main_cst_2 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_3 : Ref sig .tc := ⟨.hbm, 46, rfl⟩
abbrev main_call2_v0 : Ref sig .tc := ⟨.hbm, 47, rfl⟩
abbrev main_call2_v1 : Ref sig .tc := ⟨.hbm, 48, rfl⟩
abbrev main_v23 : Ref sig .tc := ⟨.hbm, 49, rfl⟩
abbrev main_cst_4 : Ref sig .tc := ⟨.hbm, 50, rfl⟩
abbrev main_v24 : Ref sig .tc := ⟨.hbm, 51, rfl⟩
abbrev main_v25 : Ref sig .tc := ⟨.hbm, 52, rfl⟩
abbrev main_cst_5 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst_6 : Ref sig .tc := ⟨.hbm, 58, rfl⟩
abbrev main_v30 : Ref sig .tc := ⟨.hbm, 59, rfl⟩
abbrev main_v31 : Ref sig .tc := ⟨.hbm, 60, rfl⟩
abbrev main_cst_7 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_values : Ref sig .tc := ⟨.hbm, 68, rfl⟩
abbrev main_indices : Ref sig .tc := ⟨.hbm, 69, rfl⟩
abbrev main_c : Ref sig .tc := ⟨.hbm, 70, rfl⟩
abbrev main_call3_v0 : Ref sig .tc := ⟨.hbm, 71, rfl⟩
abbrev main_call3_v1 : Ref sig .tc := ⟨.hbm, 72, rfl⟩
abbrev main_call3_v2 : Ref sig .tc := ⟨.hbm, 73, rfl⟩
abbrev main_call3_v3 : Ref sig .tc := ⟨.hbm, 74, rfl⟩
abbrev main_call3_v4 : Ref sig .tc := ⟨.hbm, 75, rfl⟩
abbrev main_call3_v5 : Ref sig .tc := ⟨.hbm, 76, rfl⟩
abbrev main_call3_v6 : Ref sig .tc := ⟨.hbm, 77, rfl⟩
abbrev main_call3_v7 : Ref sig .tc := ⟨.hbm, 78, rfl⟩
abbrev main_call3_v8 : Ref sig .tc := ⟨.hbm, 79, rfl⟩
abbrev main_call3_c : Ref sig .tc := ⟨.hbm, 80, rfl⟩
abbrev main_call3_v9 : Ref sig .tc := ⟨.hbm, 81, rfl⟩
abbrev main_call3_v10 : Ref sig .tc := ⟨.hbm, 82, rfl⟩
abbrev main_call3_v11 : Ref sig .tc := ⟨.hbm, 83, rfl⟩
abbrev main_call3_c_0 : Ref sig .tc := ⟨.hbm, 84, rfl⟩
abbrev main_call3_v12 : Ref sig .tc := ⟨.hbm, 85, rfl⟩
abbrev main_call3_v13 : Ref sig .tc := ⟨.hbm, 86, rfl⟩
abbrev main_v38 : Ref sig .tc := ⟨.hbm, 87, rfl⟩
abbrev main_c_8 : Ref sig .tc := ⟨.hbm, 88, rfl⟩
abbrev main_call4_v0 : Ref sig .tc := ⟨.hbm, 89, rfl⟩
abbrev main_call4_c : Ref sig .tc := ⟨.hbm, 90, rfl⟩
abbrev main_call4_v1 : Ref sig .tc := ⟨.hbm, 91, rfl⟩
abbrev main_call4_c_0 : Ref sig .tc := ⟨.hbm, 92, rfl⟩
abbrev main_call4_v2 : Ref sig .tc := ⟨.hbm, 93, rfl⟩
abbrev main_call4_v3 : Ref sig .tc := ⟨.hbm, 94, rfl⟩
abbrev main_call4_v4 : Ref sig .tc := ⟨.hbm, 95, rfl⟩
abbrev main_call4_c_1 : Ref sig .tc := ⟨.hbm, 96, rfl⟩
abbrev main_call4_v5 : Ref sig .tc := ⟨.hbm, 97, rfl⟩
abbrev main_call4_v6 : Ref sig .tc := ⟨.hbm, 98, rfl⟩
abbrev main_call4_c_2 : Ref sig .tc := ⟨.hbm, 99, rfl⟩
abbrev main_call4_v7 : Ref sig .tc := ⟨.hbm, 100, rfl⟩
abbrev main_call4_v8 : Ref sig .tc := ⟨.hbm, 101, rfl⟩
abbrev main_call4_c_3 : Ref sig .tc := ⟨.hbm, 102, rfl⟩
abbrev main_call4_v9 : Ref sig .tc := ⟨.hbm, 103, rfl⟩
abbrev main_call4_v10 : Ref sig .tc := ⟨.hbm, 104, rfl⟩
abbrev main_call4_v11 : Ref sig .tc := ⟨.hbm, 105, rfl⟩
abbrev main_call4_v12 : Ref sig .tc := ⟨.hbm, 106, rfl⟩
abbrev main_call4_v13 : Ref sig .tc := ⟨.hbm, 107, rfl⟩
abbrev main_call4_v14 : Ref sig .tc := ⟨.hbm, 108, rfl⟩
abbrev main_v39 : Ref sig .tc := ⟨.hbm, 109, rfl⟩
abbrev main_c_9 : Ref sig .tc := ⟨.hbm, 110, rfl⟩
abbrev main_v40 : Ref sig .tc := ⟨.hbm, 111, rfl⟩
abbrev main_v41 : Ref sig .tc := ⟨.hbm, 112, rfl⟩
abbrev main_c_10 : Ref sig .tc := ⟨.hbm, 113, rfl⟩
abbrev main_v42 : Ref sig .tc := ⟨.hbm, 114, rfl⟩
abbrev main_v43 : Ref sig .tc := ⟨.hbm, 115, rfl⟩
abbrev main_v44 : Ref sig .tc := ⟨.hbm, 116, rfl⟩
abbrev main_v45 : Ref sig .tc := ⟨.hbm, 117, rfl⟩
abbrev main_v46 : Ref sig .tc := ⟨.hbm, 118, rfl⟩
abbrev main_c_11 : Ref sig .tc := ⟨.hbm, 119, rfl⟩
abbrev main_v47 : Ref sig .tc := ⟨.hbm, 120, rfl⟩
abbrev main_v48 : Ref sig .tc := ⟨.hbm, 121, rfl⟩
abbrev main_c_12 : Ref sig .tc := ⟨.hbm, 122, rfl⟩
abbrev main_v49 : Ref sig .tc := ⟨.hbm, 123, rfl⟩
abbrev main_v50 : Ref sig .tc := ⟨.hbm, 124, rfl⟩
abbrev main_v51 : Ref sig .tc := ⟨.hbm, 125, rfl⟩
abbrev main_v52 : Ref sig .tc := ⟨.hbm, 126, rfl⟩
abbrev main_v53 : Ref sig .tc := ⟨.hbm, 127, rfl⟩
abbrev main_c_13 : Ref sig .tc := ⟨.hbm, 128, rfl⟩
abbrev main_v54 : Ref sig .tc := ⟨.hbm, 129, rfl⟩
abbrev main_v55 : Ref sig .tc := ⟨.hbm, 130, rfl⟩
abbrev main_c_14 : Ref sig .tc := ⟨.hbm, 131, rfl⟩
abbrev main_v56 : Ref sig .tc := ⟨.hbm, 132, rfl⟩
abbrev main_v57 : Ref sig .tc := ⟨.hbm, 133, rfl⟩
abbrev main_v58 : Ref sig .tc := ⟨.hbm, 134, rfl⟩
abbrev main_v59 : Ref sig .tc := ⟨.hbm, 135, rfl⟩
abbrev main_v60 : Ref sig .tc := ⟨.hbm, 136, rfl⟩
abbrev main_c_15 : Ref sig .tc := ⟨.hbm, 137, rfl⟩
abbrev main_v61 : Ref sig .tc := ⟨.hbm, 138, rfl⟩
abbrev main_v62 : Ref sig .tc := ⟨.hbm, 139, rfl⟩
abbrev main_c_16 : Ref sig .tc := ⟨.hbm, 140, rfl⟩
abbrev main_v63 : Ref sig .tc := ⟨.hbm, 141, rfl⟩
abbrev main_v64 : Ref sig .tc := ⟨.hbm, 142, rfl⟩
abbrev main_v65 : Ref sig .tc := ⟨.hbm, 143, rfl⟩
abbrev main_v66 : Ref sig .tc := ⟨.hbm, 144, rfl⟩
abbrev main_v67 : Ref sig .tc := ⟨.hbm, 145, rfl⟩
abbrev main_v68 : Ref sig .tc := ⟨.hbm, 146, rfl⟩
abbrev main_cst_17 : Ref sig .tc := ⟨.hbm, 147, rfl⟩
abbrev main_v69 : Ref sig .tc := ⟨.hbm, 148, rfl⟩
abbrev main_v70 : Ref sig .tc := ⟨.hbm, 149, rfl⟩
abbrev main_v71 : Ref sig .tc := ⟨.hbm, 150, rfl⟩
abbrev main_cst_18 : Ref sig .tc := ⟨.hbm, 151, rfl⟩
abbrev main_v72 : Ref sig .tc := ⟨.hbm, 152, rfl⟩
abbrev main_v73 : Ref sig .tc := ⟨.hbm, 153, rfl⟩
abbrev main_c_19 : Ref sig .tc := ⟨.hbm, 154, rfl⟩
abbrev main_v74 : Ref sig .tc := ⟨.hbm, 155, rfl⟩
abbrev main_v75 : Ref sig .tc := ⟨.hbm, 156, rfl⟩
abbrev main_c_20 : Ref sig .tc := ⟨.hbm, 157, rfl⟩
abbrev main_v76 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_v80 : Ref sig .tc := ⟨.hbm, 162, rfl⟩
abbrev main_c_21 : Ref sig .tc := ⟨.hbm, 163, rfl⟩
abbrev main_v81 : Ref sig .tc := ⟨.hbm, 164, rfl⟩
abbrev main_v82 : Ref sig .tc := ⟨.hbm, 165, rfl⟩
abbrev main_c_22 : Ref sig .tc := ⟨.hbm, 166, rfl⟩
abbrev main_v83 : Ref sig .tc := ⟨.hbm, 167, rfl⟩
abbrev main_v84 : Ref sig .tc := ⟨.hbm, 168, rfl⟩
abbrev main_v85 : Ref sig .tc := ⟨.hbm, 169, rfl⟩
abbrev main_v86 : Ref sig .tc := ⟨.hbm, 170, rfl⟩
abbrev main_v87 : Ref sig .tc := ⟨.hbm, 171, rfl⟩
abbrev main_c_23 : Ref sig .tc := ⟨.hbm, 172, rfl⟩
abbrev main_call5_v0 : Ref sig .tc := ⟨.hbm, 173, rfl⟩
abbrev main_v88 : Ref sig .tc := ⟨.hbm, 174, rfl⟩
abbrev main_c_24 : Ref sig .tc := ⟨.hbm, 175, rfl⟩
abbrev main_call6_v0 : Ref sig .tc := ⟨.hbm, 176, rfl⟩
abbrev main_v89 : Ref sig .tc := ⟨.hbm, 177, rfl⟩
abbrev main_v90 : Ref sig .tc := ⟨.hbm, 178, rfl⟩
abbrev main_c_25 : Ref sig .tc := ⟨.hbm, 179, rfl⟩
abbrev main_call7_v0 : Ref sig .tc := ⟨.hbm, 180, rfl⟩
abbrev main_v91 : Ref sig .tc := ⟨.hbm, 181, rfl⟩
abbrev main_c_26 : Ref sig .tc := ⟨.hbm, 182, rfl⟩
abbrev main_v92 : Ref sig .tc := ⟨.hbm, 183, rfl⟩
abbrev main_cst_27 : Ref sig .tc := ⟨.hbm, 184, rfl⟩
abbrev main_v93 : Ref sig .tc := ⟨.hbm, 185, rfl⟩
abbrev main_v94 : Ref sig .tc := ⟨.hbm, 186, rfl⟩
abbrev main_v95 : Ref sig .tc := ⟨.hbm, 187, rfl⟩
abbrev main_c_28 : Ref sig .tc := ⟨.hbm, 188, rfl⟩
abbrev main_call8_v0 : Ref sig .tc := ⟨.hbm, 189, rfl⟩
abbrev main_v96 : Ref sig .tc := ⟨.hbm, 190, rfl⟩
abbrev main_c_29 : Ref sig .tc := ⟨.hbm, 191, rfl⟩
abbrev main_v97 : Ref sig .tc := ⟨.hbm, 192, rfl⟩
abbrev main_cst_30 : Ref sig .tc := ⟨.hbm, 193, rfl⟩
abbrev main_v98 : Ref sig .tc := ⟨.hbm, 194, rfl⟩
abbrev main_v99 : Ref sig .tc := ⟨.hbm, 195, rfl⟩
abbrev main_v100 : Ref sig .tc := ⟨.hbm, 196, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c100_i32 : BitVec 32 := 100#32
  let v98 : BitVec 32 := Scalar.addi c0_i32 c100_i32
  let c1_i32 : BitVec 32 := 1#32
  ⟨c0_i32, v98, c1_i32⟩
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x72x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x72 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x65x65 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MatchingIdeal.lean ====
variable {F : FTy → Type} [FloatOps F] [Named F]
def κ : String → Option EReal := fun
  | "mask" => some ⊥
  | "unmask" => some ⊤
  | _ => none
-- ==== MatchingReferenceIdeal.lean ====
abbrev S20000x256 : Shape := ⟨2, ![20000, 256]⟩
abbrev S256x256 : Shape := ⟨2, ![256, 256]⟩
abbrev S256 : Shape := ⟨1, ![256]⟩
abbrev S256x64 : Shape := ⟨2, ![256, 64]⟩
abbrev S1 : Shape := ⟨1, ![1]⟩
abbrev S_ : Shape := ⟨0, ![]⟩
abbrev S256x1 : Shape := ⟨2, ![256, 1]⟩
abbrev S1x256 : Shape := ⟨2, ![1, 256]⟩
abbrev S65536 : Shape := ⟨1, ![65536]⟩
abbrev S20001x256 : Shape := ⟨2, ![20001, 256]⟩
abbrev S256x64x1 : Shape := ⟨3, ![256, 64, 1]⟩
abbrev S256x64x256 : Shape := ⟨3, ![256, 64, 256]⟩
abbrev S256x64x64 : Shape := ⟨3, ![256, 64, 64]⟩
abbrev S256x1x65 : Shape := ⟨3, ![256, 1, 65]⟩
abbrev S256x64x65 : Shape := ⟨3, ![256, 64, 65]⟩
abbrev S256x65x65 : Shape := ⟨3, ![256, 65, 65]⟩
abbrev S256x65 : Shape := ⟨2, ![256, 65]⟩
abbrev S256x65x1 : Shape := ⟨3, ![256, 65, 1]⟩

abbrev nBuf : Space → Nat
  | .hbm => 311
  | .vmem => 0
  | .smem => 0
  | _ => 0

abbrev hbmTy0_0 (i : Nat) : BufTy := match i % 128 with
  | 0 => ⟨S20000x256, .f32⟩
  | 1 => ⟨S20000x256, .f32⟩
  | 2 => ⟨S256x256, .f32⟩
  | 3 => ⟨S256x256, .f32⟩
  | 4 => ⟨S256, .i1⟩
  | 5 => ⟨S256, .i1⟩
  | 6 => ⟨S256x64, .i32⟩
  | 7 => ⟨S256x64, .i32⟩
  | 8 => ⟨S256x64, .i1⟩
  | 9 => ⟨S256x64, .i1⟩
  | 10 => ⟨S1, .f32⟩
  | 11 => ⟨S256x256, .f32⟩
  | 12 => ⟨S_, .f32⟩
  | 13 => ⟨S256, .f32⟩
  | 14 => ⟨S256x1, .f32⟩
  | 15 => ⟨S256x1, .f32⟩
  | 16 => ⟨S_, .f32⟩
  | 17 => ⟨S256x1, .f32⟩
  | 18 => ⟨S256x1, .f32⟩
  | 19 => ⟨S256x256, .f32⟩
  | 20 => ⟨S256x256, .f32⟩
  | 21 => ⟨S256x256, .f32⟩
  | 22 => ⟨S_, .f32⟩
  | 23 => ⟨S256, .f32⟩
  | 24 => ⟨S256x1, .f32⟩
  | 25 => ⟨S256x1, .f32⟩
  | 26 => ⟨S_, .f32⟩
  | 27 => ⟨S256x1, .f32⟩
  | 28 => ⟨S256x1, .f32⟩
  | 29 => ⟨S256x256, .f32⟩
  | 30 => ⟨S256x256, .f32⟩
  | 31 => ⟨S256x256, .f32⟩
  | 32 => ⟨S256x256, .f32⟩
  | 33 => ⟨S_, .f32⟩
  | 34 => ⟨S256x256, .f32⟩
  | 35 => ⟨S256x256, .f32⟩
  | 36 => ⟨S_, .f32⟩
  | 37 => ⟨S256x256, .f32⟩
  | 38 => ⟨S256x256, .f32⟩
  | 39 => ⟨S256x256, .f32⟩
  | 40 => ⟨S256x256, .f32⟩
  | 41 => ⟨S256x1, .i1⟩
  | 42 => ⟨S1x256, .i1⟩
  | 43 => ⟨S256x256, .i1⟩
  | 44 => ⟨S256x256, .i1⟩
  | 45 => ⟨S256x256, .i1⟩
  | 46 => ⟨S_, .f32⟩
  | 47 => ⟨S_, .f32⟩
  | 48 => ⟨S256x256, .f32⟩
  | 49 => ⟨S256x256, .f32⟩
  | 50 => ⟨S_, .f32⟩
  | 51 => ⟨S256, .f32⟩
  | 52 => ⟨S256x1, .f32⟩
  | 53 => ⟨S_, .f32⟩
  | 54 => ⟨S256x1, .f32⟩
  | 55 => ⟨S256x1, .f32⟩
  | 56 => ⟨S256x256, .f32⟩
  | 57 => ⟨S256x256, .f32⟩
  | 58 => ⟨S_, .f32⟩
  | 59 => ⟨S256, .f32⟩
  | 60 => ⟨S1x256, .f32⟩
  | 61 => ⟨S_, .f32⟩
  | 62 => ⟨S1x256, .f32⟩
  | 63 => ⟨S1x256, .f32⟩
  | 64 => ⟨S256x256, .f32⟩
  | 65 => ⟨S256x256, .f32⟩
  | 66 => ⟨S256x256, .f32⟩
  | 67 => ⟨S65536, .f32⟩
  | 68 => ⟨S256, .f32⟩
  | 69 => ⟨S256, .i32⟩
  | 70 => ⟨S_, .i32⟩
  | 71 => ⟨S_, .i32⟩
  | 72 => ⟨S256, .i32⟩
  | 73 => ⟨S256, .i32⟩
  | 74 => ⟨S256, .i32⟩
  | 75 => ⟨S_, .i32⟩
  | 76 => ⟨S256, .i32⟩
  | 77 => ⟨S256, .i1⟩
  | 78 => ⟨S256, .i32⟩
  | 79 => ⟨S256, .i32⟩
  | 80 => ⟨S_, .i32⟩
  | 81 => ⟨S256, .i32⟩
  | 82 => ⟨S256, .i1⟩
  | 83 => ⟨S256, .i1⟩
  | 84 => ⟨S_, .i32⟩
  | 85 => ⟨S256, .i32⟩
  | 86 => ⟨S256, .i32⟩
  | 87 => ⟨S256, .i32⟩
  | 88 => ⟨S_, .i32⟩
  | 89 => ⟨S_, .i32⟩
  | 90 => ⟨S_, .i32⟩
  | 91 => ⟨S_, .i1⟩
  | 92 => ⟨S_, .i32⟩
  | 93 => ⟨S_, .i32⟩
  | 94 => ⟨S256, .i32⟩
  | 95 => ⟨S256, .i32⟩
  | 96 => ⟨S_, .i32⟩
  | 97 => ⟨S256, .i32⟩
  | 98 => ⟨S256, .i1⟩
  | 99 => ⟨S_, .i32⟩
  | 100 => ⟨S256, .i32⟩
  | 101 => ⟨S256, .i1⟩
  | 102 => ⟨S_, .i32⟩
  | 103 => ⟨S_, .i1⟩
  | 104 => ⟨S256, .i1⟩
  | 105 => ⟨S256, .i1⟩
  | 106 => ⟨S256, .i1⟩
  | 107 => ⟨S256, .i32⟩
  | 108 => ⟨S256, .i32⟩
  | 109 => ⟨S256, .i32⟩
  | 110 => ⟨S_, .i32⟩
  | 111 => ⟨S256, .i32⟩
  | 112 => ⟨S256, .i1⟩
  | 113 => ⟨S_, .i32⟩
  | 114 => ⟨S256, .i32⟩
  | 115 => ⟨S256, .i32⟩
  | 116 => ⟨S256, .i32⟩
  | 117 => ⟨S256x1, .i32⟩
  | 118 => ⟨S256x64, .i32⟩
  | 119 => ⟨S_, .i32⟩
  | 120 => ⟨S256, .i32⟩
  | 121 => ⟨S256, .i1⟩
  | 122 => ⟨S_, .i32⟩
  | 123 => ⟨S256, .i32⟩
  | 124 => ⟨S256, .i32⟩
  | 125 => ⟨S256, .i32⟩
  | 126 => ⟨S256x1, .i32⟩
  | 127 => ⟨S256x64, .i32⟩
  | _ => ⟨S20000x256, .f32⟩

abbrev hbmTy0_1 (i : Nat) : BufTy := match i % 128 with
  | 0 => ⟨S_, .i32⟩
  | 1 => ⟨S256, .i32⟩
  | 2 => ⟨S256, .i1⟩
  | 3 => ⟨S_, .i32⟩
  | 4 => ⟨S256, .i32⟩
  | 5 => ⟨S256, .i32⟩
  | 6 => ⟨S256, .i32⟩
  | 7 => ⟨S256x1, .i32⟩
  | 8 => ⟨S256x64, .i1⟩
  | 9 => ⟨S_, .i32⟩
  | 10 => ⟨S256, .i32⟩
  | 11 => ⟨S256, .i1⟩
  | 12 => ⟨S_, .i32⟩
  | 13 => ⟨S256, .i32⟩
  | 14 => ⟨S256, .i32⟩
  | 15 => ⟨S256, .i32⟩
  | 16 => ⟨S256x1, .i32⟩
  | 17 => ⟨S256x64, .i1⟩
  | 18 => ⟨S1x256, .f32⟩
  | 19 => ⟨S_, .f32⟩
  | 20 => ⟨S1x256, .f32⟩
  | 21 => ⟨S20001x256, .f32⟩
  | 22 => ⟨S1x256, .f32⟩
  | 23 => ⟨S_, .f32⟩
  | 24 => ⟨S1x256, .f32⟩
  | 25 => ⟨S20001x256, .f32⟩
  | 26 => ⟨S_, .i32⟩
  | 27 => ⟨S256x64, .i32⟩
  | 28 => ⟨S256x64, .i1⟩
  | 29 => ⟨S_, .i32⟩
  | 30 => ⟨S256x64, .i32⟩
  | 31 => ⟨S256x64, .i32⟩
  | 32 => ⟨S256x64, .i32⟩
  | 33 => ⟨S256x64x1, .i32⟩
  | 34 => ⟨S256x64x256, .f32⟩
  | 35 => ⟨S_, .i32⟩
  | 36 => ⟨S256x64, .i32⟩
  | 37 => ⟨S256x64, .i1⟩
  | 38 => ⟨S_, .i32⟩
  | 39 => ⟨S256x64, .i32⟩
  | 40 => ⟨S256x64, .i32⟩
  | 41 => ⟨S256x64, .i32⟩
  | 42 => ⟨S256x64x1, .i32⟩
  | 43 => ⟨S256x64x256, .f32⟩
  | 44 => ⟨S_, .f32⟩
  | 45 => ⟨S256x64x64, .f32⟩
  | 46 => ⟨S_, .f32⟩
  | 47 => ⟨S_, .f32⟩
  | 48 => ⟨S_, .f32⟩
  | 49 => ⟨S256x64x64, .f32⟩
  | 50 => ⟨S256x64x64, .f32⟩
  | 51 => ⟨S_, .f32⟩
  | 52 => ⟨S256x64x1, .f32⟩
  | 53 => ⟨S256x64x1, .f32⟩
  | 54 => ⟨S256x64x1, .f32⟩
  | 55 => ⟨S_, .f32⟩
  | 56 => ⟨S256x1x65, .f32⟩
  | 57 => ⟨S256x1x65, .f32⟩
  | 58 => ⟨S256x1x65, .f32⟩
  | 59 => ⟨S256x64x65, .f32⟩
  | 60 => ⟨S256x65x65, .f32⟩
  | 61 => ⟨S_, .i1⟩
  | 62 => ⟨S256x1, .i1⟩
  | 63 => ⟨S256x65, .i1⟩
  | 64 => ⟨S_, .i1⟩
  | 65 => ⟨S256x1, .i1⟩
  | 66 => ⟨S256x65, .i1⟩
  | 67 => ⟨S256x65x1, .i1⟩
  | 68 => ⟨S256x1x65, .i1⟩
  | 69 => ⟨S256x65x65, .i1⟩
  | 70 => ⟨S256x65x65, .i1⟩
  | 71 => ⟨S256x65x65, .i1⟩
  | 72 => ⟨S_, .f32⟩
  | 73 => ⟨S_, .f32⟩
  | 74 => ⟨S256x65x65, .f32⟩
  | 75 => ⟨S256x65x65, .f32⟩
  | 76 => ⟨S256x64, .i32⟩
  | 77 => ⟨S_, .i32⟩
  | 78 => ⟨S256, .i32⟩
  | 79 => ⟨S256, .f32⟩
  | 80 => ⟨S256x64, .i32⟩
  | 81 => ⟨S_, .i32⟩
  | 82 => ⟨S256, .i32⟩
  | 83 => ⟨S256, .f32⟩
  | 84 => ⟨S256, .f32⟩
  | 85 => ⟨S_, .f32⟩
  | 86 => ⟨S256, .f32⟩
  | 87 => ⟨S256, .f32⟩
  | 88 => ⟨S256, .f32⟩
  | 89 => ⟨S256, .f32⟩
  | 90 => ⟨S256x1, .f32⟩
  | 91 => ⟨S_, .f32⟩
  | 92 => ⟨S_, .f32⟩
  | 93 => ⟨S256x64, .f32⟩
  | 94 => ⟨S256x64, .f32⟩
  | 95 => ⟨S256x64, .f32⟩
  | 96 => ⟨S_, .f32⟩
  | 97 => ⟨S256, .f32⟩
  | 98 => ⟨S256, .f32⟩
  | 99 => ⟨S256, .f32⟩
  | 100 => ⟨S256, .f32⟩
  | 101 => ⟨S256x1, .f32⟩
  | 102 => ⟨S256x65, .f32⟩
  | 103 => ⟨S256x1, .f32⟩
  | 104 => ⟨S_, .f32⟩
  | 105 => ⟨S_, .f32⟩
  | 106 => ⟨S256x64, .f32⟩
  | 107 => ⟨S256x64, .f32⟩
  | 108 => ⟨S256x64, .f32⟩
  | 109 => ⟨S_, .f32⟩
  | 110 => ⟨S256, .f32⟩
  | 111 => ⟨S256, .f32⟩
  | 112 => ⟨S256, .f32⟩
  | 113 => ⟨S256, .f32⟩
  | 114 => ⟨S256x1, .f32⟩
  | 115 => ⟨S256x65, .f32⟩
  | 116 => ⟨S_, .f32⟩
  | 117 => ⟨S256x65, .f32⟩
  | 118 => ⟨S_, .f32⟩
  | 119 => ⟨S256x65, .f32⟩
  | 120 => ⟨S_, .i32⟩
  | 121 => ⟨S_, .i32⟩
  | 122 => ⟨S256x65x65, .f32⟩
  | 123 => ⟨S256x65, .f32⟩
  | 124 => ⟨S256x65, .f32⟩
  | 125 => ⟨S_, .i32⟩
  | 126 => ⟨S_, .i32⟩
  | 127 => ⟨S256x65, .f32⟩
  | _ => ⟨S20000x256, .f32⟩

abbrev hbmTy0_2 (i : Nat) : BufTy := match i % 128 with
  | 0 => ⟨S256x65, .f32⟩
  | 1 => ⟨S_, .i32⟩
  | 2 => ⟨S_, .i1⟩
  | 3 => ⟨S_, .i32⟩
  | 4 => ⟨S_, .i32⟩
  | 5 => ⟨S256x1x65, .f32⟩
  | 6 => ⟨S256x65x65, .f32⟩
  | 7 => ⟨S256x65x65, .f32⟩
  | 8 => ⟨S_, .f32⟩
  | 9 => ⟨S256x65, .f32⟩
  | 10 => ⟨S_, .f32⟩
  | 11 => ⟨S256x65, .f32⟩
  | 12 => ⟨S256x65, .i1⟩
  | 13 => ⟨S_, .f32⟩
  | 14 => ⟨S_, .f32⟩
  | 15 => ⟨S256x65, .f32⟩
  | 16 => ⟨S256x65, .f32⟩
  | 17 => ⟨S256x65x1, .f32⟩
  | 18 => ⟨S256x65x65, .f32⟩
  | 19 => ⟨S256x65x65, .f32⟩
  | 20 => ⟨S256x65x65, .f32⟩
  | 21 => ⟨S_, .f32⟩
  | 22 => ⟨S256x65, .f32⟩
  | 23 => ⟨S256x65, .f32⟩
  | 24 => ⟨S256x65, .f32⟩
  | 25 => ⟨S256x65, .f32⟩
  | 26 => ⟨S256x65x1, .f32⟩
  | 27 => ⟨S256x65x65, .f32⟩
  | 28 => ⟨S256x65x65, .f32⟩
  | 29 => ⟨S_, .f32⟩
  | 30 => ⟨S256x65, .f32⟩
  | 31 => ⟨S_, .f32⟩
  | 32 => ⟨S256x65, .f32⟩
  | 33 => ⟨S256x65, .i1⟩
  | 34 => ⟨S_, .f32⟩
  | 35 => ⟨S_, .f32⟩
  | 36 => ⟨S256x65, .f32⟩
  | 37 => ⟨S256x65, .f32⟩
  | 38 => ⟨S256x1x65, .f32⟩
  | 39 => ⟨S256x65x65, .f32⟩
  | 40 => ⟨S256x65x65, .f32⟩
  | 41 => ⟨S256x65x65, .f32⟩
  | 42 => ⟨S_, .f32⟩
  | 43 => ⟨S256x65, .f32⟩
  | 44 => ⟨S256x65, .f32⟩
  | 45 => ⟨S256x65, .f32⟩
  | 46 => ⟨S256x65, .f32⟩
  | 47 => ⟨S_, .i32⟩
  | 48 => ⟨S_, .i32⟩
  | 49 => ⟨S256x65x1, .f32⟩
  | 50 => ⟨S256x65x65, .f32⟩
  | 51 => ⟨S256x65x65, .f32⟩
  | 52 => ⟨S256x1x65, .f32⟩
  | 53 => ⟨S256x65x65, .f32⟩
  | 54 => ⟨S256x65x65, .f32⟩
  | _ => ⟨S20000x256, .f32⟩

abbrev hbmTy (i : Nat) : BufTy := match i / 128 with
  | 0 => hbmTy0_0 i
  | 1 => hbmTy0_1 i
  | 2 => hbmTy0_2 i
  | _ => ⟨S20000x256, .f32⟩

abbrev bufTy : (tb : Table) → Fin (tcTables nBuf tb) → BufTy
  | .hbm, ⟨i, _⟩ => hbmTy i
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_call0_v2 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_call1_v0 : Ref sig .tc := ⟨.hbm, 21, rfl⟩
abbrev main_call1_cst : Ref sig .tc := ⟨.hbm, 22, rfl⟩
abbrev main_call1_v1 : Ref sig .tc := ⟨.hbm, 23, rfl⟩
abbrev main_call1_v2 : Ref sig .tc := ⟨.hbm, 24, rfl⟩
abbrev main_v5 : Ref sig .tc := ⟨.hbm, 25, rfl⟩
abbrev main_cst_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_1 : Ref sig .tc := ⟨.hbm, 33, rfl⟩
abbrev main_v12 : Ref sig .tc := ⟨.hbm, 34, rfl⟩
abbrev main_v13 : Ref sig .tc := ⟨.hbm, 35, rfl⟩
abbrev main_cst_2 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_3 : Ref sig .tc := ⟨.hbm, 46, rfl⟩
abbrev main_call2_v0 : Ref sig .tc := ⟨.hbm, 47, rfl⟩
abbrev main_call2_v1 : Ref sig .tc := ⟨.hbm, 48, rfl⟩
abbrev main_v23 : Ref sig .tc := ⟨.hbm, 49, rfl⟩
abbrev main_cst_4 : Ref sig .tc := ⟨.hbm, 50, rfl⟩
abbrev main_v24 : Ref sig .tc := ⟨.hbm, 51, rfl⟩
abbrev main_v25 : Ref sig .tc := ⟨.hbm, 52, rfl⟩
abbrev main_cst_5 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst_6 : Ref sig .tc := ⟨.hbm, 58, rfl⟩
abbrev main_v30 : Ref sig .tc := ⟨.hbm, 59, rfl⟩
abbrev main_v31 : Ref sig .tc := ⟨.hbm, 60, rfl⟩
abbrev main_cst_7 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_values : Ref sig .tc := ⟨.hbm, 68, rfl⟩
abbrev main_indices : Ref sig .tc := ⟨.hbm, 69, rfl⟩
abbrev main_c : Ref sig .tc := ⟨.hbm, 70, rfl⟩
abbrev main_call3_v0 : Ref sig .tc := ⟨.hbm, 71, rfl⟩
abbrev main_call3_v1 : Ref sig .tc := ⟨.hbm, 72, rfl⟩
abbrev main_call3_v2 : Ref sig .tc := ⟨.hbm, 73, rfl⟩
abbrev main_call3_v3 : Ref sig .tc := ⟨.hbm, 74, rfl⟩
abbrev main_call3_v4 : Ref sig .tc := ⟨.hbm, 75, rfl⟩
abbrev main_call3_v5 : Ref sig .tc := ⟨.hbm, 76, rfl⟩
abbrev main_call3_v6 : Ref sig .tc := ⟨.hbm, 77, rfl⟩
abbrev main_call3_v7 : Ref sig .tc := ⟨.hbm, 78, rfl⟩
abbrev main_call3_v8 : Ref sig .tc := ⟨.hbm, 79, rfl⟩
abbrev main_call3_c : Ref sig .tc := ⟨.hbm, 80, rfl⟩
abbrev main_call3_v9 : Ref sig .tc := ⟨.hbm, 81, rfl⟩
abbrev main_call3_v10 : Ref sig .tc := ⟨.hbm, 82, rfl⟩
abbrev main_call3_v11 : Ref sig .tc := ⟨.hbm, 83, rfl⟩
abbrev main_call3_c_0 : Ref sig .tc := ⟨.hbm, 84, rfl⟩
abbrev main_call3_v12 : Ref sig .tc := ⟨.hbm, 85, rfl⟩
abbrev main_call3_v13 : Ref sig .tc := ⟨.hbm, 86, rfl⟩
abbrev main_v38 : Ref sig .tc := ⟨.hbm, 87, rfl⟩
abbrev main_c_8 : Ref sig .tc := ⟨.hbm, 88, rfl⟩
abbrev main_call4_v0 : Ref sig .tc := ⟨.hbm, 89, rfl⟩
abbrev main_call4_c : Ref sig .tc := ⟨.hbm, 90, rfl⟩
abbrev main_call4_v1 : Ref sig .tc := ⟨.hbm, 91, rfl⟩
abbrev main_call4_c_0 : Ref sig .tc := ⟨.hbm, 92, rfl⟩
abbrev main_call4_v2 : Ref sig .tc := ⟨.hbm, 93, rfl⟩
abbrev main_call4_v3 : Ref sig .tc := ⟨.hbm, 94, rfl⟩
abbrev main_call4_v4 : Ref sig .tc := ⟨.hbm, 95, rfl⟩
abbrev main_call4_c_1 : Ref sig .tc := ⟨.hbm, 96, rfl⟩
abbrev main_call4_v5 : Ref sig .tc := ⟨.hbm, 97, rfl⟩
abbrev main_call4_v6 : Ref sig .tc := ⟨.hbm, 98, rfl⟩
abbrev main_call4_c_2 : Ref sig .tc := ⟨.hbm, 99, rfl⟩
abbrev main_call4_v7 : Ref sig .tc := ⟨.hbm, 100, rfl⟩
abbrev main_call4_v8 : Ref sig .tc := ⟨.hbm, 101, rfl⟩
abbrev main_call4_c_3 : Ref sig .tc := ⟨.hbm, 102, rfl⟩
abbrev main_call4_v9 : Ref sig .tc := ⟨.hbm, 103, rfl⟩
abbrev main_call4_v10 : Ref sig .tc := ⟨.hbm, 104, rfl⟩
abbrev main_call4_v11 : Ref sig .tc := ⟨.hbm, 105, rfl⟩
abbrev main_call4_v12 : Ref sig .tc := ⟨.hbm, 106, rfl⟩
abbrev main_call4_v13 : Ref sig .tc := ⟨.hbm, 107, rfl⟩
abbrev main_call4_v14 : Ref sig .tc := ⟨.hbm, 108, rfl⟩
abbrev main_v39 : Ref sig .tc := ⟨.hbm, 109, rfl⟩
abbrev main_c_9 : Ref sig .tc := ⟨.hbm, 110, rfl⟩
abbrev main_v40 : Ref sig .tc := ⟨.hbm, 111, rfl⟩
abbrev main_v41 : Ref sig .tc := ⟨.hbm, 112, rfl⟩
abbrev main_c_10 : Ref sig .tc := ⟨.hbm, 113, rfl⟩
abbrev main_v42 : Ref sig .tc := ⟨.hbm, 114, rfl⟩
abbrev main_v43 : Ref sig .tc := ⟨.hbm, 115, rfl⟩
abbrev main_v44 : Ref sig .tc := ⟨.hbm, 116, rfl⟩
abbrev main_v45 : Ref sig .tc := ⟨.hbm, 117, rfl⟩
abbrev main_v46 : Ref sig .tc := ⟨.hbm, 118, rfl⟩
abbrev main_c_11 : Ref sig .tc := ⟨.hbm, 119, rfl⟩
abbrev main_v47 : Ref sig .tc := ⟨.hbm, 120, rfl⟩
abbrev main_v48 : Ref sig .tc := ⟨.hbm, 121, rfl⟩
abbrev main_c_12 : Ref sig .tc := ⟨.hbm, 122, rfl⟩
abbrev main_v49 : Ref sig .tc := ⟨.hbm, 123, rfl⟩
abbrev main_v50 : Ref sig .tc := ⟨.hbm, 124, rfl⟩
abbrev main_v51 : Ref sig .tc := ⟨.hbm, 125, rfl⟩
abbrev main_v52 : Ref sig .tc := ⟨.hbm, 126, rfl⟩
abbrev main_v53 : Ref sig .tc := ⟨.hbm, 127, rfl⟩
abbrev main_c_13 : Ref sig .tc := ⟨.hbm, 128, rfl⟩
abbrev main_v54 : Ref sig .tc := ⟨.hbm, 129, rfl⟩
abbrev main_v55 : Ref sig .tc := ⟨.hbm, 130, rfl⟩
abbrev main_c_14 : Ref sig .tc := ⟨.hbm, 131, rfl⟩
abbrev main_v56 : Ref sig .tc := ⟨.hbm, 132, rfl⟩
abbrev main_v57 : Ref sig .tc := ⟨.hbm, 133, rfl⟩
abbrev main_v58 : Ref sig .tc := ⟨.hbm, 134, rfl⟩
abbrev main_v59 : Ref sig .tc := ⟨.hbm, 135, rfl⟩
abbrev main_v60 : Ref sig .tc := ⟨.hbm, 136, rfl⟩
abbrev main_c_15 : Ref sig .tc := ⟨.hbm, 137, rfl⟩
abbrev main_v61 : Ref sig .tc := ⟨.hbm, 138, rfl⟩
abbrev main_v62 : Ref sig .tc := ⟨.hbm, 139, rfl⟩
abbrev main_c_16 : Ref sig .tc := ⟨.hbm, 140, rfl⟩
abbrev main_v63 : Ref sig .tc := ⟨.hbm, 141, rfl⟩
abbrev main_v64 : Ref sig .tc := ⟨.hbm, 142, rfl⟩
abbrev main_v65 : Ref sig .tc := ⟨.hbm, 143, rfl⟩
abbrev main_v66 : Ref sig .tc := ⟨.hbm, 144, rfl⟩
abbrev main_v67 : Ref sig .tc := ⟨.hbm, 145, rfl⟩
abbrev main_v68 : Ref sig .tc := ⟨.hbm, 146, rfl⟩
abbrev main_cst_17 : Ref sig .tc := ⟨.hbm, 147, rfl⟩
abbrev main_v69 : Ref sig .tc := ⟨.hbm, 148, rfl⟩
abbrev main_v70 : Ref sig .tc := ⟨.hbm, 149, rfl⟩
abbrev main_v71 : Ref sig .tc := ⟨.hbm, 150, rfl⟩
abbrev main_cst_18 : Ref sig .tc := ⟨.hbm, 151, rfl⟩
abbrev main_v72 : Ref sig .tc := ⟨.hbm, 152, rfl⟩
abbrev main_v73 : Ref sig .tc := ⟨.hbm, 153, rfl⟩
abbrev main_c_19 : Ref sig .tc := ⟨.hbm, 154, rfl⟩
abbrev main_v74 : Ref sig .tc := ⟨.hbm, 155, rfl⟩
abbrev main_v75 : Ref sig .tc := ⟨.hbm, 156, rfl⟩
abbrev main_c_20 : Ref sig .tc := ⟨.hbm, 157, rfl⟩
abbrev main_v76 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_v80 : Ref sig .tc := ⟨.hbm, 162, rfl⟩
abbrev main_c_21 : Ref sig .tc := ⟨.hbm, 163, rfl⟩
abbrev main_v81 : Ref sig .tc := ⟨.hbm, 164, rfl⟩
abbrev main_v82 : Ref sig .tc := ⟨.hbm, 165, rfl⟩
abbrev main_c_22 : Ref sig .tc := ⟨.hbm, 166, rfl⟩
abbrev main_v83 : Ref sig .tc := ⟨.hbm, 167, rfl⟩
abbrev main_v84 : Ref sig .tc := ⟨.hbm, 168, rfl⟩
abbrev main_v85 : Ref sig .tc := ⟨.hbm, 169, rfl⟩
abbrev main_v86 : Ref sig .tc := ⟨.hbm, 170, rfl⟩
abbrev main_v87 : Ref sig .tc := ⟨.hbm, 171, rfl⟩
abbrev main_v88 : Ref sig .tc := ⟨.hbm, 172, rfl⟩
abbrev main_v89 : Ref sig .tc := ⟨.hbm, 173, rfl⟩
abbrev main_cst_23 : Ref sig .tc := ⟨.hbm, 174, rfl⟩
abbrev main_v90 : Ref sig .tc := ⟨.hbm, 175, rfl⟩
abbrev main_v91 : Ref sig .tc := ⟨.hbm, 176, rfl⟩
abbrev main_v92 : Ref sig .tc := ⟨.hbm, 177, rfl⟩
abbrev main_v93 : Ref sig .tc := ⟨.hbm, 178, rfl⟩
abbrev main_cst_24 : Ref sig .tc := ⟨.hbm, 179, rfl⟩
abbrev main_v94 : Ref sig .tc := ⟨.hbm, 180, rfl⟩
abbrev main_v95 : Ref sig .tc := ⟨.hbm, 181, rfl⟩
abbrev main_v96 : Ref sig .tc := ⟨.hbm, 182, rfl⟩
abbrev main_cst_25 : Ref sig .tc := ⟨.hbm, 183, rfl⟩
abbrev main_v97 : Ref sig .tc := ⟨.hbm, 184, rfl⟩
abbrev main_v98 : Ref sig .tc := ⟨.hbm, 185, rfl⟩
abbrev main_v99 : Ref sig .tc := ⟨.hbm, 186, rfl⟩
abbrev main_v100 : Ref sig .tc := ⟨.hbm, 187, rfl⟩
abbrev main_v101 : Ref sig .tc := ⟨.hbm, 188, rfl⟩
abbrev main_c_26 : Ref sig .tc := ⟨.hbm, 189, rfl⟩
abbrev main_v102 : Ref sig .tc := ⟨.hbm, 190, rfl⟩
abbrev main_v103 : Ref sig .tc := ⟨.hbm, 191, rfl⟩
abbrev main_c_27 : Ref sig .tc := ⟨.hbm, 192, rfl⟩
abbrev main_v104 : Ref sig .tc := ⟨.hbm, 193, rfl⟩
abbrev main_v105 : Ref sig .tc := ⟨.hbm, 194, rfl⟩
abbrev main_v106 : Ref sig .tc := ⟨.hbm, 195, rfl⟩
abbrev main_v107 : Ref sig .tc := ⟨.hbm, 196, rfl⟩
abbrev main_v108 : Ref sig .tc := ⟨.hbm, 197, rfl⟩
abbrev main_v109 : Ref sig .tc := ⟨.hbm, 198, rfl⟩
abbrev main_v110 : Ref sig .tc := ⟨.hbm, 199, rfl⟩
abbrev main_cst_28 : Ref sig .tc := ⟨.hbm, 200, rfl⟩
abbrev main_call5_v0 : Ref sig .tc := ⟨.hbm, 201, rfl⟩
abbrev main_call5_v1 : Ref sig .tc := ⟨.hbm, 202, rfl⟩
abbrev main_v111 : Ref sig .tc := ⟨.hbm, 203, rfl⟩
abbrev main_v112 : Ref sig .tc := ⟨.hbm, 204, rfl⟩
abbrev main_c_29 : Ref sig .tc := ⟨.hbm, 205, rfl⟩
abbrev main_v113 : Ref sig .tc := ⟨.hbm, 206, rfl⟩
abbrev main_v114 : Ref sig .tc := ⟨.hbm, 207, rfl⟩
abbrev main_v115 : Ref sig .tc := ⟨.hbm, 208, rfl⟩
abbrev main_c_30 : Ref sig .tc := ⟨.hbm, 209, rfl⟩
abbrev main_v116 : Ref sig .tc := ⟨.hbm, 210, rfl⟩
abbrev main_v117 : Ref sig .tc := ⟨.hbm, 211, rfl⟩
abbrev main_v118 : Ref sig .tc := ⟨.hbm, 212, rfl⟩
abbrev main_cst_31 : Ref sig .tc := ⟨.hbm, 213, rfl⟩
abbrev main_v119 : Ref sig .tc := ⟨.hbm, 214, rfl⟩
abbrev main_v120 : Ref sig .tc := ⟨.hbm, 215, rfl⟩
abbrev main_v121 : Ref sig .tc := ⟨.hbm, 216, rfl⟩
abbrev main_v122 : Ref sig .tc := ⟨.hbm, 217, rfl⟩
abbrev main_v123 : Ref sig .tc := ⟨.hbm, 218, rfl⟩
abbrev main_cst_32 : Ref sig .tc := ⟨.hbm, 219, rfl⟩
abbrev main_call6_v0 : Ref sig .tc := ⟨.hbm, 220, rfl⟩
abbrev main_call6_v1 : Ref sig .tc := ⟨.hbm, 221, rfl⟩
abbrev main_call6_v2 : Ref sig .tc := ⟨.hbm, 222, rfl⟩
abbrev main_v124 : Ref sig .tc := ⟨.hbm, 223, rfl⟩
abbrev main_cst_33 : Ref sig .tc := ⟨.hbm, 224, rfl⟩
abbrev main_v125 : Ref sig .tc := ⟨.hbm, 225, rfl⟩
abbrev main_v126 : Ref sig .tc := ⟨.hbm, 226, rfl⟩
abbrev main_v127 : Ref sig .tc := ⟨.hbm, 227, rfl⟩
abbrev main_v128 : Ref sig .tc := ⟨.hbm, 228, rfl⟩
abbrev main_v129 : Ref sig .tc := ⟨.hbm, 229, rfl⟩
abbrev main_v130 : Ref sig .tc := ⟨.hbm, 230, rfl⟩
abbrev main_v131 : Ref sig .tc := ⟨.hbm, 231, rfl⟩
abbrev main_cst_34 : Ref sig .tc := ⟨.hbm, 232, rfl⟩
abbrev main_call7_v0 : Ref sig .tc := ⟨.hbm, 233, rfl⟩
abbrev main_call7_v1 : Ref sig .tc := ⟨.hbm, 234, rfl⟩
abbrev main_call7_v2 : Ref sig .tc := ⟨.hbm, 235, rfl⟩
abbrev main_v132 : Ref sig .tc := ⟨.hbm, 236, rfl⟩
abbrev main_cst_35 : Ref sig .tc := ⟨.hbm, 237, rfl⟩
abbrev main_v133 : Ref sig .tc := ⟨.hbm, 238, rfl⟩
abbrev main_v134 : Ref sig .tc := ⟨.hbm, 239, rfl⟩
abbrev main_v135 : Ref sig .tc := ⟨.hbm, 240, rfl⟩
abbrev main_v136 : Ref sig .tc := ⟨.hbm, 241, rfl⟩
abbrev main_v137 : Ref sig .tc := ⟨.hbm, 242, rfl⟩
abbrev main_v138 : Ref sig .tc := ⟨.hbm, 243, rfl⟩
abbrev main_cst_36 : Ref sig .tc := ⟨.hbm, 244, rfl⟩
abbrev main_v139 : Ref sig .tc := ⟨.hbm, 245, rfl⟩
abbrev main_cst_37 : Ref sig .tc := ⟨.hbm, 246, rfl⟩
abbrev main_v140 : Ref sig .tc := ⟨.hbm, 247, rfl⟩
abbrev main_c_38 : Ref sig .tc := ⟨.hbm, 248, rfl⟩
abbrev main_c_39 : Ref sig .tc := ⟨.hbm, 249, rfl⟩
abbrev main_v141_0 : Ref sig .tc := ⟨.hbm, 250, rfl⟩
abbrev main_v141_1 : Ref sig .tc := ⟨.hbm, 251, rfl⟩
abbrev main_v141_2 : Ref sig .tc := ⟨.hbm, 252, rfl⟩
abbrev main_v141_3 : Ref sig .tc := ⟨.hbm, 253, rfl⟩
abbrev main_v141_4 : Ref sig .tc := ⟨.hbm, 254, rfl⟩
abbrev main_v141_5 : Ref sig .tc := ⟨.hbm, 255, rfl⟩
abbrev main_v141_6 : Ref sig .tc := ⟨.hbm, 256, rfl⟩
abbrev main_while0c_c_46 : Ref sig .tc := ⟨.hbm, 257, rfl⟩
abbrev main_while0c_v148 : Ref sig .tc := ⟨.hbm, 258, rfl⟩
abbrev main_while0b_c_46 : Ref sig .tc := ⟨.hbm, 259, rfl⟩
abbrev main_while0b_v148 : Ref sig .tc := ⟨.hbm, 260, rfl⟩
abbrev main_while0b_v149 : Ref sig .tc := ⟨.hbm, 261, rfl⟩
abbrev main_while0b_v150 : Ref sig .tc := ⟨.hbm, 262, rfl⟩
abbrev main_while0b_v151 : Ref sig .tc := ⟨.hbm, 263, rfl⟩
abbrev main_while0b_cst_47 : Ref sig .tc := ⟨.hbm, 264, rfl⟩
abbrev main_while0b_v152 : Ref sig .tc := ⟨.hbm, 265, rfl⟩
abbrev main_while0b_cst_48 : Ref sig .tc := ⟨.hbm, 266, rfl⟩
abbrev main_while0b_v153 : Ref sig .tc := ⟨.hbm, 267, rfl⟩
abbrev main_while0b_v154 : Ref sig .tc := ⟨.hbm, 268, rfl⟩
abbrev main_while0b_cst_49 : Ref sig .tc := ⟨.hbm, 269, rfl⟩
abbrev main_while0b_call8_v0 : Ref sig .tc := ⟨.hbm, 270, rfl⟩
abbrev main_while0b_call8_v1 : Ref sig .tc := ⟨.hbm, 271, rfl⟩
abbrev main_while0b_v155 : Ref sig .tc := ⟨.hbm, 272, rfl⟩
abbrev main_while0b_v156 : Ref sig .tc := ⟨.hbm, 273, rfl⟩
abbrev main_while0b_v157 : Ref sig .tc := ⟨.hbm, 274, rfl⟩
abbrev main_while0b_v158 : Ref sig .tc := ⟨.hbm, 275, rfl⟩
abbrev main_while0b_v159 : Ref sig .tc := ⟨.hbm, 276, rfl⟩
abbrev main_while0b_cst_50 : Ref sig .tc := ⟨.hbm, 277, rfl⟩
abbrev main_while0b_v160 : Ref sig .tc := ⟨.hbm, 278, rfl⟩
abbrev main_while0b_v161 : Ref sig .tc := ⟨.hbm, 279, rfl⟩
abbrev main_while0b_v162 : Ref sig .tc := ⟨.hbm, 280, rfl⟩
abbrev main_while0b_v163 : Ref sig .tc := ⟨.hbm, 281, rfl⟩
abbrev main_while0b_v164 : Ref sig .tc := ⟨.hbm, 282, rfl⟩
abbrev main_while0b_v165 : Ref sig .tc := ⟨.hbm, 283, rfl⟩
abbrev main_while0b_v166 : Ref sig .tc := ⟨.hbm, 284, rfl⟩
abbrev main_while0b_cst_51 : Ref sig .tc := ⟨.hbm, 285, rfl⟩
abbrev main_while0b_v167 : Ref sig .tc := ⟨.hbm, 286, rfl⟩
abbrev main_while0b_cst_52 : Ref sig .tc := ⟨.hbm, 287, rfl⟩
abbrev main_while0b_v168 : Ref sig .tc := ⟨.hbm, 288, rfl⟩
abbrev main_while0b_v169 : Ref sig .tc := ⟨.hbm, 289, rfl⟩
abbrev main_while0b_cst_53 : Ref sig .tc := ⟨.hbm, 290, rfl⟩
abbrev main_while0b_call9_v0 : Ref sig .tc := ⟨.hbm, 291, rfl⟩
abbrev main_while0b_call9_v1 : Ref sig .tc := ⟨.hbm, 292, rfl⟩
abbrev main_while0b_v170 : Ref sig .tc := ⟨.hbm, 293, rfl⟩
abbrev main_while0b_v171 : Ref sig .tc := ⟨.hbm, 294, rfl⟩
abbrev main_while0b_v172 : Ref sig .tc := ⟨.hbm, 295, rfl⟩
abbrev main_while0b_v173 : Ref sig .tc := ⟨.hbm, 296, rfl⟩
abbrev main_while0b_v174 : Ref sig .tc := ⟨.hbm, 297, rfl⟩
abbrev main_while0b_cst_54 : Ref sig .tc := ⟨.hbm, 298, rfl⟩
abbrev main_while0b_v175 : Ref sig .tc := ⟨.hbm, 299, rfl⟩
abbrev main_while0b_v176 : Ref sig .tc := ⟨.hbm, 300, rfl⟩
abbrev main_while0b_v177 : Ref sig .tc := ⟨.hbm, 301, rfl⟩
abbrev main_while0b_v178 : Ref sig .tc := ⟨.hbm, 302, rfl⟩
abbrev main_while0b_c_55 : Ref sig .tc := ⟨.hbm, 303, rfl⟩
abbrev main_while0b_v179 : Ref sig .tc := ⟨.hbm, 304, rfl⟩
abbrev main_v142 : Ref sig .tc := ⟨.hbm, 305, rfl⟩
abbrev main_v143 : Ref sig .tc := ⟨.hbm, 306, rfl⟩
abbrev main_v144 : Ref sig .tc := ⟨.hbm, 307, rfl⟩
abbrev main_v145 : Ref sig .tc := ⟨.hbm, 308, rfl⟩
abbrev main_v146 : Ref sig .tc := ⟨.hbm, 309, rfl⟩
abbrev main_v147 : Ref sig .tc := ⟨.hbm, 310, rfl⟩

abbrev nD : Nat := 1
abbrev τ : Topo := Topo.v7x

variable {F : FTy → Type} [FloatOps F]

abbrev main_while0_count : Scf.Loop 32 := ⟨0#32, 100#32, 1#32⟩
-- ==== Proof.Sinkhorn.lean ====
/- The real-number part: the iteration
     u i := lmu i - log (∑ j, exp (Z i j + v j)),   v j := lnu j - log (∑ i, exp (Z i j + u i)),
   started at v = 0, never makes one of its sums small. `A` are the kept rows, `B` the kept columns,
   `exp lmu` and `exp lnu` are weights of total one, and every `Z i j` of a kept pair lies in [-13, 13]. -/
module

public import Mathlib.Analysis.SpecialFunctions.Log.Basic
public import Mathlib.Algebra.Order.BigOperators.Group.Finset
public import Mathlib.Tactic.Linarith
public import Mathlib.Tactic.FieldSimp
public import Mathlib.Tactic.NormNum

@[expose] public section

noncomputable section

namespace Cert.Sinkhorn

open Finset

/-- The sum one half of a trip takes the logarithm of: over the kept entries `T` of the other side. -/
def total (T : Finset ℕ) (Z : ℕ → ℕ → ℝ) (w : ℕ → ℝ) (i : ℕ) : ℝ := ∑ j ∈ T, Real.exp (Z i j + w j)

/-- Half a trip: the new potentials of one side from those of the other. -/
def half (T : Finset ℕ) (Z : ℕ → ℕ → ℝ) (lm w : ℕ → ℝ) (i : ℕ) : ℝ := lm i - Real.log (total T Z w i)

/-- The two potentials after `k` trips. -/
def state (A B : Finset ℕ) (Z : ℕ → ℕ → ℝ) (lmu lnu : ℕ → ℝ) : ℕ → (ℕ → ℝ) × (ℕ → ℝ)
  | 0 => (fun _ => 0, fun _ => 0)
  | k + 1 =>
    (half B Z lmu (state A B Z lmu lnu k).2,
      half A (fun j i => Z i j) lnu (half B Z lmu (state A B Z lmu lnu k).2))

theorem total_pos {T : Finset ℕ} (hT : T.Nonempty) (Z : ℕ → ℕ → ℝ) (w : ℕ → ℝ) (i : ℕ) : 0 < total T Z w i :=
  sum_pos (fun _ _ => Real.exp_pos _) hT

section
variable {S T : Finset ℕ} {Z : ℕ → ℕ → ℝ} {lm ln : ℕ → ℝ}

/-- Two rows' sums differ by at most the factor `exp 26`. -/
theorem total_le (hT : T.Nonempty) (hZ : ∀ i ∈ S, ∀ j ∈ T, |Z i j| ≤ 13) (w : ℕ → ℝ) {i i' : ℕ} (hi : i ∈ S) (hi' : i' ∈ S) :
    Real.log (total T Z w i) ≤ 26 + Real.log (total T Z w i') := by
  have h : total T Z w i ≤ Real.exp 26 * total T Z w i' := by
    unfold total
    rw [mul_sum]
    refine sum_le_sum fun j hj => ?_
    rw [← Real.exp_add]
    refine Real.exp_le_exp.2 ?_
    have h1 := abs_le.1 (hZ i hi j hj)
    have h2 := abs_le.1 (hZ i' hi' j hj)
    linarith [h1.2, h2.1]
  calc Real.log (total T Z w i) ≤ Real.log (Real.exp 26 * total T Z w i') := Real.log_le_log (total_pos hT ..) h
    _ = 26 + Real.log (total T Z w i') := by
      rw [Real.log_mul (Real.exp_pos _).ne' (total_pos hT ..).ne', Real.log_exp]

/-- No row's logarithm exceeds the weighted mean of all by more than 26. -/
theorem log_total_le (hT : T.Nonempty) (hZ : ∀ i ∈ S, ∀ j ∈ T, |Z i j| ≤ 13) (hm : ∑ i ∈ S, Real.exp (lm i) = 1) (w : ℕ → ℝ)
    {L : ℝ} (hL : ∑ i ∈ S, Real.exp (lm i) * Real.log (total T Z w i) ≤ L) {i : ℕ} (hi : i ∈ S) :
    Real.log (total T Z w i) ≤ L + 26 := by
  have h : ∑ k ∈ S, Real.exp (lm k) * (Real.log (total T Z w i) - 26) ≤ ∑ k ∈ S, Real.exp (lm k) * Real.log (total T Z w k) :=
    sum_le_sum fun k hk => mul_le_mul_of_nonneg_left (by linarith [total_le hT hZ w hi hk]) (Real.exp_pos _).le
  rw [← sum_mul, hm, one_mul] at h
  linarith

/-- The weight of an entry after half a trip. -/
theorem exp_half (hT : T.Nonempty) (w : ℕ → ℝ) (i : ℕ) :
    Real.exp (half T Z lm w i) * total T Z w i = Real.exp (lm i) := by
  rw [half, Real.exp_sub, Real.exp_log (total_pos hT ..), div_mul_cancel₀ _ (total_pos hT ..).ne']

/-- After half a trip the other side's sums are bounded below by the weighted mean of the logarithms. -/
theorem total_ge (hS : S.Nonempty) (hT : T.Nonempty) (hZ : ∀ i ∈ S, ∀ j ∈ T, |Z i j| ≤ 13) (hm : ∑ i ∈ S, Real.exp (lm i) = 1)
    (w : ℕ → ℝ) {L : ℝ} (hL : ∑ i ∈ S, Real.exp (lm i) * Real.log (total T Z w i) ≤ L) {j : ℕ} (hj : j ∈ T) :
    Real.exp (-(39 + L)) ≤ total S (fun j i => Z i j) (half T Z lm w) j := by
  have h : ∑ i ∈ S, Real.exp (lm i) * Real.exp (-(39 + L)) ≤ total S (fun j i => Z i j) (half T Z lm w) j := by
    refine sum_le_sum fun i hi => ?_
    rw [← Real.exp_add]
    refine Real.exp_le_exp.2 ?_
    have h1 := abs_le.1 (hZ i hi j hj)
    have h2 := log_total_le hT hZ hm w hL hi
    simp only [half]
    linarith [h1.1]
  rwa [← sum_mul, hm, one_mul] at h

/-- The weighted mean of the logarithms does not grow over a trip. -/
theorem mean_le (hS : S.Nonempty) (hT : T.Nonempty) (hm : ∑ i ∈ S, Real.exp (lm i) = 1) (hn : ∑ j ∈ T, Real.exp (ln j) = 1) (w : ℕ → ℝ) :
    ∑ i ∈ S, Real.exp (lm i) * Real.log (total T Z (half S (fun j i => Z i j) ln (half T Z lm w)) i)
      ≤ ∑ i ∈ S, Real.exp (lm i) * Real.log (total T Z w i) := by
  set u := half T Z lm w with hu
  set w' := half S (fun j i => Z i j) ln u with hw'
  have hstep : ∀ i ∈ S, Real.exp (lm i) * Real.log (total T Z w' i)
      ≤ Real.exp (lm i) * Real.log (total T Z w i) + (Real.exp (u i) * total T Z w' i - Real.exp (lm i)) := by
    intro i _
    have hp := total_pos hT Z w i
    have hp' := total_pos hT Z w' i
    have hlog : Real.log (total T Z w' i / total T Z w i) ≤ total T Z w' i / total T Z w i - 1 :=
      Real.log_le_sub_one_of_pos (div_pos hp' hp)
    rw [Real.log_div hp'.ne' hp.ne'] at hlog
    have hx := exp_half (Z := Z) (lm := lm) hT w i
    rw [← hu] at hx
    have heq : Real.exp (lm i) * (total T Z w' i / total T Z w i) = Real.exp (u i) * total T Z w' i := by
      rw [← hx]; field_simp
    have := mul_le_mul_of_nonneg_left hlog (Real.exp_pos (lm i)).le
    rw [mul_sub, mul_sub, heq, mul_one] at this
    linarith
  have hsum : ∑ i ∈ S, Real.exp (u i) * total T Z w' i = 1 := by
    calc ∑ i ∈ S, Real.exp (u i) * total T Z w' i
        = ∑ i ∈ S, ∑ j ∈ T, Real.exp (w' j) * Real.exp (Z i j + u i) := by
          refine sum_congr rfl fun i _ => ?_
          rw [total, mul_sum]
          refine sum_congr rfl fun j _ => ?_
          rw [← Real.exp_add, ← Real.exp_add]; congr 1; ring
      _ = ∑ j ∈ T, Real.exp (w' j) * total S (fun j i => Z i j) u j := by
          rw [sum_comm]
          exact sum_congr rfl fun j _ => by rw [total, mul_sum]
      _ = ∑ j ∈ T, Real.exp (ln j) := sum_congr rfl fun j _ => exp_half hS u j
      _ = 1 := hn
  have := sum_le_sum hstep
  rw [sum_add_distrib, sum_sub_distrib, hsum, hm] at this
  linarith

end

section
variable {A B : Finset ℕ} {Z : ℕ → ℕ → ℝ} {lmu lnu : ℕ → ℝ}
  (hA : A.Nonempty) (hB : B.Nonempty) (hBc : B.card ≤ 65) (hZ : ∀ i ∈ A, ∀ j ∈ B, |Z i j| ≤ 13)
  (hm : ∑ i ∈ A, Real.exp (lmu i) = 1) (hn : ∑ j ∈ B, Real.exp (lnu j) = 1)

include hA hB hBc hZ hm hn in
/-- The rows' mean stays below 20. -/
theorem rowMean_le (k : ℕ) :
    ∑ i ∈ A, Real.exp (lmu i) * Real.log (total B Z (state A B Z lmu lnu k).2 i) ≤ 20 := by
  induction k with
  | zero =>
    have h : ∀ i ∈ A, Real.exp (lmu i) * Real.log (total B Z (state A B Z lmu lnu 0).2 i) ≤ Real.exp (lmu i) * 20 := by
      intro i hi
      refine mul_le_mul_of_nonneg_left ?_ (Real.exp_pos _).le
      rw [Real.log_le_iff_le_exp (total_pos hB ..)]
      have h1 : total B Z (state A B Z lmu lnu 0).2 i ≤ ∑ _j ∈ B, Real.exp 13 := by
        refine sum_le_sum fun j hj => Real.exp_le_exp.2 ?_
        have := (abs_le.1 (hZ i hi j hj)).2
        simp only [state]; linarith
      rw [sum_const, nsmul_eq_mul] at h1
      have h2 : ((B.card : ℕ) : ℝ) ≤ 65 := by exact_mod_cast hBc
      have h3 : (65 : ℝ) ≤ Real.exp 7 := by
        have h7 : Real.exp 7 = Real.exp 1 ^ 7 := by rw [← Real.exp_nat_mul]; norm_num
        rw [h7]
        calc (65 : ℝ) ≤ 2 ^ 7 := by norm_num
          _ ≤ Real.exp 1 ^ 7 := pow_le_pow_left₀ (by norm_num) (by linarith [Real.add_one_le_exp 1]) 7
      calc total B Z (state A B Z lmu lnu 0).2 i ≤ B.card * Real.exp 13 := h1
        _ ≤ Real.exp 7 * Real.exp 13 := mul_le_mul_of_nonneg_right (h2.trans h3) (Real.exp_pos _).le
        _ = Real.exp 20 := by rw [← Real.exp_add]; norm_num
    have := sum_le_sum h
    rwa [← sum_mul, hm, one_mul] at this
  | succ k ih => exact (mean_le hA hB hm hn _).trans ih

include hA hB hZ hm hn in
/-- The columns' mean stays below 0. -/
theorem colMean_le (k : ℕ) :
    ∑ j ∈ B, Real.exp (lnu j) * Real.log (total A (fun j i => Z i j) (state A B Z lmu lnu (k + 1)).1 j) ≤ 0 := by
  induction k with
  | zero =>
    refine sum_nonpos fun j hj => mul_nonpos_of_nonneg_of_nonpos (Real.exp_pos _).le ?_
    refine Real.log_nonpos (total_pos hA ..).le ?_
    rw [← hm]
    refine sum_le_sum fun i hi => Real.exp_le_exp.2 ?_
    have h : Real.exp (Z i j) ≤ total B Z (state A B Z lmu lnu 0).2 i := by
      have := single_le_sum (f := fun j => Real.exp (Z i j + (state A B Z lmu lnu 0).2 j)) (fun j _ => (Real.exp_pos _).le) hj
      simpa [state, total] using this
    have h' := Real.log_le_log (Real.exp_pos _) h
    rw [Real.log_exp] at h'
    show Z i j + half B Z lmu (state A B Z lmu lnu 0).2 i ≤ _
    unfold half
    linarith
  | succ k ih =>
    exact (mean_le (Z := fun j i => Z i j) hB hA hn hm _).trans ih

include hA hB hBc hZ hm hn in
/-- No sum over the kept columns falls below `exp (-59)`. -/
theorem rowTotal_ge (k : ℕ) {i : ℕ} (hi : i ∈ A) : Real.exp (-59) ≤ total B Z (state A B Z lmu lnu k).2 i := by
  cases k with
  | zero =>
    obtain ⟨j, hj⟩ := hB
    have := single_le_sum (f := fun j => Real.exp (Z i j + (state A B Z lmu lnu 0).2 j)) (fun j _ => (Real.exp_pos _).le) hj
    refine le_trans (Real.exp_le_exp.2 ?_) this
    have := (abs_le.1 (hZ i hi j hj)).1
    simp only [state]; linarith
  | succ k =>
    refine le_trans (Real.exp_le_exp.2 (by norm_num))
      (total_ge (Z := fun j i => Z i j) (L := 0) hB hA (fun j hj i hi => hZ i hi j hj) hn _ (colMean_le hA hB hZ hm hn k) hi)

include hA hB hBc hZ hm hn in
/-- No sum over the kept rows falls below `exp (-59)`. -/
theorem colTotal_ge (k : ℕ) {j : ℕ} (hj : j ∈ B) :
    Real.exp (-59) ≤ total A (fun j i => Z i j) (half B Z lmu (state A B Z lmu lnu k).2) j :=
  le_trans (Real.exp_le_exp.2 (by norm_num)) (total_ge (L := 20) hA hB hZ hm _ (rowMean_le hA hB hBc hZ hm hn k) hj)

end

/-- The kernel's floor under a sum lies below `exp (-59)`. -/
theorem floor_le : ((10 : ℝ) ^ 29)⁻¹ ≤ Real.exp (-59) := by
  have h1 : Real.exp 1 ≤ 3 :=
    (Real.exp_bound' (x := 1) zero_le_one le_rfl (n := 4) (by norm_num)).trans (by norm_num [Finset.sum_range_succ, Nat.factorial])
  have h : Real.exp 59 ≤ 10 ^ 29 := by
    have h59 : Real.exp 59 = Real.exp 1 ^ 59 := by rw [← Real.exp_nat_mul]; norm_num
    rw [h59]
    calc Real.exp 1 ^ 59 ≤ 3 ^ 59 := pow_le_pow_left₀ (Real.exp_pos _).le h1 59
      _ ≤ 10 ^ 29 := by norm_num
  rw [Real.exp_neg]
  exact inv_anti₀ (Real.exp_pos _) h

end Cert.Sinkhorn

end
-- ==== Proof.Extended.lean ====
/- One half of a trip over the extended reals, on the kernel's side and on the reference's: entries that the masks drop are `⊥`,
   kept entries are real and move as `Sinkhorn.half` says. -/
module

public import proofs.«01_k».proof.Proof.Sinkhorn
public import Idealize.ShloMosaic.PureOps.Ideal

@[expose] public section

noncomputable section

namespace Cert.Sinkhorn

open Finset Idealize.ShloMosaic

/-- A potential over the extended reals: `w` where kept, `⊥` where dropped. -/
def ext (T : Finset ℕ) (w : ℕ → ℝ) (i : ℕ) : EReal := if i ∈ T then (w i : EReal) else ⊥

theorem ext_mem {T : Finset ℕ} {i : ℕ} (h : i ∈ T) (w : ℕ → ℝ) : ext T w i = (w i : EReal) := if_pos h
theorem ext_notMem {T : Finset ℕ} {i : ℕ} (h : i ∉ T) (w : ℕ → ℝ) : ext T w i = ⊥ := if_neg h

/-- A real weight times nothing where dropped: sums over a padded axis are sums over the kept entries. -/
theorem sum_ite {n : ℕ} {T : Finset ℕ} (hT : T ⊆ range n) (y : ℕ → ℝ) :
    ∑ j : Fin n, (if (j : ℕ) ∈ T then (y j : EReal) else 0) = ((∑ j ∈ T, y j : ℝ) : EReal) := by
  rw [Fin.sum_univ_eq_sum_range (fun j => if j ∈ T then (y j : EReal) else 0) n, ← sum_filter,
    filter_mem_eq_inter, inter_eq_right.2 hT]
  induction T using Finset.induction_on with
  | empty => simp
  | insert a s ha ih =>
    rw [sum_insert ha, sum_insert ha, EReal.coe_add, ih ((subset_insert ..).trans hT)]

theorem sum_exp {n : ℕ} {T : Finset ℕ} (hT : T ⊆ range n) {x : Fin n → EReal} {y : ℕ → ℝ} (hx : ∀ j, x j = ext T y j) :
    ∑ j : Fin n, Ideal.exp (x j) = ((∑ j ∈ T, Real.exp (y j) : ℝ) : EReal) := by
  rw [← sum_ite hT]
  refine sum_congr rfl fun j _ => ?_
  rw [hx, ext]
  split_ifs <;> simp

/-- The largest entry of a row with a kept entry is real. -/
theorem fold_max_real {n : ℕ} {T : Finset ℕ} (hT : T ⊆ range n) (hne : T.Nonempty) {x : Fin n → EReal} {y : ℕ → ℝ}
    (hx : ∀ j, x j = ext T y j) : ∃ r : ℝ, univ.fold max ⊥ x = (r : EReal) := by
  obtain ⟨a, ha⟩ := hne
  have h1 : univ.fold max ⊥ x ≠ ⊥ := by
    refine ne_of_gt ((lt_fold_max _).2 (.inr ⟨⟨a, mem_range.1 (hT ha)⟩, mem_univ _, ?_⟩))
    rw [hx, ext_mem ha]; exact EReal.bot_lt_coe _
  have h2 : univ.fold max ⊥ x ≠ ⊤ := by
    refine ne_of_lt ((fold_max_lt ..).2 ⟨bot_lt_top, fun j _ => ?_⟩)
    rw [hx, ext]
    split_ifs
    · exact EReal.coe_lt_top _
    · exact bot_lt_top
  exact ⟨_, (EReal.coe_toReal h2 h1).symm⟩

section
variable {n : ℕ} {S T : Finset ℕ} {Z : ℕ → ℕ → ℝ} {Lm W : ℕ → ℝ} {i : ℕ} {x : Fin n → EReal} {lm : EReal}

/-- The kernel's half trip: the logarithm of the floored sum, taken from the log weight. -/
theorem kernel_half (hT : T ⊆ range n) (hlm : lm = ext S Lm i) (hx : i ∈ S → ∀ j, x j = ext T (fun j => Z i j + W j) j)
    {κ : ℝ} (hκ : i ∈ S → κ ≤ total T Z W i) (hκ0 : 0 < κ) :
    lm - Ideal.log (max (∑ j, Ideal.exp (x j)) (κ : EReal)) = ext S (half T Z Lm W) i := by
  by_cases hi : i ∈ S
  · have hs : ∑ j, Ideal.exp (x j) = ((total T Z W i : ℝ) : EReal) := sum_exp hT (hx hi)
    have h0 : ¬ total T Z W i ≤ 0 := not_le.2 (hκ0.trans_le (hκ hi))
    rw [hlm, hs, max_eq_left (EReal.coe_le_coe_iff.2 (hκ hi)), ext_mem hi, ext_mem hi, Ideal.log_coe, if_neg h0, half,
      EReal.coe_sub]
  · rw [hlm, ext_notMem hi, ext_notMem hi, sub_eq_add_neg, EReal.bot_add]

/-- The reference's half trip: the logarithm of the sum of the shifted exponentials, shifted back. -/
theorem reference_half (hT : T ⊆ range n) (hne : T.Nonempty) (hlm : lm = ext S Lm i)
    (hx : i ∈ S → ∀ j, x j = ext T (fun j => Z i j + W j) j) {M : EReal} (hM : i ∈ S → ∃ r : ℝ, M = (r : EReal)) :
    lm - (Ideal.log (∑ j, Ideal.exp (x j - M)) + M) = ext S (half T Z Lm W) i := by
  by_cases hi : i ∈ S
  · obtain ⟨r, rfl⟩ := hM hi
    have hs : ∑ j, Ideal.exp (x j - (r : EReal)) = ((total T Z W i * Real.exp (-r) : ℝ) : EReal) := by
      rw [sum_exp hT (y := fun j => Z i j + W j + -r)]
      · congr 1
        rw [total, sum_mul]
        exact sum_congr rfl fun j _ => Real.exp_add _ _
      · intro j
        rw [hx hi j, ext, ext]
        split_ifs
        · rw [← EReal.coe_sub, sub_eq_add_neg]
        · rw [sub_eq_add_neg, EReal.bot_add]
    have hp := mul_pos (total_pos hne Z W i) (Real.exp_pos (-r))
    rw [hlm, hs, ext_mem hi, ext_mem hi, Ideal.log_coe, if_neg (not_le.2 hp), ← EReal.coe_add, ← EReal.coe_sub,
      Real.log_mul (total_pos hne ..).ne' (Real.exp_pos _).ne', Real.log_exp, neg_add_cancel_right]
    rfl
  · rw [hlm, ext_notMem hi, ext_notMem hi, sub_eq_add_neg, EReal.bot_add]

end

end Cert.Sinkhorn

end
-- ==== Proof.Weights.lean ====
/- The log weights of one pair of patches: every kept entry but the last (the dustbin, index 64) weighs one, the dustbin as much as
   the other side's kept entries, and all of it is divided by the total. -/
module

public import proofs.«01_k».proof.Proof.Sinkhorn

@[expose] public section

noncomputable section

namespace Cert.Sinkhorn

open Finset

/-- How many entries are kept besides the dustbin. -/
def count (T : Finset ℕ) : ℝ := (T.card : ℝ) - 1

/-- The logarithm of the inverse of the total mass. -/
def norm (e : ℝ) (S T : Finset ℕ) : ℝ := -Real.log (count S + count T + e)

/-- The log weights of the side `S` against the side `T`. -/
def logWeight (e : ℝ) (S T : Finset ℕ) (i : ℕ) : ℝ :=
  if i = 64 then Real.log (count T + e) + norm e S T else norm e S T

theorem norm_comm (e : ℝ) (S T : Finset ℕ) : norm e S T = norm e T S := by
  unfold norm; rw [add_comm (count S)]

theorem count_nonneg {T : Finset ℕ} (h : 64 ∈ T) : 0 ≤ count T := by
  have : 1 ≤ T.card := card_pos.2 ⟨_, h⟩
  have : (1 : ℝ) ≤ T.card := by exact_mod_cast this
  unfold count; linarith

theorem sum_weight {e : ℝ} (he : 0 < e) {S T : Finset ℕ} (hS : 64 ∈ S) (hT : 64 ∈ T) :
    ∑ i ∈ S, Real.exp (logWeight e S T i) = 1 := by
  have h1 := count_nonneg hS
  have h2 := count_nonneg hT
  have hp : 0 < count S + count T + e := by linarith
  have hn : Real.exp (norm e S T) = (count S + count T + e)⁻¹ := by rw [norm, Real.exp_neg, Real.exp_log hp]
  rw [← add_sum_erase S _ hS]
  have h64 : Real.exp (logWeight e S T 64) = (count T + e) * (count S + count T + e)⁻¹ := by
    rw [logWeight, if_pos rfl, Real.exp_add, Real.exp_log (by linarith), hn]
  have hr : ∑ i ∈ S.erase 64, Real.exp (logWeight e S T i) = count S * (count S + count T + e)⁻¹ := by
    rw [sum_congr rfl (g := fun _ => (count S + count T + e)⁻¹), sum_const, nsmul_eq_mul, card_erase_of_mem hS,
      Nat.cast_sub (card_pos.2 ⟨_, hS⟩)]
    · simp [count]
    · intro i hi
      rw [logWeight, if_neg (ne_of_mem_erase hi), hn]
  rw [h64, hr, ← add_mul, show count T + e + count S = count S + count T + e by ring, mul_inv_cancel₀ hp.ne']

end Cert.Sinkhorn

end
-- ==== Proof.Consts.lean ====
/- The float constants the two programs spell, as the extended reals their patterns denote. -/
module

public import Idealize.ShloMosaic.PureOps.Ideal
public import Mathlib.Tactic.NormNum

@[expose] public section

noncomputable section

namespace Cert.Consts

open Idealize.ShloMosaic

/-- The small number added to a mass before its logarithm is taken. -/
def eps : ℝ := (9223372 : ℝ) * (2 ^ 63 : ℝ)⁻¹

theorem eps_pos : 0 < eps := by unfold eps; positivity

theorem ofBits_eps : Ideal.ofBits .f32 0x2B8CBCCC#32 = ((eps : ℝ) : EReal) := by
  simp [Ideal.ofBits, Ideal.ieee, eps, -EReal.coe_mul]

/-- The kernel's floor under a sum of exponentials. -/
def floor : ℝ := (10633824 : ℝ) * (2 ^ 123 : ℝ)⁻¹

theorem floor_pos : 0 < floor := by unfold floor; positivity

theorem floor_le : floor ≤ ((10 : ℝ) ^ 29)⁻¹ := by unfold floor; norm_num

theorem ofBits_floor : Ideal.ofBits .f32 0x0DA24260#32 = ((floor : ℝ) : EReal) := by
  simp [Ideal.ofBits, Ideal.ieee, floor, -EReal.coe_mul]

theorem ofBits_half : Ideal.ofBits .f32 0x3F000000#32 = ((1 / 2 : ℝ) : EReal) := by
  simp [Ideal.ofBits, Ideal.ieee, -EReal.coe_mul]; norm_num

theorem ofBits_sixteenth : Ideal.ofBits .f32 0x3D800000#32 = ((1 / 16 : ℝ) : EReal) := by
  simp [Ideal.ofBits, Ideal.ieee, -EReal.coe_mul]; norm_num

theorem ofBits_256 : Ideal.ofBits .f32 0x43800000#32 = ((256 : ℝ) : EReal) := by
  simp [Ideal.ofBits, Ideal.ieee, -EReal.coe_mul]; norm_num

theorem sqrt_256 : Ideal.sqrt ((256 : ℝ) : EReal) = ((16 : ℝ) : EReal) := by
  rw [Ideal.sqrt_coe, if_neg (by norm_num), show (256 : ℝ) = 16 ^ 2 by norm_num, Real.sqrt_sq (by norm_num)]

theorem ofBits_neg_inf : Ideal.ofBits .f32 0xFF800000#32 = (⊥ : EReal) := by
  simp [Ideal.ofBits, Ideal.ieee]

theorem ofBits_208 : Ideal.ofBits .f32 0x43500000#32 = ((208 : ℝ) : EReal) := by
  simp [Ideal.ofBits, Ideal.ieee, -EReal.coe_mul]; norm_num

theorem ofBits_13 : Ideal.ofBits .f32 0x41500000#32 = ((13 : ℝ) : EReal) := by
  simp [Ideal.ofBits, Ideal.ieee, -EReal.coe_mul]; norm_num

end Cert.Consts

end
-- ==== Proof.Pair.lean ====
/- One pair of patches: what its masks keep, the scores of the kept entries, and the two potentials after `k` trips, as real numbers. -/
module

public import proofs.«01_k».proof.Proof.Extended
public import proofs.«01_k».proof.Proof.Weights
public import proofs.«01_k».proof.Proof.Consts

@[expose] public section

noncomputable section

namespace Cert.Sinkhorn

open Finset Idealize.ShloMosaic

/-- The rows `A` and columns `B` kept, the dustbin 64 among them, and scores of magnitude at most 13. -/
structure Kept (A B : Finset ℕ) (Z : ℕ → ℕ → ℝ) : Prop where
  rows : A ⊆ range 65
  cols : B ⊆ range 65
  row64 : 64 ∈ A
  col64 : 64 ∈ B
  small : ∀ i ∈ A, ∀ j ∈ B, |Z i j| ≤ 13

/-- The potentials of the pair after `k` trips. -/
def potentials (A B : Finset ℕ) (Z : ℕ → ℕ → ℝ) (k : ℕ) : (ℕ → ℝ) × (ℕ → ℝ) :=
  state A B Z (logWeight Consts.eps A B) (logWeight Consts.eps B A) k

/-- The transported score of an entry after `k` trips, `⊥` where it is dropped. -/
def result (A B : Finset ℕ) (Z : ℕ → ℕ → ℝ) (k i j : ℕ) : EReal :=
  if i ∈ A ∧ j ∈ B then ((Z i j + (potentials A B Z k).1 i + (potentials A B Z k).2 j : ℝ) : EReal) else ⊥

section
variable {A B : Finset ℕ} {Z : ℕ → ℕ → ℝ} (h : Kept A B Z)
include h

theorem floor_le_row (k : ℕ) {i : ℕ} (hi : i ∈ A) : Consts.floor ≤ total B Z (potentials A B Z k).2 i :=
  (Consts.floor_le.trans floor_le).trans (rowTotal_ge ⟨_, h.row64⟩ ⟨_, h.col64⟩ ((card_le_card h.cols).trans (card_range 65).le) h.small
    (sum_weight Consts.eps_pos h.row64 h.col64) (sum_weight Consts.eps_pos h.col64 h.row64) k hi)

theorem floor_le_col (k : ℕ) {j : ℕ} (hj : j ∈ B) :
    Consts.floor ≤ total A (fun j i => Z i j) (half B Z (logWeight Consts.eps A B) (potentials A B Z k).2) j :=
  (Consts.floor_le.trans floor_le).trans (colTotal_ge ⟨_, h.row64⟩ ⟨_, h.col64⟩ ((card_le_card h.cols).trans (card_range 65).le) h.small
    (sum_weight Consts.eps_pos h.row64 h.col64) (sum_weight Consts.eps_pos h.col64 h.row64) k hj)

end

/-- A kept score plus a potential; a dropped entry's potential is `⊥` and so is the sum. -/
theorem add_ext {T : Finset ℕ} {z : EReal} {y w : ℕ → ℝ} {j : ℕ} (hz : j ∈ T → z = (y j : EReal)) :
    z + ext T w j = ext T (fun j => y j + w j) j := by
  by_cases hj : j ∈ T
  · rw [ext_mem hj, ext_mem hj, hz hj, EReal.coe_add]
  · rw [ext_notMem hj, ext_notMem hj, EReal.add_bot]

/-- The last sum, from the three parts, on either side. -/
theorem result_eq {A B : Finset ℕ} {Z : ℕ → ℕ → ℝ} {k i j : ℕ} {z : EReal} (hz : i ∈ A → j ∈ B → z = (Z i j : EReal)) :
    z + ext A (potentials A B Z k).1 i + ext B (potentials A B Z k).2 j = result A B Z k i j := by
  unfold result
  by_cases hi : i ∈ A
  · by_cases hj : j ∈ B
    · rw [if_pos ⟨hi, hj⟩, ext_mem hi, ext_mem hj, hz hi hj, EReal.coe_add, EReal.coe_add]
    · rw [if_neg (fun h => hj h.2), ext_notMem hj, EReal.add_bot]
  · rw [if_neg (fun h => hi h.1), ext_notMem hi, EReal.add_bot, EReal.bot_add]

end Cert.Sinkhorn

end
-- ==== Proof.KernelBlock.lean ====
/- What one block of the kernel computes, read at one pair of patches `r` of the block. `A` and `B` are the rows and columns
   the two masks of that pair keep, the dustbin 64 among them; `Z` are the scores of the kept entries. -/
module

public import proofs.«01_k».proof.Proof.Pair
public import proofs.«01_k».proof.Proof.Gen.KernelIdeal.Skeleton
public import Idealize.ShloMosaic.Lib.Pointwise
public import Idealize.ShloMosaic.Lib.Exec

@[expose] public section

set_option maxRecDepth 16384

noncomputable section

open Idealize.ShloMosaic Idealize.ShloMosaic.TcCoe Idealize.SL.Sem
open Cert.KernelIdeal Cert.KernelIdeal.Gen Cert.Sinkhorn

namespace Cert.KernelBlock

/-- "This is the dustbin", as a word. -/
theorem eq64 {i : ℕ} (hi : i < 128) : IntOp.cmpi .eq (BitVec.ofNat 32 i) 64#32 = BitVec.ofBool (decide (i = 64)) := by
  have : (BitVec.ofNat 32 i == 64#32) = decide (i = 64) := by
    rw [Bool.eq_iff_iff, beq_iff_eq, decide_eq_true_iff, ← BitVec.toNat_inj, BitVec.toNat_ofNat, BitVec.toNat_ofNat]
    omega
  exact congrArg BitVec.ofBool this

/-- A mask entry, zero or one, exceeds one half exactly where it is one. -/
theorem half_lt {T : Finset ℕ} {i : ℕ} {x : EReal} (h : x = if i ∈ T then 1 else 0) :
    (Ideal.ofBits .f32 0x3F000000#32 < x) = (i ∈ T) := by
  rw [Consts.ofBits_half, h]
  split_ifs with hi
  · simp only [hi, eq_iff_iff, iff_true]
    exact_mod_cast (by norm_num : (1 / 2 : ℝ) < 1)
  · simp only [hi, eq_iff_iff, iff_false, not_lt]
    exact_mod_cast (by norm_num : (0 : ℝ) ≤ 1 / 2)

theorem mask_bot : Named.named (F := Ideal) Cert.KernelIdeal.κ "mask" (φ := .f32) 0xC61C4000#32 = (⊥ : EReal) :=
  IdealRules.named_const.ideal_named_scalar _ _ _ _ rfl

/-- The number of kept entries, from a sum of mask entries. -/
theorem sum_mask {n : ℕ} {T : Finset ℕ} (hT : T ⊆ Finset.range n) {x : Fin n → EReal} (h : ∀ i, x i = if (i : ℕ) ∈ T then 1 else 0) :
    ∑ i, x i - 1 = ((count T : ℝ) : EReal) := by
  have := sum_ite hT (fun _ => 1)
  simp only [EReal.coe_one] at this
  rw [Finset.sum_congr rfl fun i _ => h i, this, Finset.sum_const, nsmul_eq_mul, mul_one, ← EReal.coe_one, ← EReal.coe_sub]; rfl

section
variable {A B : Finset ℕ} {x3 : FVec Ideal S32x72 .f32} {x4 : FVec Ideal S32x128 .f32} {r : Fin 32}
  (hA : A ⊆ Finset.range 65) (hB : B ⊆ Finset.range 65) (hA64 : 64 ∈ A) (hB64 : 64 ∈ B)
  (h3 : ∀ i : Fin 72, x3 (ix2 r i) = if (i : ℕ) ∈ A then 1 else 0)
  (h4 : ∀ j : Fin 128, x4 (ix2 r j) = if (j : ℕ) ∈ B then 1 else 0)

include hA h3 in
theorem pay14_at (i j : Fin 1) : k0_pay14 (F := Ideal) (k0_pay6 x3) (ix3 r i j) = ((count A : ℝ) : EReal) := by
  pointwise [k0_pay14, k0_pay6]
  exact sum_mask (hA.trans (Finset.range_subset_range.2 (by norm_num))) h3

include hB h4 in
theorem pay15_at (i j : Fin 1) : k0_pay15 (F := Ideal) (k0_pay7 x4) (ix3 r i j) = ((count B : ℝ) : EReal) := by
  pointwise [k0_pay15, k0_pay7]
  exact sum_mask (hB.trans (Finset.range_subset_range.2 (by norm_num))) h4

/-- The logarithm of a positive real. -/
theorem log_pos {x : ℝ} (h : 0 < x) : Ideal.log (x : EReal) = ((Real.log x : ℝ) : EReal) := by
  rw [Ideal.log_coe, if_neg (not_le.2 h)]

include hA hB hA64 hB64 h3 h4 in
theorem pay16_at (i j : Fin 1) : k0_pay16 (F := Ideal) (k0_pay6 x3) (k0_pay7 x4) (ix3 r i j) = ((norm Consts.eps A B : ℝ) : EReal) := by
  pointwise [k0_pay16]
  rw [pay14_at hA h3, pay15_at hB h4, Consts.ofBits_eps, ← EReal.coe_add, ← EReal.coe_add,
    log_pos (by have := count_nonneg hA64; have := count_nonneg hB64; have := Consts.eps_pos; linarith), zero_sub, ← EReal.coe_neg]; rfl

include hA hB hA64 hB64 h3 h4 in
/-- The rows' log weights. -/
theorem pay17_at (i : Fin 72) :
    k0_pay17 (F := Ideal) (k0_pay6 x3) (k0_pay7 x4) (iota .tc S1x72x1 32 [1] iota_S1x72x1_d1_w32) (ix3 r i 0)
      = ext A (logWeight Consts.eps A B) i := by
  have h16 := pay16_at hA hB hA64 hB64 h3 h4 0 0
  have h15 := pay15_at hB h4 0 0
  generalize k0_pay16 (F := Ideal) (k0_pay6 x3) (k0_pay7 x4) = p16 at h16
  have e : k0_pay17 (F := Ideal) (k0_pay6 x3) (k0_pay7 x4) (iota .tc S1x72x1 32 [1] iota_S1x72x1_d1_w32) (ix3 r i 0)
      = Scalar.select (IntOp.cmpi CmpIPredicate.eq (BitVec.ofNat 32 ↑i) 64#32)
      (Ideal.log (k0_pay15 (F := Ideal) (k0_pay7 x4) (ix3 r 0 0) + Ideal.ofBits FTy.f32 0x2B8CBCCC#32) + k0_pay16 (F := Ideal) (k0_pay6 x3) (k0_pay7 x4) (ix3 r 0 0))
      (if Ideal.ofBits FTy.f32 0x3F000000#32 < x3 (ix2 r i) then k0_pay16 (F := Ideal) (k0_pay6 x3) (k0_pay7 x4) (ix3 r 0 0)
      else Named.named (F := Ideal) κ "mask" (φ := .f32) 0xC61C4000#32) := by
    pointwise [k0_pay17, k0_pay6]
  rw [e, eq64 (by omega), Scalar.select_decide, pay16_at hA hB hA64 hB64 h3 h4, h15, mask_bot, Consts.ofBits_eps, ← EReal.coe_add,
    log_pos (by have := count_nonneg hB64; have := Consts.eps_pos; linarith), ← EReal.coe_add, ext, logWeight]
  simp only [half_lt (h3 i)]
  by_cases h64 : (i : ℕ) = 64
  · simp [h64, hA64]
  · simp [h64]

include hA hB hA64 hB64 h3 h4 in
/-- The columns' half trip, with the columns' log weights computed inside it. -/
theorem pay4_at (v43 : FVec Ideal S32x72x128 .f32) (v74 : FVec Ideal S32x72x1 .f32) (arg9 : FVec Ideal S32x1x128 .f32) (j : Fin 128) :
    k0_pay4 (F := Ideal) v43 v74 (k0_pay18 (iota .tc S1x1x128 32 [2] iota_S1x1x128_d2_w32)) (k0_pay19 (k0_pay6 x3) (k0_pay7 x4)) (k0_pay20 (F := Ideal) (k0_pay7 x4))
        (Named.named (F := Ideal) κ "mask" 0xC61C4000#32) (k0_pay21 (k0_pay6 x3) (k0_pay7 x4)) arg9 (ix3 r 0 j)
      = ext B (logWeight Consts.eps B A) j
        - Ideal.log (max (∑ i : Fin 72, Ideal.exp (v43 (ix3 r i j) + k0_pay3 v43 v74 arg9 (ix3 r i 0))) ((Consts.floor : ℝ) : EReal)) := by
  have h16 := pay16_at hA hB hA64 hB64 h3 h4 0 0
  have h14 := pay14_at hA h3 0 0
  have e : k0_pay4 (F := Ideal) v43 v74 (k0_pay18 (iota .tc S1x1x128 32 [2] iota_S1x1x128_d2_w32)) (k0_pay19 (k0_pay6 x3) (k0_pay7 x4)) (k0_pay20 (F := Ideal) (k0_pay7 x4))
        (Named.named (F := Ideal) κ "mask" 0xC61C4000#32) (k0_pay21 (k0_pay6 x3) (k0_pay7 x4)) arg9 (ix3 r 0 j)
      = Scalar.select (IntOp.cmpi CmpIPredicate.eq (BitVec.ofNat 32 ↑j) 64#32)
      (Ideal.log (k0_pay14 (F := Ideal) (k0_pay6 x3) (ix3 r 0 0) + Ideal.ofBits FTy.f32 0x2B8CBCCC#32) + k0_pay16 (F := Ideal) (k0_pay6 x3) (k0_pay7 x4) (ix3 r 0 0))
      (if Ideal.ofBits FTy.f32 0x3F000000#32 < x4 (ix2 r j) then k0_pay16 (F := Ideal) (k0_pay6 x3) (k0_pay7 x4) (ix3 r 0 0)
      else Named.named (F := Ideal) κ "mask" (φ := .f32) 0xC61C4000#32)
        - Ideal.log (max (∑ i : Fin 72, Ideal.exp (v43 (ix3 r i j) + k0_pay3 v43 v74 arg9 (ix3 r i 0))) (Ideal.ofBits FTy.f32 0x0DA24260#32)) := by
    pointwise [k0_pay4, k0_pay18, k0_pay19, k0_pay20, k0_pay21, k0_pay7]
  rw [e, eq64 (by omega), Scalar.select_decide, h16, h14, mask_bot, Consts.ofBits_eps, Consts.ofBits_floor, ← EReal.coe_add,
    log_pos (by have := count_nonneg hA64; have := Consts.eps_pos; linarith), ← EReal.coe_add, ext, logWeight, norm_comm _ B A]
  simp only [half_lt (h4 j)]
  by_cases h64 : (j : ℕ) = 64
  · simp [h64, hB64]
  · simp [h64]

include h4 in
/-- The columns' first potential. -/
theorem pay2_at (j : Fin 128) : k0_pay2 (F := Ideal) (k0_pay9 (F := Ideal) x4) (ix3 r 0 j) = ext B (fun _ => 0) j := by
  pointwise [k0_pay2, k0_pay9, k0_pay7]
  simp only [half_lt (h4 j), mask_bot, ext, EReal.coe_zero]

include h3 h4 in
/-- The score the kernel holds for a kept pair: `a` at the dustbin, the scaled product elsewhere. -/
theorem pay13_at (x0 : EReal) (x1 : FVec Ideal S32x72x256 .f32) (x2 : FVec Ideal S32x128x256 .f32) {i : Fin 72} {j : Fin 128}
    (hi : (i : ℕ) ∈ A) (hj : (j : ℕ) ∈ B) :
    k0_pay13 (F := Ideal) (k0_pay10 (F := Ideal) x3 x4) (k0_pay11 (F := Ideal) x0 x1 x2) (k0_pay12 (F := Ideal) x3 x4) (Named.named (F := Ideal) κ "unmask" 0x461C4000#32) (ix3 r i j)
      = if (i : ℕ) = 64 ∨ (j : ℕ) = 64 then x0 else (∑ k, x1 (ix3 r i k) * x2 (ix3 r j k)) * ((1 / 16 : ℝ) : EReal) := by
  pointwise [k0_pay13, k0_pay10, k0_pay11, k0_pay12, k0_pay8, k0_pay9, k0_pay6, k0_pay7]
  simp only [half_lt (h3 i), half_lt (h4 j), hi, hj, Consts.ofBits_sixteenth, eq64 (show (i : ℕ) < 128 by omega), eq64 j.isLt]
  by_cases h1 : (i : ℕ) = 64 <;> by_cases h2 : (j : ℕ) = 64 <;> simp [h1, h2, IntOp.andi, IntOp.ori, Scalar.select]

end

end Cert.KernelBlock

end
-- ==== Proof.KernelLoop.lean ====
/- The kernel's loop on one block, and what the block it stores holds: at every pair of patches the transported scores. -/
module

public import proofs.«01_k».proof.Proof.KernelBlock

@[expose] public section

set_option maxRecDepth 16384

noncomputable section

open Idealize.ShloMosaic Idealize.ShloMosaic.TcCoe Idealize.SL.Sem
open Cert.KernelIdeal Cert.KernelIdeal.Gen Cert.Sinkhorn

namespace Cert.KernelBlock

section
variable (x0 : Elt Ideal .f32) (x1 : Vec Ideal S32x72x256 .f32) (x2 : Vec Ideal S32x128x256 .f32) (x3 : Vec Ideal S32x72 .f32) (x4 : Vec Ideal S32x128 .f32)

/-- The block's scores. -/
def scores : FVec Ideal S32x72x128 .f32 :=
  k0_pay13 (F := Ideal) (k0_pay10 (F := Ideal) x3 x4) (k0_pay11 (F := Ideal) x0 x1 x2) (k0_pay12 (F := Ideal) x3 x4) (Named.named (F := Ideal) κ "unmask" 0x461C4000#32)

/-- The block's log weights of the rows. -/
def rowWeights : FVec Ideal S32x72x1 .f32 :=
  k0_pay17 (F := Ideal) (k0_pay6 x3) (k0_pay7 x4) (iota .tc S1x72x1 32 [1] iota_S1x72x1_d1_w32)

/-- One trip of the loop. -/
def trip (p : FVec Ideal S32x72x1 .f32 × FVec Ideal S32x1x128 .f32) : FVec Ideal S32x72x1 .f32 × FVec Ideal S32x1x128 .f32 :=
  (k0_pay3 (F := Ideal) (scores x0 x1 x2 x3 x4) (rowWeights x3 x4) p.2,
    k0_pay4 (F := Ideal) (scores x0 x1 x2 x3 x4) (rowWeights x3 x4) (k0_pay18 (iota .tc S1x1x128 32 [2] iota_S1x1x128_d2_w32)) (k0_pay19 (k0_pay6 x3) (k0_pay7 x4))
      (k0_pay20 (F := Ideal) (k0_pay7 x4)) (Named.named (F := Ideal) κ "mask" 0xC61C4000#32) (k0_pay21 (k0_pay6 x3) (k0_pay7 x4)) p.2)

/-- The potentials the loop starts from. -/
def start : FVec Ideal S32x72x1 .f32 × FVec Ideal S32x1x128 .f32 := (k0_pay1 (F := Ideal), k0_pay2 (F := Ideal) (k0_pay9 (F := Ideal) x4))

/-- The block the body stores. -/
def block : FVec Ideal S32x65x65 .f32 :=
  k0_pay5 (F := Ideal) (scores x0 x1 x2 x3 x4) (Scf.fold (n := k0_t1_loop.trips) (fun _ p => trip x0 x1 x2 x3 x4 p) (start x4)).1
    (Scf.fold (n := k0_t1_loop.trips) (fun _ p => trip x0 x1 x2 x3 x4 p) (start x4)).2

end

/-- A fold that ignores the trip number iterates. -/
theorem fold_const {σ : Type} (n : ℕ) (g : σ → σ) (a : σ) : Scf.fold (n := n) (fun _ p => g p) a = g^[n] a := by
  rw [Scf.fold_eq]
  have : ∀ (l : List (Fin n)) (a : σ), l.foldl (fun acc _ => g acc) a = g^[l.length] a := by
    intro l
    induction l with
    | nil => intro a; rfl
    | cons _ l ih => intro a; rw [List.foldl_cons, ih, List.length_cons, Function.iterate_succ_apply]
  rw [this, List.length_finRange]

theorem trips_eq : k0_t1_loop.trips = 100 := by decide

section
variable {A B : Finset ℕ} {Z : ℕ → ℕ → ℝ} (hk : Kept A B Z) {x0 : EReal} {x1 : FVec Ideal S32x72x256 .f32} {x2 : FVec Ideal S32x128x256 .f32}
  {x3 : FVec Ideal S32x72 .f32} {x4 : FVec Ideal S32x128 .f32} {r : Fin 32}
  (h3 : ∀ i : Fin 72, x3 (ix2 r i) = if (i : ℕ) ∈ A then 1 else 0)
  (h4 : ∀ j : Fin 128, x4 (ix2 r j) = if (j : ℕ) ∈ B then 1 else 0)
  (hs : ∀ (i : Fin 72) (j : Fin 128), (i : ℕ) ∈ A → (j : ℕ) ∈ B →
    (if (i : ℕ) = 64 ∨ (j : ℕ) = 64 then x0 else (∑ k, x1 (ix3 r i k) * x2 (ix3 r j k)) * ((1 / 16 : ℝ) : EReal)) = (Z i j : EReal))

include h3 h4 hs in
theorem scores_at {i : Fin 72} {j : Fin 128} (hi : (i : ℕ) ∈ A) (hj : (j : ℕ) ∈ B) :
    scores x0 x1 x2 x3 x4 (ix3 r i j) = (Z i j : EReal) :=
  (pay13_at h3 h4 x0 x1 x2 hi hj).trans (hs i j hi hj)

include hk h3 h4 hs in
/-- The potentials after `k` trips. -/
theorem loop_at (k : ℕ) :
    (∀ j : Fin 128, ((trip x0 x1 x2 x3 x4)^[k] (start x4)).2 (ix3 r 0 j) = ext B (potentials A B Z k).2 j)
      ∧ (k ≠ 0 → ∀ i : Fin 72, ((trip x0 x1 x2 x3 x4)^[k] (start x4)).1 (ix3 r i 0) = ext A (potentials A B Z k).1 i) := by
  induction k with
  | zero => exact ⟨fun j => pay2_at h4 j, fun h => absurd rfl h⟩
  | succ k ih =>
    rw [Function.iterate_succ_apply']
    generalize (trip x0 x1 x2 x3 x4)^[k] (start x4) = p at ih
    have hrow : ∀ i : Fin 72, (trip x0 x1 x2 x3 x4 p).1 (ix3 r i 0) = ext A (potentials A B Z (k + 1)).1 i := by
      intro i
      have e : (trip x0 x1 x2 x3 x4 p).1 (ix3 r i 0) = rowWeights x3 x4 (ix3 r i 0)
          - Ideal.log (max (∑ j : Fin 128, Ideal.exp (scores x0 x1 x2 x3 x4 (ix3 r i j) + p.2 (ix3 r 0 j))) ((Consts.floor : ℝ) : EReal)) := by
        rw [← Consts.ofBits_floor]
        show k0_pay3 (F := Ideal) (scores x0 x1 x2 x3 x4) (rowWeights x3 x4) p.2 (ix3 r i 0) = _
        pointwise [k0_pay3]
      rw [e]
      refine kernel_half (n := 128) (S := A) (T := B) (Z := Z) (hk.cols.trans (Finset.range_subset_range.2 (by norm_num)))
        (pay17_at hk.rows hk.cols hk.row64 hk.col64 h3 h4 i) ?_ (fun hi => floor_le_row hk k hi) Consts.floor_pos
      intro hi j
      rw [ih.1 j]
      exact add_ext (y := fun j => Z i j) fun hj => scores_at h3 h4 hs hi hj
    refine ⟨fun j => ?_, fun _ => hrow⟩
    have e : (trip x0 x1 x2 x3 x4 p).2 (ix3 r 0 j) = _ :=
      pay4_at hk.rows hk.cols hk.row64 hk.col64 h3 h4 (scores x0 x1 x2 x3 x4) (rowWeights x3 x4) p.2 j
    rw [e]
    refine kernel_half (n := 72) (S := B) (T := A) (Z := fun j i => Z i j) (hk.rows.trans (Finset.range_subset_range.2 (by norm_num)))
        rfl ?_ (fun hj => floor_le_col hk k hj) Consts.floor_pos
    intro hj i
    have hr : k0_pay3 (F := Ideal) (scores x0 x1 x2 x3 x4) (rowWeights x3 x4) p.2 (ix3 r i 0) = _ := hrow i
    rw [hr]
    exact add_ext (y := fun i => Z i j) fun hi => scores_at h3 h4 hs hi hj

include hk h3 h4 hs in
/-- What the stored block holds. -/
theorem block_at (i j : Fin 65) : block x0 x1 x2 x3 x4 (ix3 r i j) = result A B Z 100 i j := by
  have hl := loop_at hk h3 h4 hs 100
  unfold block
  rw [fold_const, trips_eq]
  pointwise [k0_pay5]
  have hu := hl.2 (by norm_num) ⟨i, by omega⟩
  have hv := hl.1 ⟨j, by omega⟩
  refine Eq.trans (congrArg₂ (· + ·) (congrArg₂ (· + ·) rfl hu) hv) ?_
  exact result_eq fun hi hj => scores_at (i := ⟨i, by omega⟩) (j := ⟨j, by omega⟩) h3 h4 hs hi hj

end

end Cert.KernelBlock

end
-- ==== Proof.OutBlock.lean ====
module

public import proofs.«01_k».proof.Proof.KernelLoop
public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Idealize.SL.Sem
open Cert.KernelIdeal Cert.KernelIdeal.Gen Cert.Sinkhorn

namespace Cert.OutBlock
variable (m : (ℓ : Loc nD τ sig) → Buf (Elt Ideal) ℓ)

theorem out_eq (c : Dev nD) (t : Fin cfg0.N) :
    outsAt0 m c t = KernelBlock.block (iblk m c 0 t (ix1 0)) (iblk m c 1 t) (iblk m c 2 t) (iblk m c 3 t) (iblk m c 4 t) := by
  unfold outsAt0 out0_A_5
  rw [View.read_writes_eq_canon _ _ _ (cover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (iblk m c 4 t))]
  unfold kernelRun0_A
  dsimp only
  sl_unfold_words
  have hz1 : (![0] : Fin 1 → ℕ) = fun _ => 0 := by decide
  have hz2 : (![0, 0] : Fin 2 → ℕ) = fun _ => 0 := by decide
  have hz3 : (![0, 0, 0] : Fin 3 → ℕ) = fun _ => 0 := by decide
  simp only [View.readAt_eq_ld, (hs0_0 t).read_unread, (hs0_1 t).read_unread, (hs0_2 t).read_unread, (hs0_3 t).read_unread, (hs0_4 t).read_unread]
  rw [View.canon_unit_zero hz3]
  simp only [View.ld_unit_zero (S := S32x72x256) hz3, View.ld_unit_zero (S := S32x128x256) hz3, View.ld_unit_zero (S := S32x72) hz2, View.ld_unit_zero (S := S32x128) hz2]
  have hx : View.ld (iblk m c 0 t) (Rect.unit ![0] ![1] inb_S1_S1_0) (Shape.Idx.first (Nat.one_pos)) = iblk m c 0 t (ix1 0) :=
    congrArg (iblk m c 0 t) (by funext a; fin_cases a; rfl)
  exact congrArg (fun x => KernelBlock.block x (iblk m c 1 t) (iblk m c 2 t) (iblk m c 3 t) (iblk m c 4 t)) hx

end Cert.OutBlock

end
-- ==== Proof.Entries.lean ====
/- The entries of one pair as the arguments give them: which rows and columns the masks keep, and the score of an entry. -/
module

public import proofs.«01_k».proof.Proof.Pair
public import proofs.«01_k».proof.Proof.Gen.Pre_scores_at_most_13
public import Idealize.ShloMosaic.Lib.Pointwise
public import Idealize.ShloMosaic.Lib.Claim

@[expose] public section

noncomputable section

open Idealize.ShloMosaic Cert.Pre_scores_at_most_13 Cert.Sinkhorn

namespace Cert.Entries

/-- A mask with a kept entry 64 appended, as the set of kept positions of one row. -/
def kept (M : IVec S256x64 1) (b : Fin 256) : Finset ℕ := (Finset.range 65).filter fun i => i = 64 ∨ ∃ h : i < 64, M (ix2 b ⟨i, h⟩) = 1#1

theorem kept_iff (M : IVec S256x64 1) (b : Fin 256) (i : ℕ) (h : i ≠ 64) : i ∈ kept M b ↔ ∃ h1 : i < 64, M (ix2 b ⟨i, h1⟩) = 1#1 := by
  unfold kept
  rw [Finset.mem_filter, Finset.mem_range]
  constructor
  · rintro ⟨_, h1 | h1⟩
    · exact absurd h1 h
    · exact h1
  · rintro ⟨h1, h2⟩
    exact ⟨by omega, Or.inr ⟨h1, h2⟩⟩

theorem last_kept (M : IVec S256x64 1) (b : Fin 256) : 64 ∈ kept M b :=
  Finset.mem_filter.2 ⟨by decide, Or.inl rfl⟩

/-- The score of an entry before masking: the dustbin's score on row or column 64, else the product of the two feature rows over 16. -/
def score (X Y : S256x64x256.Idx → EReal) (a : S1.Idx → EReal) (b : Fin 256) (i j : ℕ) : EReal :=
  if h : i < 64 ∧ j < 64 then (∑ k : Fin 256, X (ix3 b ⟨i, h.1⟩ k) * Y (ix3 b ⟨j, h.2⟩ k)) * ((1 / 16 : ℝ) : EReal) else a (ix1 0)

/-- A bounded extended real is a bounded real. -/
theorem real_of_abs {x : EReal} {r : ℝ} (h : max x (-x) ≤ (r : EReal)) : |x.toReal| ≤ r ∧ x = (x.toReal : EReal) := by
  induction x with
  | bot => exact absurd h (by simp)
  | top => exact absurd h (by simp)
  | coe x => exact ⟨abs_le'.2 ⟨EReal.coe_le_coe_iff.1 ((le_max_left _ _).trans h), EReal.coe_le_coe_iff.1 ((le_max_right _ _).trans h)⟩, rfl⟩

/-- A product of magnitude at most 208 is a real, a sixteenth of it of magnitude at most 13. -/
theorem real_of_product {x : EReal} (h : max x (-x) ≤ ((208 : ℝ) : EReal)) :
    |(x * ((1 / 16 : ℝ) : EReal)).toReal| ≤ 13 ∧ x * ((1 / 16 : ℝ) : EReal) = ((x * ((1 / 16 : ℝ) : EReal)).toReal : EReal) := by
  obtain ⟨h1, h2⟩ := real_of_abs h
  rw [h2, ← EReal.coe_mul, EReal.toReal_coe]
  refine ⟨?_, rfl⟩
  rw [abs_mul, abs_of_pos (by norm_num : (0 : ℝ) < 1 / 16)]
  linarith

theorem andi_one : ∀ a b : BitVec 1, IntOp.andi a b = 1#1 → a = 1#1 ∧ b = 1#1 := by
  decide

theorem ori_one : ∀ p q r : BitVec 1, IntOp.ori (~~~IntOp.andi p q) r = 1#1 → p = 1#1 → q = 1#1 → r = 1#1 := by
  decide

theorem of_ofBool {p : Prop} [Decidable p] (h : BitVec.ofBool (decide p) = 1#1) : p := by
  by_contra hp
  rw [decide_eq_false hp] at h
  exact absurd h (by decide)

section
variable {X Y : S256x64x256.Idx → EReal} {M N : IVec S256x64 1} {a : S1.Idx → EReal}
  (hp : ∀ x, Pre_scores_at_most_13.fn (F := Ideal) X Y M N a x = 1#1)
include hp

/-- The bound on one kept product and on the dustbin's score, as the precondition's words say it. -/
theorem bounds (b : Fin 256) (i j : Fin 64) :
    (M (ix2 b i) = 1#1 → N (ix2 b j) = 1#1 → max (∑ k : Fin 256, X (ix3 b i k) * Y (ix3 b j k)) (-∑ k : Fin 256, X (ix3 b i k) * Y (ix3 b j k)) ≤ ((208 : ℝ) : EReal))
      ∧ max (a (ix1 0)) (-a (ix1 0)) ≤ ((13 : ℝ) : EReal) := by
  have h := hp (ix3 b i j)
  unfold Pre_scores_at_most_13.fn at h
  pointwise at h
  rw [Consts.ofBits_208, Consts.ofBits_13] at h
  obtain ⟨h1, h2⟩ := andi_one _ _ h
  exact ⟨fun hM hN => of_ofBool (ori_one _ _ _ h1 hM hN), of_ofBool h2⟩

/-- A kept entry's score is a real of magnitude at most 13. -/
theorem score_small (b : Fin 256) {i j : ℕ} (hi : i ∈ kept M b) (hj : j ∈ kept N b) :
    |(score X Y a b i j).toReal| ≤ 13 ∧ score X Y a b i j = ((score X Y a b i j).toReal : EReal) := by
  unfold score
  by_cases h : i < 64 ∧ j < 64
  · simp only [dif_pos h]
    obtain ⟨_, h1⟩ := (kept_iff M b i (by omega)).1 hi
    obtain ⟨_, h2⟩ := (kept_iff N b j (by omega)).1 hj
    exact real_of_product ((bounds hp b ⟨i, h.1⟩ ⟨j, h.2⟩).1 h1 h2)
  · simp only [dif_neg h]
    exact real_of_abs (bounds hp b 0 0).2

/-- One pair's entries meet what the iteration asks of them. -/
theorem kept_ok (b : Fin 256) : Kept (kept M b) (kept N b) fun i j => (score X Y a b i j).toReal where
  rows := Finset.filter_subset _ _
  cols := Finset.filter_subset _ _
  row64 := last_kept M b
  col64 := last_kept N b
  small := fun _ hi _ hj => (score_small hp b hi hj).1

end

/-- The transported scores of pair `b` after the 100 trips, an entry of the result. -/
def value (X Y : S256x64x256.Idx → EReal) (M N : IVec S256x64 1) (a : S1.Idx → EReal) (b : Fin 256) (i j : ℕ) : EReal :=
  result (kept M b) (kept N b) (fun i j => (score X Y a b i j).toReal) 100 i j

end Cert.Entries

end
-- ==== Proof.HostArrays.lean ====
module

public import proofs.«01_k».proof.Proof.Entries
public import proofs.«01_k».proof.Proof.Gen.KernelIdeal.Value
public import Idealize.ShloMosaic.Lib.Pipeline.ValueKit
public import Idealize.ShloMosaic.Lib.Claim
public import Idealize.ShloMosaic.Lib.Routing.OpsSet
public import Idealize.ShloMosaic.Lib.Pointwise
public import Idealize.ShloMosaic.Lib.StableHlo.RunClose

@[expose] public section

set_option maxRecDepth 16384

noncomputable section

open Idealize.ShloMosaic Idealize.ShloMosaic.TcCoe Idealize.SL.Sem
open Cert.KernelIdeal Cert.KernelIdeal.Gen Cert.Entries

namespace Cert.HostArrays
variable (m : (ℓ : Loc nD τ sig) → Buf (Elt Ideal) ℓ)

/-- Writing one value per row at column 64. -/
theorem column72 (x : S256x72.Idx → EReal) (u : S256.Idx → EReal) (b : Fin 256) (i : Fin 72) :
    Host.scatter scatter_S256x72_S1_S256_0_1_1_0 (fun _ b => b) x (fun _ => 64#32) u (ix2 b i) = if (i : ℕ) = 64 then u (ix1 b) else x (ix2 b i) := by
  have land : ∀ a : Fin 256, scatter_S256x72_S1_S256_0_1_1_0.resultIdx? (ix1 a) (fun _ => 64#32 : IVec S1 32) = some (ix2 b i) ↔ a = b ∧ (i : ℕ) = 64 := by
    intro a
    refine (Routing.resultIdx?_ix2 _ _ _ _ _).trans ?_
    have h0 : scatter_S256x72_S1_S256_0_1_1_0.start (ix1 a) (fun _ => 64#32 : IVec S1 32) 0 = 0 := rfl
    have h1 : scatter_S256x72_S1_S256_0_1_1_0.start (ix1 a) (fun _ => 64#32 : IVec S1 32) 1 = 64 := rfl
    have h2 : scatter_S256x72_S1_S256_0_1_1_0.window (ix1 a) 0 = (a : ℕ) := rfl
    have h3 : scatter_S256x72_S1_S256_0_1_1_0.window (ix1 a) 1 = 0 := rfl
    rw [h0, h1, h2, h3, Fin.ext_iff]
    omega
  split_ifs with h
  · refine Routing.scatter_set_hit _ _ _ _ _ _ (fun k hk => ?_) (ix1 b) ((land b).2 ⟨rfl, h⟩)
    idx_vars k
    rw [((land _).1 hk).1]
  · refine Routing.scatter_set_miss _ _ _ _ _ fun k hk => ?_
    idx_vars k
    exact h ((land _).1 hk).2

/-- Writing one value per row at column 64. -/
theorem column128 (x : S256x128.Idx → EReal) (u : S256.Idx → EReal) (b : Fin 256) (i : Fin 128) :
    Host.scatter scatter_S256x128_S1_S256_0_1_1_0 (fun _ b => b) x (fun _ => 64#32) u (ix2 b i) = if (i : ℕ) = 64 then u (ix1 b) else x (ix2 b i) := by
  have land : ∀ a : Fin 256, scatter_S256x128_S1_S256_0_1_1_0.resultIdx? (ix1 a) (fun _ => 64#32 : IVec S1 32) = some (ix2 b i) ↔ a = b ∧ (i : ℕ) = 64 := by
    intro a
    refine (Routing.resultIdx?_ix2 _ _ _ _ _).trans ?_
    have h0 : scatter_S256x128_S1_S256_0_1_1_0.start (ix1 a) (fun _ => 64#32 : IVec S1 32) 0 = 0 := rfl
    have h1 : scatter_S256x128_S1_S256_0_1_1_0.start (ix1 a) (fun _ => 64#32 : IVec S1 32) 1 = 64 := rfl
    have h2 : scatter_S256x128_S1_S256_0_1_1_0.window (ix1 a) 0 = (a : ℕ) := rfl
    have h3 : scatter_S256x128_S1_S256_0_1_1_0.window (ix1 a) 1 = 0 := rfl
    rw [h0, h1, h2, h3, Fin.ext_iff]
    omega
  split_ifs with h
  · refine Routing.scatter_set_hit _ _ _ _ _ _ (fun k hk => ?_) (ix1 b) ((land b).2 ⟨rfl, h⟩)
    idx_vars k
    rw [((land _).1 hk).1]
  · refine Routing.scatter_set_miss _ _ _ _ _ fun k hk => ?_
    idx_vars k
    exact h ((land _).1 hk).2

/-- The first feature array as the call receives it: 8 rows of zeros more. -/
theorem v0_eq (c : Dev nD) : (V m c main_v0 : S256x72x256.Idx → EReal) =
    pad S256x72x256 ![0, 0, 0] ![0, 8, 0] ![0, 0, 0] (m (c, Proc.tc.devRef main_arg0) : S256x64x256.Idx → EReal) (sitofp (F := Ideal) .f32 (constantI S_ 32 0#32)) pads_S256x64x256_S256x72x256_000_080_000 h_S_ := by
  unfold V
  simp only [hostOps0, hostOps0_1, hostOps0_2, hostOps0_3, hostOps0_4, hostOps0_5, hostOps0_6, hostOps0_7, hostOps0_8, List.flatten_cons, List.flatten_nil, List.cons_append, List.nil_append, List.append_nil]
  after_results_entrywise [cast_eq]

/-- The second feature array as the call receives it: 64 rows of zeros more. -/
theorem v1_eq (c : Dev nD) : (V m c main_v1 : S256x128x256.Idx → EReal) =
    pad S256x128x256 ![0, 0, 0] ![0, 64, 0] ![0, 0, 0] (m (c, Proc.tc.devRef main_arg1) : S256x64x256.Idx → EReal) (sitofp (F := Ideal) .f32 (constantI S_ 32 0#32)) pads_S256x64x256_S256x128x256_000_0640_000 h_S_ := by
  unfold V
  simp only [hostOps0, hostOps0_1, hostOps0_2, hostOps0_3, hostOps0_4, hostOps0_5, hostOps0_6, hostOps0_7, hostOps0_8, List.flatten_cons, List.flatten_nil, List.cons_append, List.nil_append, List.append_nil]
  after_results_entrywise [cast_eq]

/-- The row mask as the call receives it. -/
theorem v6_eq (c : Dev nD) : (V m c main_v6 : S256x72.Idx → EReal) =
    Host.scatter scatter_S256x72_S1_S256_0_1_1_0 (fun _ b => b)
      (pad S256x72 ![0, 0] ![0, 8] ![0, 0] (uitofp (F := Ideal) .f32 (m (c, Proc.tc.devRef main_arg2) : IVec S256x64 1)) (sitofp (F := Ideal) .f32 (constantI S_ 32 0#32)) pads_S256x64_S256x72_000_080 h_S_)
      (broadcastInDim S1 ![] bcast_S_S1 (constantI S_ 32 64#32)) (broadcastInDim S256 ![] bcast_S_S256 (constant (F := Ideal) S_ .f32 0x3F800000#32)) := by
  unfold V
  simp only [hostOps0, hostOps0_1, hostOps0_2, hostOps0_3, hostOps0_4, hostOps0_5, hostOps0_6, hostOps0_7, hostOps0_8, List.flatten_cons, List.flatten_nil, List.cons_append, List.nil_append, List.append_nil]
  after_results_entrywise [cast_eq]

/-- The column mask as the call receives it. -/
theorem v11_eq (c : Dev nD) : (V m c main_v11 : S256x128.Idx → EReal) =
    Host.scatter scatter_S256x128_S1_S256_0_1_1_0 (fun _ b => b)
      (pad S256x128 ![0, 0] ![0, 64] ![0, 0] (uitofp (F := Ideal) .f32 (m (c, Proc.tc.devRef main_arg3) : IVec S256x64 1)) (sitofp (F := Ideal) .f32 (constantI S_ 32 0#32)) pads_S256x64_S256x128_000_0640 h_S_)
      (broadcastInDim S1 ![] bcast_S_S1 (constantI S_ 32 64#32)) (broadcastInDim S256 ![] bcast_S_S256 (constant (F := Ideal) S_ .f32 0x3F800000#32)) := by
  unfold V
  simp only [hostOps0, hostOps0_1, hostOps0_2, hostOps0_3, hostOps0_4, hostOps0_5, hostOps0_6, hostOps0_7, hostOps0_8, List.flatten_cons, List.flatten_nil, List.cons_append, List.nil_append, List.append_nil]
  after_results_entrywise [cast_eq]

theorem pad3_72 (X : S256x64x256.Idx → EReal) (z : S_.Idx → EReal) (b : Fin 256) (i : Fin 64) (k : Fin 256) :
    pad S256x72x256 ![0, 0, 0] ![0, 8, 0] ![0, 0, 0] X z pads_S256x64x256_S256x72x256_000_080_000 h_S_ (ix3 b ⟨i, by omega⟩ k) = X (ix3 b i k) := by
  pointwise

theorem pad3_128 (X : S256x64x256.Idx → EReal) (z : S_.Idx → EReal) (b : Fin 256) (i : Fin 64) (k : Fin 256) :
    pad S256x128x256 ![0, 0, 0] ![0, 64, 0] ![0, 0, 0] X z pads_S256x64x256_S256x128x256_000_0640_000 h_S_ (ix3 b ⟨i, by omega⟩ k) = X (ix3 b i k) := by
  pointwise

theorem bit_at (w : BitVec 1) : (FloatOps.uitofp (F := Ideal) .f32 w : EReal) = if w = 1#1 then (1 : EReal) else 0 := by
  rcases (by revert w; decide : w = 0#1 ∨ w = 1#1) with rfl | rfl
  · show (((0#1 : BitVec 1).toNat : ℝ) : EReal) = 0
    norm_num
  · show (((1#1 : BitVec 1).toNat : ℝ) : EReal) = 1
    norm_num

theorem zero_at : (FloatOps.sitofp (F := Ideal) .f32 0#32 : EReal) = 0 := by
  show (((0#32 : BitVec 32).toInt : ℝ) : EReal) = 0
  norm_num

theorem pad2_72 (M : IVec S256x64 1) (b : Fin 256) (i : Fin 72) (h : (i : ℕ) ≠ 64) :
    pad S256x72 ![0, 0] ![0, 8] ![0, 0] (uitofp (F := Ideal) .f32 M) (sitofp (F := Ideal) .f32 (constantI S_ 32 0#32)) pads_S256x64_S256x72_000_080 h_S_ (ix2 b i)
      = if (i : ℕ) ∈ kept M b then (1 : EReal) else 0 := by
  simp only [kept_iff M b i h]
  by_cases h1 : (i : ℕ) < 64
  · pointwise
    rw [dif_pos h1, bit_at]
    simp only [h1, exists_true_left]
  · pointwise
    rw [dif_neg h1, zero_at, if_neg fun h2 => h1 h2.1]

theorem pad2_128 (M : IVec S256x64 1) (b : Fin 256) (i : Fin 128) (h : (i : ℕ) ≠ 64) :
    pad S256x128 ![0, 0] ![0, 64] ![0, 0] (uitofp (F := Ideal) .f32 M) (sitofp (F := Ideal) .f32 (constantI S_ 32 0#32)) pads_S256x64_S256x128_000_0640 h_S_ (ix2 b i)
      = if (i : ℕ) ∈ kept M b then (1 : EReal) else 0 := by
  simp only [kept_iff M b i h]
  by_cases h1 : (i : ℕ) < 64
  · pointwise
    rw [dif_pos h1, bit_at]
    simp only [h1, exists_true_left]
  · pointwise
    rw [dif_neg h1, zero_at, if_neg fun h2 => h1 h2.1]

theorem v0_at (c : Dev nD) (b : Fin 256) (i : Fin 64) (k : Fin 256) :
    (V m c main_v0 : S256x72x256.Idx → EReal) (ix3 b ⟨i, by omega⟩ k) = (m (c, Proc.tc.devRef main_arg0) : S256x64x256.Idx → EReal) (ix3 b i k) := by
  rw [v0_eq]
  exact pad3_72 _ _ b i k

theorem v1_at (c : Dev nD) (b : Fin 256) (i : Fin 64) (k : Fin 256) :
    (V m c main_v1 : S256x128x256.Idx → EReal) (ix3 b ⟨i, by omega⟩ k) = (m (c, Proc.tc.devRef main_arg1) : S256x64x256.Idx → EReal) (ix3 b i k) := by
  rw [v1_eq]
  exact pad3_128 _ _ b i k

theorem v6_at (c : Dev nD) (b : Fin 256) (i : Fin 72) :
    (V m c main_v6 : S256x72.Idx → EReal) (ix2 b i) = (if (i : ℕ) ∈ kept (m (c, Proc.tc.devRef main_arg2) : IVec S256x64 1) b then (1 : EReal) else 0) := by
  rw [v6_eq]
  refine (column72 _ _ b i).trans ?_
  by_cases h : (i : ℕ) = 64
  · rw [if_pos h, h, if_pos (last_kept _ b)]
    pointwise
  · rw [if_neg h]
    exact pad2_72 _ b i h

theorem v11_at (c : Dev nD) (b : Fin 256) (i : Fin 128) :
    (V m c main_v11 : S256x128.Idx → EReal) (ix2 b i) = (if (i : ℕ) ∈ kept (m (c, Proc.tc.devRef main_arg3) : IVec S256x64 1) b then (1 : EReal) else 0) := by
  rw [v11_eq]
  refine (column128 _ _ b i).trans ?_
  by_cases h : (i : ℕ) = 64
  · rw [if_pos h, h, if_pos (last_kept _ b)]
    pointwise
  · rw [if_neg h]
    exact pad2_128 _ b i h

end Cert.HostArrays

end
-- ==== Proof.KernelArray.lean ====
module

public import proofs.«01_k».proof.Proof.OutBlock
public import proofs.«01_k».proof.Proof.HostArrays
public import Idealize.ShloMosaic.Lib.Pipeline.ValueKit

@[expose] public section

set_option maxRecDepth 16384

noncomputable section

open Idealize.ShloMosaic Idealize.ShloMosaic.TcCoe Idealize.SL.Sem
open Cert.KernelIdeal Cert.KernelIdeal.Gen Cert.Sinkhorn Cert.Entries

namespace Cert.KernelArray
variable (m : (ℓ : Loc nD τ sig) → Buf (Elt Ideal) ℓ)

abbrev feats0 (c : Dev nD) : S256x64x256.Idx → EReal := m (c, Proc.tc.devRef main_arg0)
abbrev feats1 (c : Dev nD) : S256x64x256.Idx → EReal := m (c, Proc.tc.devRef main_arg1)
abbrev mask0 (c : Dev nD) : IVec S256x64 1 := m (c, Proc.tc.devRef main_arg2)
abbrev mask1 (c : Dev nD) : IVec S256x64 1 := m (c, Proc.tc.devRef main_arg3)
abbrev alpha (c : Dev nD) : S1.Idx → EReal := m (c, Proc.tc.devRef main_arg4)

/-- Block `t` holds batches `32 t` to `32 t + 31`. -/
theorem idx (t : Fin cfg0.N) : win0_0.index t 0 = 0 ∧ (win0_1.index t 0 = (t : ℕ) ∧ win0_1.index t 1 = 0 ∧ win0_1.index t 2 = 0)
    ∧ (win0_2.index t 0 = (t : ℕ) ∧ win0_2.index t 1 = 0 ∧ win0_2.index t 2 = 0) ∧ (win0_3.index t 0 = (t : ℕ) ∧ win0_3.index t 1 = 0)
    ∧ (win0_4.index t 0 = (t : ℕ) ∧ win0_4.index t 1 = 0) ∧ (win0_5.index t 0 = (t : ℕ) ∧ win0_5.index t 1 = 0 ∧ win0_5.index t 2 = 0) := by
  revert t
  decide +kernel

def batch (t : Fin cfg0.N) (r : Fin 32) : Fin 256 := ⟨(t : ℕ) * 32 + r, by have : (t : ℕ) < 8 := t.isLt; omega⟩

theorem iblk0_at (c : Dev nD) (t : Fin cfg0.N) : (iblk m c 0 t : S1.Idx → EReal) (ix1 0) = alpha m c (ix1 0) := by
  blk_ext [iblk, V_main_arg4, idx t]

theorem iblk1_at (c : Dev nD) (t : Fin cfg0.N) (r : Fin 32) (i : Fin 72) (k : Fin 256) :
    (iblk m c 1 t : S32x72x256.Idx → EReal) (ix3 r i k) = (V m c main_v0 : S256x72x256.Idx → EReal) (ix3 (batch t r) i k) := by
  blk_ext [iblk, idx t, batch]

theorem iblk2_at (c : Dev nD) (t : Fin cfg0.N) (r : Fin 32) (i : Fin 128) (k : Fin 256) :
    (iblk m c 2 t : S32x128x256.Idx → EReal) (ix3 r i k) = (V m c main_v1 : S256x128x256.Idx → EReal) (ix3 (batch t r) i k) := by
  blk_ext [iblk, idx t, batch]

theorem iblk3_at (c : Dev nD) (t : Fin cfg0.N) (r : Fin 32) (i : Fin 72) :
    (iblk m c 3 t : S32x72.Idx → EReal) (ix2 r i) = (V m c main_v6 : S256x72.Idx → EReal) (ix2 (batch t r) i) := by
  blk_ext [iblk, idx t, batch]

theorem iblk4_at (c : Dev nD) (t : Fin cfg0.N) (r : Fin 32) (i : Fin 128) :
    (iblk m c 4 t : S32x128.Idx → EReal) (ix2 r i) = (V m c main_v11 : S256x128.Idx → EReal) (ix2 (batch t r) i) := by
  blk_ext [iblk, idx t, batch]

section
variable {m} {c : Dev nD} (hp : ∀ x, Cert.Pre_scores_at_most_13.fn (F := Ideal) (feats0 m c) (feats1 m c) (mask0 m c) (mask1 m c) (alpha m c) x = 1#1)
include hp

/-- What the body leaves in its output block. -/
theorem out_at (t : Fin cfg0.N) (r : Fin 32) (i j : Fin 65) :
    (outsAt0 m c t : S32x65x65.Idx → EReal) (ix3 r i j) = value (feats0 m c) (feats1 m c) (mask0 m c) (mask1 m c) (alpha m c) (batch t r) i j := by
  rw [OutBlock.out_eq]
  refine KernelBlock.block_at (kept_ok hp (batch t r)) (fun i => ?_) (fun j => ?_) (fun i j hi hj => ?_) i j
  · rw [iblk3_at, HostArrays.v6_at]
  · rw [iblk4_at, HostArrays.v11_at]
  · refine Eq.trans ?_ (score_small hp (batch t r) hi hj).2
    have hi' := Finset.mem_range.1 ((kept_ok hp (batch t r)).rows hi)
    have hj' := Finset.mem_range.1 ((kept_ok hp (batch t r)).cols hj)
    unfold score
    by_cases h : (i : ℕ) < 64 ∧ (j : ℕ) < 64
    · rw [dif_pos h, if_neg (by omega)]
      refine congrArg (· * _) (Finset.sum_congr rfl fun k _ => ?_)
      rw [iblk1_at, iblk2_at]
      exact congrArg₂ (· * ·) (HostArrays.v0_at m c (batch t r) ⟨i, h.1⟩ k) (HostArrays.v1_at m c (batch t r) ⟨j, h.2⟩ k)
    · rw [dif_neg h, if_pos (by omega)]
      exact iblk0_at m c t

theorem out_at' (t : Fin cfg0.N) (y : S32x65x65.Idx) :
    (outsAt0 m c t : S32x65x65.Idx → EReal) y = value (feats0 m c) (feats1 m c) (mask0 m c) (mask1 m c) (alpha m c) (batch t (y 0)) (y 1 : ℕ) (y 2 : ℕ) := by
  idx_vars y
  exact out_at hp t _ _ _

/-- The result array of the call. -/
theorem final : (dats m 0 c).arrAt 5 cfg0.N
    = fun x : S256x65x65.Idx => value (feats0 m c) (feats1 m c) (mask0 m c) (mask1 m c) (alpha m c) (x 0) (x 1 : ℕ) (x 2 : ℕ) := by
  refine (dats m 0 c).arrAt_eq_of_covers 5 _ (by decide +kernel) fun t _ y => ?_
  blk_simp
  rw [after0_5]
  refine (out_at' hp t y).trans ?_
  have hb : batch t (y 0) = (win0_5.blk t).view.emb y 0 := by
    apply Fin.ext
    blk_simp [idx t, batch]
  rw [hb, (idx t).2.2.2.2.2.2.1, (idx t).2.2.2.2.2.2.2, Nat.zero_mul, Nat.zero_add, Nat.zero_add]

end

end Cert.KernelArray

end
-- ==== Proof.RefTrip.lean ====
/- One trip of the reference, read at an entry. -/
module

public import proofs.«01_k».proof.Proof.Entries
public import proofs.«01_k».proof.Proof.Gen.ReferenceIdeal.Run
public import Idealize.ShloMosaic.Lib.Pointwise

@[expose] public section

set_option maxRecDepth 16384

noncomputable section

open Idealize.ShloMosaic Idealize.ShloMosaic.TcCoe Idealize.SL.Sem
open Cert.ReferenceIdeal Cert.ReferenceIdeal.Gen Cert.ReferenceIdeal.Value Cert.Sinkhorn

namespace Cert.RefTrip
variable (V : Valuation τ sig (Elt Ideal))

abbrev scores : S256x65x65.Idx → EReal := V (Proc.devRef .tc main_v53_0)
abbrev rowWeights : S256x65.Idx → EReal := V (Proc.devRef .tc main_v53_1)
abbrev colWeights : S256x65.Idx → EReal := V (Proc.devRef .tc main_v53_2)
abbrev rowPot : S256x65.Idx → EReal := V (Proc.devRef .tc main_v53_5)
abbrev colPot : S256x65.Idx → EReal := V (Proc.devRef .tc main_v53_6)

/-- The shift of a stable sum of exponentials: the maximum where it is not `⊥`. -/
def shift (x : EReal) : EReal := if ⊥ < x then x else 0

theorem shift_real {x : EReal} (h : ∃ r : ℝ, x = (r : EReal)) : ∃ r : ℝ, shift x = (r : EReal) := by
  obtain ⟨r, rfl⟩ := h
  exact ⟨r, if_pos (EReal.bot_lt_coe r)⟩

theorem rowMax_at (X : FVec Ideal S256x65x65 .f32) (b : Fin 256) (i : Fin 65) :
    Host.reduce FloatOps.maximumf X (constant S_ .f32 0xFF800000#32) reducesTo_S256x65x65_S256x65_d2 h_S_ (ix2 b i) = Finset.univ.fold max ⊥ fun j : Fin 65 => X (ix3 b i j) := by
  pointwise
  rw [Consts.ofBits_neg_inf]

theorem colMax_at (X : FVec Ideal S256x65x65 .f32) (b : Fin 256) (j : Fin 65) :
    Host.reduce FloatOps.maximumf X (constant S_ .f32 0xFF800000#32) reducesTo_S256x65x65_S256x65_d1 h_S_ (ix2 b j) = Finset.univ.fold max ⊥ fun i : Fin 65 => X (ix3 b i j) := by
  pointwise
  rw [Consts.ofBits_neg_inf]

theorem shift_at (M : FVec Ideal S256x65 .f32) (b : Fin 256) (i : Fin 65) :
    select (cmpf .ogt M (broadcastInDim S256x65 ![] bcast_S_S256x65 (constant S_ .f32 0xFF800000#32))) M (broadcastInDim S256x65 ![] bcast_S_S256x65 (id (constant S_ .f32 0x00000000#32))) (ix2 b i) = shift (M (ix2 b i)) := by
  simp only [id_eq]
  pointwise
  rw [Consts.ofBits_neg_inf]
  rfl

theorem row_at' (L S : FVec Ideal S256x65 .f32) (X : FVec Ideal S256x65x65 .f32) (b : Fin 256) (i : Fin 65) :
    subf L (addf (Host.log (Host.reduceAdd (Host.exp (subf X (broadcastInDim S256x65x65 ![0, 1, 2] bcast_S256x65x1_S256x65x65_0_1_2 (broadcastInDim S256x65x1 ![0, 1] bcast_S256x65_S256x65x1_0_1 S)))) (constant S_ .f32 0x00000000#32) reducesTo_S256x65x65_S256x65_d2 h_S_)) S) (ix2 b i)
      = L (ix2 b i) - (Ideal.log (∑ j : Fin 65, Ideal.exp (X (ix3 b i j) - S (ix2 b i))) + S (ix2 b i)) := by
  pointwise

theorem col_at' (L S : FVec Ideal S256x65 .f32) (X : FVec Ideal S256x65x65 .f32) (b : Fin 256) (j : Fin 65) :
    subf L (addf (Host.log (Host.reduceAdd (Host.exp (subf X (broadcastInDim S256x65x65 ![0, 1, 2] bcast_S256x1x65_S256x65x65_0_1_2 (broadcastInDim S256x1x65 ![0, 2] bcast_S256x65_S256x1x65_0_2 S)))) (constant S_ .f32 0x00000000#32) reducesTo_S256x65x65_S256x65_d1 h_S_)) S) (ix2 b j)
      = L (ix2 b j) - (Ideal.log (∑ i : Fin 65, Ideal.exp (X (ix3 b i j) - S (ix2 b j))) + S (ix2 b j)) := by
  pointwise

theorem sums_at (b : Fin 256) (i j : Fin 65) : (res_main_while0b_v63 V : S256x65x65.Idx → EReal) (ix3 b i j) = scores V (ix3 b i j) + colPot V (ix2 b j) := by
  unfold res_main_while0b_v63
  pointwise

theorem sums2_at (b : Fin 256) (i j : Fin 65) :
    (res_main_while0b_v78 V : S256x65x65.Idx → EReal) (ix3 b i j) = scores V (ix3 b i j) + (res_main_while0b_v75 V : S256x65.Idx → EReal) (ix2 b i) := by
  unfold res_main_while0b_v78
  pointwise

/-- The arrays of the loop hold one pair's scores and weights, and the column potential so far. -/
structure Holds (A B : Finset ℕ) (Z : ℕ → ℕ → ℝ) (b : Fin 256) (k : ℕ) : Prop where
  kept : Kept A B Z
  real : ∀ i j : Fin 65, (i : ℕ) ∈ A → (j : ℕ) ∈ B → scores V (ix3 b i j) = (Z i j : EReal)
  bot : ∀ i j : Fin 65, ¬((i : ℕ) ∈ A ∧ (j : ℕ) ∈ B) → scores V (ix3 b i j) = ⊥
  row : ∀ i : Fin 65, rowWeights V (ix2 b i) = ext A (logWeight Consts.eps A B) i
  col : ∀ j : Fin 65, colWeights V (ix2 b j) = ext B (logWeight Consts.eps B A) j
  pot : ∀ j : Fin 65, (j : ℕ) ∈ B → colPot V (ix2 b j) = ((potentials A B Z k).2 j : EReal)

section
variable {V} {A B : Finset ℕ} {Z : ℕ → ℕ → ℝ} {b : Fin 256} {k : ℕ} (h : Holds V A B Z b k)
include h

theorem sums_ext (i j : Fin 65) (hi : (i : ℕ) ∈ A) :
    (res_main_while0b_v63 V : S256x65x65.Idx → EReal) (ix3 b i j) = ext B (fun j => Z i j + (potentials A B Z k).2 j) j := by
  rw [sums_at]
  by_cases hj : (j : ℕ) ∈ B
  · rw [ext_mem hj, h.real i j hi hj, h.pot j hj, EReal.coe_add]
  · rw [ext_notMem hj, h.bot i j fun hh => hj hh.2, EReal.bot_add]

/-- The row potential after the trip. -/
theorem row_at (i : Fin 65) : (res_main_while0b_v75 V : S256x65.Idx → EReal) (ix2 b i) = ext A (potentials A B Z (k + 1)).1 i := by
  unfold res_main_while0b_v75
  refine (row_at' _ _ _ b i).trans ?_
  refine (reference_half h.kept.cols ⟨_, h.kept.col64⟩ (h.row i) (fun hi j => sums_ext h i j hi) fun hi => ?_)
  unfold res_main_while0b_v67
  rw [shift_at]
  refine shift_real ?_
  unfold res_main_while0b_v64
  obtain ⟨r, hr⟩ := fold_max_real h.kept.cols ⟨_, h.kept.col64⟩ (fun j => sums_ext h i j hi)
  exact ⟨r, (rowMax_at _ b i).trans hr⟩

theorem sums2_ext (i j : Fin 65) (hj : (j : ℕ) ∈ B) :
    (res_main_while0b_v78 V : S256x65x65.Idx → EReal) (ix3 b i j) = ext A (fun i => Z i j + (potentials A B Z (k + 1)).1 i) i := by
  rw [sums2_at, row_at h]
  exact add_ext fun hi => h.real i j hi hj

/-- The column potential after the trip. -/
theorem col_at (j : Fin 65) : (step_main_v53_6 V : S256x65.Idx → EReal) (ix2 b j) = ext B (potentials A B Z (k + 1)).2 j := by
  unfold step_main_v53_6
  simp only [id_eq]
  refine (col_at' _ _ _ b j).trans ?_
  refine (reference_half (Z := fun j i => Z i j) h.kept.rows ⟨_, h.kept.row64⟩ (h.col j) (fun hj i => sums2_ext h i j hj) fun hj => ?_)
  unfold res_main_while0b_v82
  rw [shift_at]
  refine shift_real ?_
  unfold res_main_while0b_v79
  obtain ⟨r, hr⟩ := fold_max_real h.kept.rows ⟨_, h.kept.row64⟩ (fun i => sums2_ext h i j hj)
  exact ⟨r, (colMax_at _ b j).trans hr⟩

/-- One trip keeps what the arrays hold. -/
theorem trip : Holds (STEP V) A B Z b (k + 1) where
  kept := h.kept
  real := fun i j hi hj => (congrFun (STEP_main_v53_0 V) _).trans (h.real i j hi hj)
  bot := fun i j hh => (congrFun (STEP_main_v53_0 V) _).trans (h.bot i j hh)
  row := fun i => (congrFun (STEP_main_v53_1 V) _).trans (h.row i)
  col := fun j => (congrFun (STEP_main_v53_2 V) _).trans (h.col j)
  pot := fun j hj => ((congrFun (STEP_main_v53_6 V) _).trans (col_at h j)).trans (ext_mem hj _)

/-- The arrays after `n` trips. -/
theorem trips (n : ℕ) : Holds (STEP^[n] V) A B Z b (k + n) := by
  induction n with
  | zero => exact h
  | succ n ih =>
    rw [Function.iterate_succ_apply']
    exact trip ih

/-- The row potential after `n + 1` trips. -/
theorem rowPot_at (n : ℕ) (i : Fin 65) : rowPot (STEP^[n + 1] V) (ix2 b i) = ext A (potentials A B Z (k + n + 1)).1 i := by
  rw [Function.iterate_succ_apply']
  refine (congrFun (STEP_main_v53_5 _) _).trans ?_
  unfold step_main_v53_5
  simp only [id_eq]
  exact row_at (trips h n) i

/-- The column potential after `n + 1` trips. -/
theorem colPot_at (n : ℕ) (j : Fin 65) : colPot (STEP^[n + 1] V) (ix2 b j) = ext B (potentials A B Z (k + n + 1)).2 j := by
  rw [Function.iterate_succ_apply']
  exact (congrFun (STEP_main_v53_6 _) _).trans (col_at (trips h n) j)

end

end Cert.RefTrip

end
-- ==== Proof.RefEntry.lean ====
/- What the reference holds when its loop starts, from the arguments. -/
module

public import proofs.«01_k».proof.Proof.RefTrip
public import Idealize.ShloMosaic.Lib.IndicatorCount
public import Idealize.ShloMosaic.Lib.StableHlo.RunClose

@[expose] public section

set_option maxRecDepth 16384

noncomputable section

open Idealize.ShloMosaic Idealize.ShloMosaic.TcCoe Idealize.SL.Sem Idealize.ShloMosaic.StableHlo
open Cert.ReferenceIdeal Cert.ReferenceIdeal.Gen Cert.ReferenceIdeal.Value Cert.Sinkhorn Cert.Entries

namespace Cert.RefEntry

/-- A mask with the dustbin's entry appended. -/
def withDustbin (M : IVec S256x64 1) : IVec S256x65 1 :=
  concatenate S256x65 1 [⟨S256x64, M⟩, ⟨S256x1, broadcastInDim S256x1 ![] bcast_S_S256x1 (constantI S_ 1 1#1)⟩] concatenates_S256x64_S256x1_S256x65_d1

/-- The entries kept by both masks. -/
def both (M N : IVec S256x64 1) : IVec S256x65x65 1 :=
  andi (broadcastInDim S256x65x65 ![0, 1, 2] bcast_S256x65x1_S256x65x65_0_1_2 (broadcastInDim S256x65x1 ![0, 1] bcast_S256x65_S256x65x1_0_1 (withDustbin M)))
    (broadcastInDim S256x65x65 ![0, 1, 2] bcast_S256x1x65_S256x65x65_0_1_2 (broadcastInDim S256x1x65 ![0, 2] bcast_S256x65_S256x1x65_0_2 (withDustbin N)))

/-- The products over 16. -/
def products (X Y : FVec Ideal S256x64x256 .f32) : FVec Ideal S256x64x64 .f32 :=
  Host.divf (Host.dotGeneral dot_S256x64x256_S256x64x256_S256x64x64_2_2_1_1_0_0 none X Y)
    (broadcastInDim S256x64x64 ![] bcast_S_S256x64x64 (Host.sqrt (constant S_ .f32 0x43800000#32)))

/-- The dustbin's score as a scalar. -/
def scalar (a : FVec Ideal S1 .f32) : FVec Ideal S_ .f32 := shapeCast S_ a shapeCasts_S1_S_

/-- The scores with the dustbin's row and column. -/
def allScores (X Y : FVec Ideal S256x64x256 .f32) (a : FVec Ideal S1 .f32) : FVec Ideal S256x65x65 .f32 :=
  concatenate S256x65x65 1 [⟨S256x64x65, concatenate S256x64x65 2 [⟨S256x64x64, products X Y⟩,
      ⟨S256x64x1, mulf (broadcastInDim S256x64x1 ![] bcast_S_S256x64x1 (constant S_ .f32 0x3F800000#32)) (broadcastInDim S256x64x1 ![] bcast_S_S256x64x1 (scalar a))⟩]
        concatenates_S256x64x64_S256x64x1_S256x64x65_d2⟩,
    ⟨S256x1x65, mulf (broadcastInDim S256x1x65 ![] bcast_S_S256x1x65 (constant S_ .f32 0x3F800000#32)) (broadcastInDim S256x1x65 ![] bcast_S_S256x1x65 (scalar a))⟩]
    concatenates_S256x64x65_S256x1x65_S256x65x65_d1

/-- The scores, `⊥` where a mask drops the entry. -/
def masked (X Y : FVec Ideal S256x64x256 .f32) (M N : IVec S256x64 1) (a : FVec Ideal S1 .f32) : FVec Ideal S256x65x65 .f32 :=
  select (both M N) (allScores X Y a) (broadcastInDim S256x65x65 ![] bcast_S_S256x65x65 (constant S_ .f32 0xFF800000#32))

/-- How many entries of each row a mask keeps. -/
def counts (M : IVec S256x64 1) : FVec Ideal S256 .f32 :=
  sitofp .f32 (Host.reduce IntOp.addi (extui 32 M natLt_1_32) (constantI S_ 32 0#32) reducesTo_S256x64_S256_d1 h_S_)

/-- A vector with the small constant added. -/
def plusEps (v : FVec Ideal S256 .f32) : FVec Ideal S256 .f32 := addf v (broadcastInDim S256 ![] bcast_S_S256 (constant S_ .f32 0x2B8CBCCC#32))

/-- The negated logarithm of the total mass. -/
def norms (M N : IVec S256x64 1) : FVec Ideal S256 .f32 := Host.negf (Host.log (plusEps (addf (counts M) (counts N))))

/-- The log weights of the side that `M` masks, against a side with counts `t`, for the norm `n`. -/
def weights (M : IVec S256x64 1) (t n : FVec Ideal S256 .f32) : FVec Ideal S256x65 .f32 :=
  concatenate S256x65 1 [⟨S256x64, select M (broadcastInDim S256x64 ![0, 1] bcast_S256x1_S256x64_0_1 (broadcastInDim S256x1 ![0] bcast_S256_S256x1_0 n))
      (broadcastInDim S256x64 ![] bcast_S_S256x64 (constant S_ .f32 0xFF800000#32))⟩,
    ⟨S256x1, broadcastInDim S256x1 ![0] bcast_S256_S256x1_0 (addf (Host.log (plusEps t)) n)⟩] concatenates_S256x64_S256x1_S256x65_d1

section
variable (m : (ℓ : Loc nD τ sig) → Buf (Elt Ideal) ℓ) (c : Dev nD)

abbrev feats0 : FVec Ideal S256x64x256 .f32 := m (c, Proc.tc.devRef main_arg0)
abbrev feats1 : FVec Ideal S256x64x256 .f32 := m (c, Proc.tc.devRef main_arg1)
abbrev mask0 : IVec S256x64 1 := m (c, Proc.tc.devRef main_arg2)
abbrev mask1 : IVec S256x64 1 := m (c, Proc.tc.devRef main_arg3)
abbrev alpha : FVec Ideal S1 .f32 := m (c, Proc.tc.devRef main_arg4)

theorem scores_eq : entryContents preI m c (Proc.devRef .tc main_v53_0) = masked (feats0 m c) (feats1 m c) (mask0 m c) (mask1 m c) (alpha m c) := by
  simp only [entryContents, afterL_cons, afterL_nil]
  after_reads_simp
  rfl

theorem scores_kept : entryContents preI m c (Proc.devRef .tc main_v23) = masked (feats0 m c) (feats1 m c) (mask0 m c) (mask1 m c) (alpha m c) := by
  simp only [entryContents, afterL_cons, afterL_nil]
  after_reads_simp
  rfl

set_option maxRecDepth 200000 in
theorem rowWeights_eq : entryContents preI m c (Proc.devRef .tc main_v53_1) = weights (mask0 m c) (counts (mask1 m c)) (norms (mask0 m c) (mask1 m c)) := by
  simp only [entryContents, afterL_cons, afterL_nil]
  after_reads_simp
  rfl

set_option maxRecDepth 200000 in
theorem colWeights_eq : entryContents preI m c (Proc.devRef .tc main_v53_2) = weights (mask1 m c) (counts (mask0 m c)) (norms (mask0 m c) (mask1 m c)) := by
  simp only [entryContents, afterL_cons, afterL_nil]
  after_reads_simp
  rfl

theorem colPot_eq : entryContents preI m c (Proc.devRef .tc main_v53_6) = broadcastInDim S256x65 ![] bcast_S_S256x65 (constant (F := Ideal) S_ .f32 0x00000000#32) := by
  simp only [entryContents, afterL_cons, afterL_nil]
  after_reads_simp
  rfl

end

theorem withDustbin_at (M : IVec S256x64 1) (b : Fin 256) (i : Fin 65) : withDustbin M (ix2 b i) = 1#1 ↔ (i : ℕ) ∈ kept M b := by
  unfold withDustbin
  by_cases h : (i : ℕ) = 64
  · refine iff_of_true ?_ (h ▸ last_kept M b)
    pointwise
    simp [h]
  · rw [kept_iff M b i h]
    have h1 : (i : ℕ) < 64 := by omega
    pointwise
    simp [h1]

theorem and_iff : ∀ p q : BitVec 1, IntOp.andi p q = 1#1 ↔ p = 1#1 ∧ q = 1#1 := by
  decide

theorem both_at (M N : IVec S256x64 1) (b : Fin 256) (i j : Fin 65) : both M N (ix3 b i j) = 1#1 ↔ (i : ℕ) ∈ kept M b ∧ (j : ℕ) ∈ kept N b := by
  rw [← withDustbin_at, ← withDustbin_at, ← and_iff]
  unfold both
  generalize withDustbin M = P
  generalize withDustbin N = Q
  pointwise

theorem scalar_at (a : FVec Ideal S1 .f32) (x : S_.Idx) : scalar a x = a (ix1 0) := by
  unfold scalar
  pointwise

theorem products_at (X Y : FVec Ideal S256x64x256 .f32) (b : Fin 256) (i j : Fin 64) :
    products X Y (ix3 b i j) = (∑ k : Fin 256, X (ix3 b i k) * Y (ix3 b j k)) * ((1 / 16 : ℝ) : EReal) := by
  unfold products
  pointwise
  rw [Consts.ofBits_256, Consts.sqrt_256, Ideal.div_coe (by norm_num)]

theorem allScores_at (X Y : FVec Ideal S256x64x256 .f32) (a : FVec Ideal S1 .f32) (b : Fin 256) (i j : Fin 65) :
    allScores X Y a (ix3 b i j) = score X Y a b i j := by
  unfold allScores score
  by_cases h : (i : ℕ) < 64 ∧ (j : ℕ) < 64
  · rw [dif_pos h]
    refine Eq.trans ?_ (products_at X Y b ⟨i, h.1⟩ ⟨j, h.2⟩)
    generalize products X Y = P
    generalize scalar a = s
    pointwise
    rw [dif_pos h.1, dif_pos h.2]
  · rw [dif_neg h, ← scalar_at a ix0]
    generalize products X Y = P
    generalize scalar a = s
    pointwise
    split_ifs with h1 h2
    · exact absurd ⟨h1, h2⟩ h
    · rfl
    · rfl

theorem masked_at (X Y : FVec Ideal S256x64x256 .f32) (M N : IVec S256x64 1) (a : FVec Ideal S1 .f32) (b : Fin 256) (i j : Fin 65) :
    masked X Y M N a (ix3 b i j) = if (i : ℕ) ∈ kept M b ∧ (j : ℕ) ∈ kept N b then score X Y a b i j else ⊥ := by
  simp only [← both_at, ← allScores_at]
  unfold masked
  generalize both M N = P
  generalize allScores X Y a = s
  pointwise
  rw [Consts.ofBits_neg_inf]
  rfl

/-- The kept positions besides the dustbin, counted along the mask. -/
theorem card_kept (M : IVec S256x64 1) (b : Fin 256) : (kept M b).card = (Finset.univ.filter fun k : Fin 64 => M (ix2 b k) = 1#1).card + 1 := by
  have h : kept M b = insert 64 ((Finset.univ.filter fun k : Fin 64 => M (ix2 b k) = 1#1).map Fin.valEmbedding) := by
    ext i
    rw [Finset.mem_insert, Finset.mem_map]
    by_cases h : i = 64
    · exact iff_of_true (h ▸ last_kept M b) (Or.inl h)
    · rw [kept_iff M b i h]
      constructor
      · rintro ⟨h1, h2⟩
        exact Or.inr ⟨⟨i, h1⟩, Finset.mem_filter.2 ⟨Finset.mem_univ _, h2⟩, rfl⟩
      · rintro (h1 | ⟨k, h1, rfl⟩)
        · exact absurd h1 h
        · exact ⟨k.2, (Finset.mem_filter.1 h1).2⟩
  rw [h, Finset.card_insert_of_notMem, Finset.card_map]
  rw [Finset.mem_map]
  rintro ⟨k, _, hk⟩
  exact absurd k.2 (by rw [show (k : ℕ) = 64 from hk]; decide)

/-- A small count read back from its word. -/
theorem count_word {n : ℕ} (h : n ≤ 64) : FloatOps.sitofp (F := Ideal) .f32 (BitVec.ofNat 32 n) = ((n : ℝ) : EReal) := by
  show (((BitVec.ofNat 32 n).toInt : ℝ) : EReal) = _
  have h1 : (BitVec.ofNat 32 n).toInt = (n : ℤ) := by
    rw [BitVec.toInt_eq_toNat_bmod, BitVec.toNat_ofNat, Nat.mod_eq_of_lt (by omega)]
    exact Int.bmod_eq_of_le (by omega) (by omega)
  rw [h1, Int.cast_natCast]

theorem counts_at (M : IVec S256x64 1) (b : Fin 256) : counts M (ix1 b) = ((count (kept M b) : ℝ) : EReal) := by
  unfold counts
  pointwise
  rw [IndicatorCount.fold_addi_setWidth_eq_card, count_word ((Finset.card_le_univ _).trans (by simp)), Sinkhorn.count, card_kept, Nat.cast_add, Nat.cast_one,
    add_sub_cancel_right]

theorem plusEps_at (v : FVec Ideal S256 .f32) (b : Fin 256) : plusEps v (ix1 b) = v (ix1 b) + ((Consts.eps : ℝ) : EReal) := by
  unfold plusEps
  pointwise
  rw [Consts.ofBits_eps]

/-- The logarithm of a count with the small constant added. -/
theorem log_at {x : EReal} {r : ℝ} (h0 : 0 ≤ r) (h : x = (r : EReal)) : Ideal.log (x + ((Consts.eps : ℝ) : EReal)) = ((Real.log (r + Consts.eps) : ℝ) : EReal) := by
  rw [h, ← EReal.coe_add, Ideal.log_coe, if_neg (not_le.2 (by linarith [Consts.eps_pos]))]

theorem norms_at (M N : IVec S256x64 1) (b : Fin 256) : norms M N (ix1 b) = ((norm Consts.eps (kept M b) (kept N b) : ℝ) : EReal) := by
  unfold norms
  generalize hp : plusEps (addf (counts M) (counts N)) = v
  have hv := plusEps_at (addf (counts M) (counts N)) b
  rw [hp] at hv
  have hs : addf (counts M) (counts N) (ix1 b) = ((Sinkhorn.count (kept M b) + Sinkhorn.count (kept N b) : ℝ) : EReal) := by
    rw [EReal.coe_add, ← counts_at, ← counts_at]
    rfl
  pointwise
  rw [hv, log_at (add_nonneg (count_nonneg (last_kept M b)) (count_nonneg (last_kept N b))) hs, Sinkhorn.norm, EReal.coe_neg]

theorem weights_at (M : IVec S256x64 1) (t n : FVec Ideal S256 .f32) (b : Fin 256) (i : Fin 65) (T : Finset ℕ) (hT : 64 ∈ T)
    (ht : t (ix1 b) = ((count T : ℝ) : EReal)) (hn : n (ix1 b) = ((norm Consts.eps (kept M b) T : ℝ) : EReal)) :
    weights M t n (ix2 b i) = ext (kept M b) (logWeight Consts.eps (kept M b) T) i := by
  unfold weights
  have hv := plusEps_at t b
  generalize plusEps t = v at hv ⊢
  pointwise
  rw [hv, log_at (count_nonneg hT) ht, Consts.ofBits_neg_inf, hn]
  by_cases h : (i : ℕ) = 64
  · rw [dif_neg (by omega), ext_mem (h ▸ last_kept M b), logWeight, if_pos h, EReal.coe_add]
  · have h1 : (i : ℕ) < 64 := by omega
    rw [dif_pos h1, ext, logWeight, if_neg h]
    simp only [kept_iff M b i h, h1, exists_true_left]
    rfl

theorem zero_at (x : S256x65.Idx) : broadcastInDim S256x65 ![] bcast_S_S256x65 (constant (F := Ideal) S_ .f32 0x00000000#32) x = 0 := by
  pointwise

section
variable {m : (ℓ : Loc nD τ sig) → Buf (Elt Ideal) ℓ} {c : Dev nD}
  (hp : ∀ x, Pre_scores_at_most_13.fn (F := Ideal) (feats0 m c) (feats1 m c) (mask0 m c) (mask1 m c) (alpha m c) x = 1#1)
include hp

/-- Before its first trip the reference holds the pair's scores and log weights, and zero potentials. -/
theorem holds (b : Fin 256) : RefTrip.Holds (entryContents preI m c) (kept (mask0 m c) b) (kept (mask1 m c) b)
    (fun i j => (score (feats0 m c) (feats1 m c) (alpha m c) b i j).toReal) b 0 where
  kept := kept_ok hp b
  real := fun i j hi hj => by
    rw [RefTrip.scores, scores_eq, masked_at, if_pos ⟨hi, hj⟩]
    exact (score_small hp b hi hj).2
  bot := fun i j h => by
    rw [RefTrip.scores, scores_eq, masked_at, if_neg h]
  row := fun i => by
    rw [RefTrip.rowWeights, rowWeights_eq]
    exact weights_at (mask0 m c) _ _ b i _ (last_kept _ b) (counts_at _ b) (norms_at _ _ b)
  col := fun j => by
    rw [RefTrip.colWeights, colWeights_eq]
    exact weights_at (mask1 m c) _ _ b j _ (last_kept _ b) (counts_at _ b) ((norms_at _ _ b).trans (by rw [norm_comm]))
  pot := fun j hj => by
    rw [RefTrip.colPot, colPot_eq, zero_at]
    rfl

end

end Cert.RefEntry

end
-- ==== Proof.RefArray.lean ====
/- The reference's result: its loop leaves the masked scores alone, and the last stretch adds the two potentials to them. -/
module

public import proofs.«01_k».proof.Proof.RefEntry
public import Idealize.ShloMosaic.Lib.Quiescent

@[expose] public section

set_option maxRecDepth 16384

noncomputable section

open Idealize.ShloMosaic Idealize.ShloMosaic.TcCoe Idealize.SL.Sem Idealize.ShloMosaic.StableHlo
open Cert.ReferenceIdeal Cert.ReferenceIdeal.Gen Cert.ReferenceIdeal.Value Cert.Sinkhorn Cert.Entries Cert.RefEntry

namespace Cert.RefArray

/-- The buffers that a trip writes. -/
abbrev tripWrites : List (Ref sig .tc) := condOps_W ++ while0Ops0_W ++ while0Ops0_1_W ++ while0Ops0_2_W ++ while0Ops0_3_W ++ while0Ops0_4_W

/-- A trip leaves every other buffer as it was. -/
theorem trip_keeps (X : Valuation τ sig (Elt Ideal)) (r : Ref sig .tc) (h : r ∉ tripWrites) :
    afterL bodyI (after condOps X) (Proc.devRef .tc r) = X (Proc.devRef .tc r) := by
  simp only [tripWrites, List.mem_append, not_or] at h
  obtain ⟨⟨⟨⟨⟨h, h0⟩, h1⟩, h2⟩, h3⟩, h4⟩ := h
  simp only [afterL_cons, afterL_nil]
  rw [after_of_writes_sub while0Ops0_4 _ while0Ops0_4_writes h4, after_of_writes_sub while0Ops0_3 _ while0Ops0_3_writes h3,
    after_of_writes_sub while0Ops0_2 _ while0Ops0_2_writes h2, after_of_writes_sub while0Ops0_1 _ while0Ops0_1_writes h1,
    after_of_writes_sub while0Ops0 _ while0Ops0_writes h0, after_of_writes_sub condOps _ condOps_writes h]

/-- So does the whole loop. -/
theorem loop_keeps (m : (ℓ : Loc nD τ sig) → Buf (Elt Ideal) ℓ) (c : Dev nD) (r : Ref sig .tc) (h : r ∉ tripWrites) :
    ∀ k, atK m k c (Proc.devRef .tc r) = entryContents preI m c (Proc.devRef .tc r)
  | 0 => rfl
  | k + 1 => (trip_keeps (atK m k c) r h).trans (loop_keeps m c r h k)

/-- The buffers that the stretches before the loop write. -/
abbrev preWrites : List (Ref sig .tc) := hostOps0_W ++ hostOps0_1_W ++ hostOps0_2_W ++ hostOps0_3_W ++ hostOps0_4_W ++ hostOps0_5_W ++ hostOps0_6_W

/-- The buffers that the stretch after the loop writes. -/
abbrev postWrites : List (Ref sig .tc) := [main_v54, main_v55, main_v56, main_v57, main_v58, main_v59]

theorem post_writes : (hostOps0_7 : List (HloOp τ sig (Elt Ideal))).Forall fun op => op.writes ⊆ (postWrites.map (Proc.devRef (τ := τ) .tc)).toFinset :=
  forall_writes_sub_of_map rfl

/-- A buffer that no operation writes ends as it began. -/
theorem arg_kept (m : (ℓ : Loc nD τ sig) → Buf (Elt Ideal) ℓ) (c : Dev nD) (r : Ref sig .tc) (h : r ∉ preWrites) (h' : r ∉ tripWrites) (h'' : r ∉ postWrites) :
    finalContents condOps preI bodyI postI 100 m c (Proc.devRef .tc r) = m (c, Proc.devRef .tc r) := by
  have hc : r ∉ condOps_W := fun hr => h' (by simp only [tripWrites, List.mem_append]; tauto)
  simp only [preWrites, List.mem_append, not_or] at h
  obtain ⟨⟨⟨⟨⟨⟨h0, h1⟩, h2⟩, h3⟩, h4⟩, h5⟩, h6⟩ := h
  unfold finalContents
  simp only [postI, afterL_cons, afterL_nil]
  rw [after_of_writes_sub hostOps0_7 _ post_writes h'', after_of_writes_sub condOps _ condOps_writes hc]
  refine (loop_keeps m c r h' 100).trans ?_
  simp only [entryContents, preI, afterL_cons, afterL_nil]
  rw [after_of_writes_sub hostOps0_6 _ hostOps0_6_writes h6, after_of_writes_sub hostOps0_5 _ hostOps0_5_writes h5,
    after_of_writes_sub hostOps0_4 _ hostOps0_4_writes h4, after_of_writes_sub hostOps0_3 _ hostOps0_3_writes h3,
    after_of_writes_sub hostOps0_2 _ hostOps0_2_writes h2, after_of_writes_sub hostOps0_1 _ hostOps0_1_writes h1,
    after_of_writes_sub hostOps0 _ hostOps0_writes h0]

/-- The scores with the row and the column potentials added. -/
def total (s : FVec Ideal S256x65x65 .f32) (u v : FVec Ideal S256x65 .f32) : FVec Ideal S256x65x65 .f32 :=
  addf (addf s (broadcastInDim S256x65x65 ![0, 1, 2] bcast_S256x65x1_S256x65x65_0_1_2 (broadcastInDim S256x65x1 ![0, 1] bcast_S256x65_S256x65x1_0_1 u)))
    (broadcastInDim S256x65x65 ![0, 1, 2] bcast_S256x1x65_S256x65x65_0_1_2 (broadcastInDim S256x1x65 ![0, 2] bcast_S256x65_S256x1x65_0_2 v))

theorem total_at (s : FVec Ideal S256x65x65 .f32) (u v : FVec Ideal S256x65 .f32) (b : Fin 256) (i j : Fin 65) :
    total s u v (ix3 b i j) = s (ix3 b i j) + u (ix2 b i) + v (ix2 b j) := by
  unfold total
  pointwise

theorem post_eq (X : Valuation τ sig (Elt Ideal)) : afterL postI X (Proc.devRef .tc main_v59)
    = total (X (Proc.devRef .tc main_v23)) (X (Proc.devRef .tc main_v53_5)) (X (Proc.devRef .tc main_v53_6)) := by
  simp only [postI, afterL_cons, afterL_nil]
  after_reads_simp
  rfl

section
variable {m : (ℓ : Loc nD τ sig) → Buf (Elt Ideal) ℓ} {c : Dev nD}
  (hp : ∀ x, Pre_scores_at_most_13.fn (F := Ideal) (feats0 m c) (feats1 m c) (mask0 m c) (mask1 m c) (alpha m c) x = 1#1)
include hp

/-- The array that the reference returns. -/
theorem final : finalContents condOps preI bodyI postI 100 m c (Proc.devRef .tc main_v59)
    = fun x : S256x65x65.Idx => value (feats0 m c) (feats1 m c) (mask0 m c) (mask1 m c) (alpha m c) (x 0) (x 1 : ℕ) (x 2 : ℕ) := by
  unfold finalContents
  rw [post_eq]
  have hs : after condOps (atTrip condOps bodyI (entryContents preI m) 100 c) (Proc.devRef .tc main_v23)
      = masked (feats0 m c) (feats1 m c) (mask0 m c) (mask1 m c) (alpha m c) :=
    (after_of_writes_sub condOps _ condOps_writes (by decide +kernel)).trans ((loop_keeps m c main_v23 (by decide +kernel) 100).trans (scores_kept m c))
  have hu := (cond_keeps (atTrip condOps bodyI (entryContents preI m) 100 c) main_v53_5 (by decide)).trans (atK_agree m c 100 main_v53_5 (by decide))
  have hv := (cond_keeps (atTrip condOps bodyI (entryContents preI m) 100 c) main_v53_6 (by decide)).trans (atK_agree m c 100 main_v53_6 (by decide))
  rw [hs, hu, hv]
  have at_entry : ∀ (b : Fin 256) (i j : Fin 65), total (masked (feats0 m c) (feats1 m c) (mask0 m c) (mask1 m c) (alpha m c))
      (STEP^[100] (entryContents preI m c) (Proc.devRef .tc main_v53_5)) (STEP^[100] (entryContents preI m c) (Proc.devRef .tc main_v53_6)) (ix3 b i j)
        = value (feats0 m c) (feats1 m c) (mask0 m c) (mask1 m c) (alpha m c) b i j := by
    intro b i j
    refine (total_at _ _ _ b i j).trans ?_
    refine (congrArg₂ (· + ·) (congrArg₂ (· + ·) rfl (RefTrip.rowPot_at (holds hp b) 99 i)) (RefTrip.colPot_at (holds hp b) 99 j)).trans ?_
    refine result_eq fun hi hj => ?_
    rw [masked_at, if_pos ⟨hi, hj⟩]
    exact (score_small hp b hi hj).2
  funext x
  idx_vars x
  exact at_entry _ _ _

end

/-- Every run of the reference ends with its result array at the fold and its arguments as they were. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v59) = finalContents condOps preI bodyI postI 100 m c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨h c main_v59 rfl,
      (h c main_arg0 rfl).trans (arg_kept m c _ (by decide +kernel) (by decide +kernel) (by decide +kernel)),
      (h c main_arg1 rfl).trans (arg_kept m c _ (by decide +kernel) (by decide +kernel) (by decide +kernel)),
      (h c main_arg2 rfl).trans (arg_kept m c _ (by decide +kernel) (by decide +kernel) (by decide +kernel)),
      (h c main_arg3 rfl).trans (arg_kept m c _ (by decide +kernel) (by decide +kernel) (by decide +kernel)),
      (h c main_arg4 rfl).trans (arg_kept m c _ (by decide +kernel) (by decide +kernel) (by decide +kernel))⟩)
    (run_fold m ρ)

/-- It also leaves every counter at zero: the program has none. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run defs _ _).mono (fun r h => ⟨fun c => (h c).2, sem_eq_zero_of_no_sems rfl _⟩) (run m ρ)

end Cert.RefArray

end
-- ==== Proof.Picks.lean ====
/- Picking the greatest entry of a row again and again, each time at the first position that holds it and never twice at one
   position, lists the positions in the order a stable descending sort does. -/
module

public import Idealize.ShloMosaic.Lib.SortPrefix
public import Idealize.ShloMosaic.PureOps.Ideal.Laws
public import Idealize.ShloMosaic.Lib.SortNet.Extract

@[expose] public section

noncomputable section

open Idealize.ShloMosaic

namespace Cert.Picks

variable {n : ℕ}

/-- `j` is the first position that holds the greatest entry. -/
structure First (x : Fin n → EReal) (j : Fin n) : Prop where
  le : ∀ i, x i ≤ x j
  lt : ∀ i, i < j → x i < x j

theorem First.eq {x : Fin n → EReal} {i j : Fin n} (hi : First x i) (hj : First x j) : i = j := by
  rcases lt_trichotomy i j with h | h | h
  · exact absurd (hi.le j) (not_le.2 (hj.lt i h))
  · exact h
  · exact absurd (hj.le i) (not_le.2 (hi.lt j h))

theorem exists_first [NeZero n] (x : Fin n → EReal) : ∃ j, First x j := by
  classical
  obtain ⟨m, hm⟩ := Finite.exists_max x
  have hs : (Finset.univ.filter fun i => x i = x m).Nonempty := ⟨m, by simp⟩
  have hj := Finset.min'_mem _ hs
  generalize hjd : (Finset.univ.filter fun i => x i = x m).min' hs = j at hj
  have hx : x j = x m := (Finset.mem_filter.1 hj).2
  refine ⟨j, fun i => hx ▸ hm i, fun i hi => hx ▸ lt_of_le_of_ne (hm i) fun he => ?_⟩
  have := Finset.min'_le (Finset.univ.filter fun i => x i = x m) i (Finset.mem_filter.2 ⟨Finset.mem_univ _, he⟩)
  rw [hjd] at this
  exact absurd hi (not_lt.2 this)

/-- The first position that holds the greatest entry. -/
def first [NeZero n] (x : Fin n → EReal) : Fin n := (exists_first x).choose

theorem first_spec [NeZero n] (x : Fin n → EReal) : First x (first x) := (exists_first x).choose_spec

/-- The row after `t` picks: a picked entry is overwritten with `gone`. -/
def left [NeZero n] (gone : EReal) (x : Fin n → EReal) : ℕ → Fin n → EReal
  | 0 => x
  | t + 1 => fun p => if p = first (left gone x t) then gone else left gone x t p

/-- The position picked at step `t`. -/
def pick [NeZero n] (gone : EReal) (x : Fin n → EReal) (t : ℕ) : Fin n := first (left gone x t)

theorem left_succ [NeZero n] (gone : EReal) (x : Fin n → EReal) (t : ℕ) (p : Fin n) :
    left gone x (t + 1) p = if p = pick gone x t then gone else left gone x t p := rfl

section
variable [NeZero n] {gone : EReal} {x : Fin n → EReal}

theorem left_of_picked {t s : ℕ} (h : s < t) : left gone x t (pick gone x s) = gone := by
  induction t with
  | zero => omega
  | succ t ih =>
    show (if _ then _ else _) = _
    split_ifs with hp
    · rfl
    · refine ih (lt_of_le_of_ne (by omega) fun he => hp ?_)
      subst he
      rfl

theorem left_of_kept {t : ℕ} {p : Fin n} (h : ∀ s < t, pick gone x s ≠ p) : left gone x t p = x p := by
  induction t with
  | zero => rfl
  | succ t ih =>
    show (if _ then _ else _) = _
    rw [if_neg fun he => h t (by omega) he.symm]
    exact ih fun s hs => h s (by omega)

/-- Fewer picks than positions leave a position. -/
theorem exists_kept {t : ℕ} (ht : t < n) : ∃ p : Fin n, ∀ s < t, pick gone x s ≠ p := by
  classical
  by_contra hc
  push Not at hc
  have hsub : (Finset.univ : Finset (Fin n)) ⊆ (Finset.range t).image (pick gone x) := fun p _ => by
    obtain ⟨s, hs, he⟩ := hc p
    exact Finset.mem_image.2 ⟨s, Finset.mem_range.2 hs, he⟩
  have hcard := (Finset.card_le_card hsub).trans Finset.card_image_le
  rw [Finset.card_univ, Fintype.card_fin, Finset.card_range] at hcard
  omega

variable (hx : ∀ p, gone < x p)
include hx

/-- A step picks a position that no earlier one picked. -/
theorem pick_kept {t : ℕ} (ht : t < n) : ∀ s < t, pick gone x s ≠ pick gone x t := by
  intro s hs he
  obtain ⟨p, hp⟩ := exists_kept (gone := gone) (x := x) ht
  have h1 := (first_spec (left gone x t)).le p
  rw [left_of_kept hp] at h1
  have h2 : left gone x t (first (left gone x t)) = gone := by
    rw [show first (left gone x t) = pick gone x s from he.symm]
    exact left_of_picked hs
  rw [h2] at h1
  exact absurd (hx p) (not_lt.2 h1)

/-- What a step picks, against a position not picked before it. -/
theorem pick_first {t : ℕ} (ht : t < n) {p : Fin n} (hp : ∀ s < t, pick gone x s ≠ p) :
    x p ≤ x (pick gone x t) ∧ (p < pick gone x t → x p < x (pick gone x t)) := by
  have h := first_spec (left gone x t)
  have he : left gone x t (first (left gone x t)) = x (pick gone x t) := left_of_kept (pick_kept hx ht)
  have h1 := h.le p
  have h2 := h.lt p
  rw [he, left_of_kept hp] at h1 h2
  exact ⟨h1, h2⟩

end

/-- Greater entry first, and of equal ones the earlier position. -/
def before (x : Fin n → EReal) (a b : Fin n) : Bool := decide (x b < x a) || (decide (x a = x b) && decide (a < b))

theorem before_total (x : Fin n → EReal) : StrictTotalBefore (before x) :=
  StrictTotalBefore.of_key_then_position (fun a b : EReal => decide (b < a)) x (fun a => by simp)
    (fun a b c h h' => by simp only [decide_eq_true_eq] at *; exact h'.trans h)
    fun a b => by simpa [or_comm, or_left_comm, eq_comm] using lt_trichotomy b a

/-- Two orders that agree on every pair of a list, the earlier element second, sort it alike. -/
theorem stableSort_eq {ι : Type} {R R' : ι → ι → Bool} (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.1 hb)

/-- A stable sort by the entries alone is the sort by entry and position. -/
theorem sortedFrom_eq (x : Fin n → EReal) : sortedFrom (fun a b => decide (x b < x a)) = sortedFrom (before x) := by
  have h : sortPositions n (fun a b => decide (x b < x a)) = sortPositions n (before x) := by
    refine stableSort_eq _ ((List.pairwise_lt_finRange n).imp fun {a b} hab => ?_)
    simp [before, not_lt.2 hab.le]
  funext k
  unfold sortedFrom
  rw [List.get_of_eq h]
  rfl

/-- The first `k` positions of the stable descending sort are the first `k` picks. -/
theorem sortedFrom_eq_pick [NeZero n] {gone : EReal} {x : Fin n → EReal} (hx : ∀ p, gone < x p) {k : ℕ} (hk : k ≤ n) (i : Fin k) :
    sortedFrom (fun a b => decide (x b < x a)) (i.castLE hk) = pick gone x i := by
  rw [sortedFrom_eq]
  have hne : ∀ {t : ℕ} {p : Fin n} (ht : t < n) (hp : ∀ s < t, pick gone x s ≠ p) (hpt : pick gone x t ≠ p), before x p (pick gone x t) = false := by
    intro t p ht hp hpt
    obtain ⟨h1, h2⟩ := pick_first hx ht hp
    rcases lt_or_gt_of_ne hpt with h | h
    · simp [before, not_lt.2 h1, not_lt.2 h.le]
    · simp [before, not_lt.2 h1, (h2 h).ne]
  refine (before_total x).sortedFrom_eq_of_prefix hk (fun i => pick gone x i) (fun i j he => ?_) (fun i j hij => ?_) (fun i p hp => ?_) i
  · rcases lt_trichotomy (i : ℕ) j with h | h | h
    · exact absurd he (pick_kept hx (j.2.trans_le hk) i h)
    · exact Fin.ext h
    · exact absurd he.symm (pick_kept hx (i.2.trans_le hk) j h)
  · have hj := pick_kept hx (j.2.trans_le hk)
    exact hne (i.2.trans_le hk) (fun s hs => hj s (hs.trans hij)) (hj i hij)
  · exact hne (i.2.trans_le hk) (fun s hs => hp ⟨s, hs.trans i.2⟩) (hp i)

/-- The first position of the stable descending sort holds the greatest entry, and is the first to. -/
theorem sortedFrom_zero {x : Fin n → EReal} {j : Fin n} (hj : First x j) (hn : 1 ≤ n) (i : Fin 1) :
    sortedFrom (fun a b => decide (x b < x a)) (i.castLE hn) = j := by
  rw [sortedFrom_eq]
  refine (before_total x).sortedFrom_eq_of_prefix hn (fun _ => j) (fun _ _ _ => Subsingleton.elim _ _)
    (fun a b hab => absurd (Subsingleton.elim a b) hab.ne) (fun i p hp => ?_) i
  rcases lt_or_gt_of_ne (hp i) with h | h
  · simp [before, not_lt.2 (hj.le p), not_lt.2 h.le]
  · simp [before, not_lt.2 (hj.le p), (hj.lt p h).ne]

/-- The least word of a set, read as integers. -/
theorem fold_minsi_spec {ι : Type} [DecidableEq ι] (g : ι → BitVec 32) (s : Finset ι) (init : BitVec 32) :
    (∀ i ∈ s, (s.fold IntOp.minsi init g).toInt ≤ (g i).toInt) ∧ (s.fold IntOp.minsi init g).toInt ≤ init.toInt
      ∧ (s.fold IntOp.minsi init g = init ∨ ∃ i ∈ s, s.fold IntOp.minsi init g = g i) := by
  induction s using Finset.induction_on with
  | empty => simp
  | insert a s ha ih =>
    rw [Finset.fold_insert ha]
    have hm : ∀ u v : BitVec 32, (IntOp.minsi u v).toInt = min u.toInt v.toInt := SortNet.toInt_minsi
    have hc : ∀ u v : BitVec 32, IntOp.minsi u v = u ∨ IntOp.minsi u v = v := fun u v => by
      rcases min_choice u.toInt v.toInt with h | h
      · exact Or.inl (BitVec.eq_of_toInt_eq ((hm u v).trans h))
      · exact Or.inr (BitVec.eq_of_toInt_eq ((hm u v).trans h))
    refine ⟨fun i hi => ?_, (hm _ _).le.trans ((min_le_right _ _).trans ih.2.1), ?_⟩
    · rw [hm]
      rcases Finset.mem_insert.1 hi with rfl | hi
      · exact min_le_left _ _
      · exact (min_le_right _ _).trans (ih.1 i hi)
    · rcases hc (g a) (s.fold IntOp.minsi init g) with h | h
      · exact Or.inr ⟨a, Finset.mem_insert_self _ _, h⟩
      · rw [h]
        exact ih.2.2.imp id fun ⟨i, hi, he⟩ => ⟨i, Finset.mem_insert_of_mem hi, he⟩

/-- The kernel's way to the first position of the greatest entry: the least, over the positions that hold it, of the position's
    word, counted from `b`. -/
theorem fold_first {x : Fin n → EReal} {j : Fin n} (hj : First x j) {b : ℕ} (hn : n + b ≤ 2 ^ 30) {g : Fin n → BitVec 32}
    (hg : ∀ i, g i = if x i = x j then BitVec.ofNat 32 (i + b) else 1073741824#32) :
    Finset.univ.fold IntOp.minsi 2147483647#32 g = BitVec.ofNat 32 (j + b) := by
  have hw : ∀ {a : ℕ}, a ≤ 2 ^ 30 → (BitVec.ofNat 32 a).toInt = a := fun {a} ha => by
    rw [BitVec.toInt_eq_toNat_bmod, BitVec.toNat_ofNat, Nat.mod_eq_of_lt (by omega), Int.bmod_eq_of_le (by omega) (by omega)]
  have hgj : (g j).toInt = (j + b : ℕ) := by rw [hg, if_pos rfl, hw (by omega)]
  obtain ⟨h1, -, h3⟩ := fold_minsi_spec g Finset.univ 2147483647#32
  have hle := h1 j (Finset.mem_univ _)
  rw [hgj] at hle
  generalize Finset.univ.fold IntOp.minsi 2147483647#32 g = v at *
  rcases h3 with rfl | ⟨i, -, rfl⟩
  · have : (2147483647#32 : BitVec 32).toInt = 2147483647 := by decide
    omega
  · by_cases hi : x i = x j
    · rw [hg i, if_pos hi] at hle ⊢
      rw [hw (by omega)] at hle
      have hij : ¬ i < j := fun h => (hj.lt i h).ne hi
      have : i = j := le_antisymm (Fin.le_def.2 (by omega)) (not_lt.1 hij)
      rw [this]
    · rw [hg i, if_neg hi] at hle
      have : (1073741824#32 : BitVec 32).toInt = 1073741824 := by decide
      omega

/-- The greatest entry, as a fold. -/
theorem fold_max {x : Fin n → EReal} {j : Fin n} (hj : First x j) : Finset.univ.fold max ⊥ x = x j :=
  le_antisymm ((Finset.fold_max_le _).2 ⟨bot_le, fun i _ => hj.le i⟩) ((Finset.le_fold_max _).2 (Or.inr ⟨j, Finset.mem_univ _, le_rfl⟩))

/-- The least entry, as a fold, where `j` holds the greatest of the negated ones. -/
theorem fold_min {y : Fin n → EReal} {j : Fin n} (hj : First (fun i => -y i) j) : Finset.univ.fold min ⊤ y = y j :=
  le_antisymm ((Finset.fold_min_le _).2 (Or.inr ⟨j, Finset.mem_univ _, le_rfl⟩))
    ((Finset.le_fold_min _).2 ⟨le_top, fun i _ => EReal.neg_le_neg_iff.1 (hj.le i)⟩)

end Cert.Picks

end
-- ==== Proof.NearestBlock.lean ====
/- What one block of the nearest-points kernel computes: 64 patch centres against all points. Per centre the 64 picks of the
   negated squared distances; per point the least squared distance and the first centre that has it. -/
module

public import proofs.«01_k».proof.Proof.Picks
public import proofs.«01_k».proof.Proof.Gen.NearestIdeal.Skeleton
public import Idealize.ShloMosaic.Lib.Pointwise
public import Idealize.ShloMosaic.Lib.Exec

@[expose] public section

set_option maxRecDepth 16384

noncomputable section

open Idealize.ShloMosaic Idealize.ShloMosaic.TcCoe Idealize.SL.Sem
open Cert.NearestIdeal Cert.NearestIdeal.Gen Cert.Picks

namespace Cert.NearestBlock

/-- The squared distance of two points, their coordinates' differences taken first point minus second. -/
def gap (a b : Fin 3 → EReal) : EReal :=
  (a 0 - b 0) * (a 0 - b 0) + (a 1 - b 1) * (a 1 - b 1) + (a 2 - b 2) * (a 2 - b 2)

/-- The kernel's stand-in for an entry already picked. -/
def gone : EReal := Ideal.ofBits .f32 0xFF7FC99E#32

theorem gap_at (v0 : FVec Ideal S64x3 .f32) (v2 v9 v17 : FVec Ideal S1x20000 .f32) (r : Fin 64) (p : Fin 20000) :
    k0_pay6 (F := Ideal) v0 v2 v9 v17 (ix2 r p)
      = gap (fun d => v0 (ix2 r d)) ![v2 (ix2 0 p), v9 (ix2 0 p), v17 (ix2 0 p)] := by
  pointwise [k0_pay6, gap]

theorem start_at (v : FVec Ideal S64x20000 .f32) (r : Fin 64) (p : Fin 20000) : k0_pay1 (F := Ideal) v (ix2 r p) = -v (ix2 r p) := by
  pointwise [k0_pay1]
  exact zero_sub _

theorem bits_bot : Ideal.ofBits .f32 0xFF800000#32 = ⊥ := by
  simp [Ideal.ofBits, Ideal.ieee]

theorem bits_top : Ideal.ofBits .f32 0x7F800000#32 = ⊤ := by
  simp [Ideal.ofBits, Ideal.ieee]

/-- The column one trip of the loop picks in row `r`. -/
theorem pick_at {x : FVec Ideal S64x20000 .f32} {r : Fin 64} {j : Fin 20000} (hj : First (fun p => x (ix2 r p)) j) (z : Fin 1) :
    k0_pay3 (F := Ideal) x (ix2 r z) = BitVec.ofNat 32 j := by
  pointwise [k0_pay3]
  have hm : Finset.fold max (Ideal.ofBits FTy.f32 0xFF800000#32) (fun p => x (ix2 r p)) Finset.univ = x (ix2 r j) := by
    rw [bits_bot]
    exact fold_max hj
  rw [hm]
  exact fold_first (b := 0) hj (by norm_num) fun i => rfl

theorem word_eq {a b : ℕ} (ha : a < 2 ^ 32) (hb : b < 2 ^ 32) : BitVec.ofNat 32 a = BitVec.ofNat 32 b ↔ a = b := by
  rw [← BitVec.toNat_inj, BitVec.toNat_ofNat, BitVec.toNat_ofNat, Nat.mod_eq_of_lt ha, Nat.mod_eq_of_lt hb]

/-- Equality of two small words. -/
theorem eq_word {a b : ℕ} (ha : a < 2 ^ 32) (hb : b < 2 ^ 32) :
    IntOp.cmpi .eq (BitVec.ofNat 32 a) (BitVec.ofNat 32 b) = BitVec.ofBool (decide (a = b)) := by
  have : (BitVec.ofNat 32 a == BitVec.ofNat 32 b) = decide (a = b) := by
    rw [Bool.eq_iff_iff, beq_iff_eq, decide_eq_true_iff, word_eq ha hb]
  rw [← this]
  rfl

theorem select_if {α : Type} (q : Prop) [Decidable q] (a b : α) : Scalar.select (BitVec.ofBool (decide q)) a b = if q then a else b := by
  by_cases h : q <;> simp [h, Scalar.select]

theorem trips_eq : k0_t1_loop.trips = 64 := by decide

/-- A property of the loop's state that every trip carries on holds after the loop. -/
theorem fold_induct {σ : Type} {n : ℕ} (g : Fin n → σ → σ) (a : σ) (P : ℕ → σ → Prop) (h0 : P 0 a)
    (hs : ∀ (t : Fin n) (s : σ), P t s → P (t + 1) (g t s)) : P n (Scf.fold g a) := by
  rw [Scf.fold_eq]
  have : ∀ k ≤ n, P k (((List.finRange n).take k).foldl (fun s t => g t s) a) := by
    intro k
    induction k with
    | zero => exact fun _ => h0
    | succ k ih =>
      intro hk
      rw [List.take_add_one, List.getElem?_eq_getElem (by rw [List.length_finRange]; omega), List.getElem_finRange]
      simp only [Option.toList_some, List.foldl_append, List.foldl_cons, List.foldl_nil]
      exact hs ⟨k, hk⟩ _ (ih (by omega))
  have h := this n le_rfl
  rwa [List.take_of_length_le (by rw [List.length_finRange])] at h

/-- One trip overwrites the picked entry. -/
theorem next_at {x : FVec Ideal S64x20000 .f32} {r : Fin 64} {j : Fin 20000} (hj : First (fun p => x (ix2 r p)) j) (p : Fin 20000) :
    k0_pay5 (F := Ideal) x (ix2 r p) = if p = j then gone else x (ix2 r p) := by
  have h := pick_at hj
  pointwise [k0_pay5]
  rw [h, eq_word (by omega) (by omega)]
  simp only [Fin.val_inj]
  exact select_if _ _ _

/-- One trip writes the pick in its own column. -/
theorem store_at {x : FVec Ideal S64x20000 .f32} {r : Fin 64} {j : Fin 20000} (hj : First (fun p => x (ix2 r p)) j)
    (t : Fin k0_t1_loop.trips) (a : IVec S64x64 32) (c : Fin 64) :
    k0_pay4 (F := Ideal) t x a (ix2 r c) = if (c : ℕ) = t then BitVec.ofNat 32 j else a (ix2 r c) := by
  have h := pick_at hj
  pointwise [k0_pay4]
  have ht : (t : ℕ) < 64 := t.isLt.trans_eq trips_eq
  have hiv : Scf.iv 0#32 1#32 (t : ℕ) = BitVec.ofNat 32 t := by simp [Scf.iv]
  rw [h, hiv, eq_word (by omega) (by omega)]
  exact select_if _ _ _

/-- The least squared distance of a point to the block's centres. -/
theorem least_at (v0 : FVec Ideal S64x3 .f32) (v2 v9 v17 : FVec Ideal S1x20000 .f32) (p : Fin 20000) :
    k0_pay8 (F := Ideal) v0 v2 v9 v17 (ix3 0 0 p)
      = Finset.univ.fold min ⊤ fun r : Fin 64 => gap (fun d => v0 (ix2 r d)) ![v2 (ix2 0 p), v9 (ix2 0 p), v17 (ix2 0 p)] := by
  have h := gap_at v0 v2 v9 v17
  generalize he : k0_pay6 (F := Ideal) v0 v2 v9 v17 = y at h
  pointwise [k0_pay8, k0_pay7]
  rw [he]
  pointwise []
  rw [bits_top]
  exact congrArg (fun f => Finset.univ.fold min ⊤ f) (funext fun r => h r p)

/-- The first of the block's centres at the least squared distance, counted over all blocks. -/
theorem which_at (i : grid0.Coords) (v0 : FVec Ideal S64x3 .f32) (v2 v9 v17 : FVec Ideal S1x20000 .f32) (p : Fin 20000) {j : Fin 64}
    (hj : First (fun r : Fin 64 => -gap (fun d => v0 (ix2 r d)) ![v2 (ix2 0 p), v9 (ix2 0 p), v17 (ix2 0 p)]) j) :
    k0_pay9 (F := Ideal) i v0 v2 v9 v17 (ix3 0 0 p) = BitVec.ofNat 32 (j + (i 0 : ℕ) * 64) := by
  have h := gap_at v0 v2 v9 v17
  generalize he : k0_pay6 (F := Ideal) v0 v2 v9 v17 = y at h
  have hi : (i 0 : ℕ) < 4 := (i 0).isLt
  simp only [← h] at hj
  pointwise [k0_pay9, k0_pay7]
  rw [he]
  pointwise []
  rw [bits_top, fold_min hj]
  refine fold_first (b := (i 0 : ℕ) * 64) hj (by omega) fun r => ?_
  simp only [neg_inj]
  rw [BitVec.ofNat_add, BitVec.ofNat_mul]
  rfl

section
variable (x : FVec Ideal S64x20000 .f32)

/-- One trip of the loop. -/
def trip (t : Fin k0_t1_loop.trips) (s : FVec Ideal S64x20000 .f32 × IVec S64x64 32) : FVec Ideal S64x20000 .f32 × IVec S64x64 32 :=
  (k0_pay5 (F := Ideal) s.1, k0_pay4 (F := Ideal) t s.1 s.2)

/-- The state after `k` trips, read in row `r`, whose entries were `y`. -/
def State (y : Fin 20000 → EReal) (r : Fin 64) (k : ℕ) (s : FVec Ideal S64x20000 .f32 × IVec S64x64 32) : Prop :=
  (∀ p : Fin 20000, s.1 (ix2 r p) = left gone y k p) ∧ ∀ c : Fin 64, (c : ℕ) < k → s.2 (ix2 r c) = BitVec.ofNat 32 (pick gone y c : Fin 20000)

theorem State.next {y : Fin 20000 → EReal} {r : Fin 64} {t : Fin k0_t1_loop.trips} {s : FVec Ideal S64x20000 .f32 × IVec S64x64 32}
    (hs : State y r t s) : State y r (t + 1) (trip t s) := by
  have hrow : (fun p => s.1 (ix2 r p)) = left gone y t := funext hs.1
  have hj : First (fun p => s.1 (ix2 r p)) (pick gone y t) := by
    rw [hrow]
    exact first_spec _
  constructor
  · intro p
    unfold trip
    dsimp only
    rw [next_at hj p, hs.1 p, left_succ]
  · intro c hc
    unfold trip
    dsimp only
    rw [store_at hj t s.2 c]
    split_ifs with hct
    · rw [hct]
    · exact hs.2 c (by omega)

/-- What the loop leaves in column `c` of row `r`: the position of that row's pick at step `c`. -/
theorem loop_at (a : IVec S64x64 32) (r c : Fin 64) :
    (Scf.fold (n := k0_t1_loop.trips) trip (x, a)).2 (ix2 r c) = BitVec.ofNat 32 (pick gone (fun p => x (ix2 r p)) c : Fin 20000) :=
  (fold_induct trip (x, a) (State (fun p => x (ix2 r p)) r) ⟨fun p => rfl, fun c hc => absurd hc (Nat.not_lt_zero _)⟩
    fun _ _ hs => hs.next).2 c (c.isLt.trans_eq trips_eq.symm)

end

end Cert.NearestBlock

end
-- ==== Proof.NearestOut.lean ====
/- The three blocks the kernel's body leaves at a grid point, in terms of the two blocks it reads. -/
module

public import proofs.«01_k».proof.Proof.NearestBlock
public import proofs.«01_k».proof.Proof.Gen.NearestIdeal.Value
public import Idealize.ShloMosaic.Lib.Pipeline.ValueKit

@[expose] public section

set_option maxRecDepth 16384

noncomputable section

open Idealize.ShloMosaic Idealize.ShloMosaic.TcCoe Idealize.SL.Sem
open Cert.NearestIdeal Cert.NearestIdeal.Gen

namespace Cert.NearestOut
variable (m : (ℓ : Loc nD τ sig) → Buf (Elt Ideal) ℓ)

/-- Row `d` of the block of points. -/
def coord (x : FVec Ideal S3x20000 .f32) (d : Fin 3) : FVec Ideal S1x20000 .f32 := fun y => x (ix2 d (y 1))

/-- The block's squared distances. -/
def dists (x0 : FVec Ideal S64x3 .f32) (x1 : FVec Ideal S3x20000 .f32) : FVec Ideal S64x20000 .f32 :=
  k0_pay6 (F := Ideal) x0 (coord x1 0) (coord x1 1) (coord x1 2)

/-- What the body computes from a block of centres and three rows of points. -/
theorem of_rows (i : grid0.Coords) (x0 : FVec Ideal S64x3 .f32) (x1 : FVec Ideal S3x20000 .f32) {u0 u1 u2 : FVec Ideal S1x20000 .f32}
    (h0 : u0 = coord x1 0) (h1 : u1 = coord x1 1) (h2 : u2 = coord x1 2) :
    ((Scf.fold (n := k0_t1_loop.trips) (fun t s => (k0_pay5 s.1, k0_pay4 t s.1 s.2)) (k0_pay1 (k0_pay6 (F := Ideal) x0 u0 u1 u2), k0_pay2)).2,
        k0_pay8 (F := Ideal) x0 u0 u1 u2, k0_pay9 (F := Ideal) i x0 u0 u1 u2)
      = ((Scf.fold (n := k0_t1_loop.trips) NearestBlock.trip (k0_pay1 (F := Ideal) (dists x0 x1), k0_pay2)).2,
        k0_pay8 (F := Ideal) x0 (coord x1 0) (coord x1 1) (coord x1 2), k0_pay9 (F := Ideal) i x0 (coord x1 0) (coord x1 1) (coord x1 2)) := by
  subst h0 h1 h2
  rfl

theorem out_eq (c : Dev nD) (t : Fin cfg0.N) :
    outsAt0 m c t = ((Scf.fold (n := k0_t1_loop.trips) NearestBlock.trip (k0_pay1 (F := Ideal) (dists (iblk m c 0 t) (iblk m c 1 t)), k0_pay2)).2,
      k0_pay8 (F := Ideal) (iblk m c 0 t) (coord (iblk m c 1 t) 0) (coord (iblk m c 1 t) 1) (coord (iblk m c 1 t) 2),
      k0_pay9 (F := Ideal) (grid0.coords t) (iblk m c 0 t) (coord (iblk m c 1 t) 0) (coord (iblk m c 1 t) 1) (coord (iblk m c 1 t) 2)) := by
  unfold outsAt0 out0_A_2 out0_A_3 out0_A_4
  rw [View.read_writes_eq_canon _ _ _ (cover0_A_2 c (grid0.coords t) (ms0_0 t) (hs0_0 t) (ms0_1 t) (hs0_1 t) (ms0_2 t) (hs0_2 t) (ms0_3 t) (hs0_3 t) (ms0_4 t) (hs0_4 t) (iblk m c 0 t) (iblk m c 1 t)),
    View.read_writes_eq_canon _ _ _ (cover0_A_3 c (grid0.coords t) (ms0_0 t) (hs0_0 t) (ms0_1 t) (hs0_1 t) (ms0_2 t) (hs0_2 t) (ms0_3 t) (hs0_3 t) (ms0_4 t) (hs0_4 t) (iblk m c 0 t) (iblk m c 1 t)),
    View.read_writes_eq_canon _ _ _ (cover0_A_4 c (grid0.coords t) (ms0_0 t) (hs0_0 t) (ms0_1 t) (hs0_1 t) (ms0_2 t) (hs0_2 t) (ms0_3 t) (hs0_3 t) (ms0_4 t) (hs0_4 t) (iblk m c 0 t) (iblk m c 1 t))]
  unfold kernelRun0_A
  dsimp only
  sl_unfold_words
  have hz2 : (![0, 0] : Fin 2 → ℕ) = fun _ => 0 := by decide
  have hz3 : (![0, 0, 0] : Fin 3 → ℕ) = fun _ => 0 := by decide
  simp only [View.readAt_eq_ld, (hs0_0 t).read_unread, (hs0_1 t).read_unread]
  rw [View.canon_unit_zero hz2, View.canon_unit_zero hz3, View.canon_unit_zero hz3]
  simp only [View.ld_unit_zero (S := S64x3) hz2]
  have h0 : View.ld (iblk m c 1 t) (Rect.unit ![0, 0] ![1, 20000] inb_S3x20000_S1x20000_0_0) = coord (iblk m c 1 t) 0 :=
    funext fun y => View.ld_unit_apply_of _ _ _ _ y (ix2 0 (y 1)) fun a => by
      have hy : (y 0 : ℕ) < 1 := (y 0).isLt
      refine Fin.cases ?_ (fun b => ?_) a
      · show (0 : ℕ) = 0 + (y 0 : ℕ)
        omega
      · rw [Subsingleton.elim b 0]
        exact (Nat.zero_add _).symm
  have h1 : View.ld (iblk m c 1 t) (Rect.unit ![1, 0] ![1, 20000] inb_S3x20000_S1x20000_1_0) = coord (iblk m c 1 t) 1 :=
    funext fun y => View.ld_unit_apply_of _ _ _ _ y (ix2 1 (y 1)) fun a => by
      have hy : (y 0 : ℕ) < 1 := (y 0).isLt
      refine Fin.cases ?_ (fun b => ?_) a
      · show (1 : ℕ) = 1 + (y 0 : ℕ)
        omega
      · rw [Subsingleton.elim b 0]
        exact (Nat.zero_add _).symm
  have h2 : View.ld (iblk m c 1 t) (Rect.unit ![2, 0] ![1, 20000] inb_S3x20000_S1x20000_2_0) = coord (iblk m c 1 t) 2 :=
    funext fun y => View.ld_unit_apply_of _ _ _ _ y (ix2 2 (y 1)) fun a => by
      have hy : (y 0 : ℕ) < 1 := (y 0).isLt
      refine Fin.cases ?_ (fun b => ?_) a
      · show (2 : ℕ) = 2 + (y 0 : ℕ)
        omega
      · rw [Subsingleton.elim b 0]
        exact (Nat.zero_add _).symm
  exact of_rows (grid0.coords t) (iblk m c 0 t) (iblk m c 1 t) h0 h1 h2

end Cert.NearestOut

end
-- ==== Proof.NearestEntries.lean ====
/- The entries of the nearest-points call as the two point arrays give them, and what its precondition says of them. -/
module

public import proofs.«01_k».proof.Proof.NearestBlock
public import proofs.«01_k».proof.Proof.Entries
public import proofs.«01_k».proof.Proof.Gen.Pre_points_at_most_5e18
public import Idealize.ShloMosaic.Lib.Pointwise
public import Idealize.ShloMosaic.Lib.Claim

@[expose] public section

noncomputable section

open Idealize.ShloMosaic Cert.Pre_points_at_most_5e18 Cert.Picks Cert.NearestBlock

namespace Cert.NearestEntries

section
variable (X : S20000x3.Idx → EReal) (Y : S256x3.Idx → EReal)

/-- The squared distance from centre `c` to point `p`. -/
def apart (c : Fin 256) (p : Fin 20000) : EReal := gap (fun d => Y (ix2 c d)) (fun d => X (ix2 p d))

/-- Centre `r` of block `b`. -/
def centre (b : Fin 4) (r : Fin 64) : Fin 256 := ⟨(b : ℕ) * 64 + r, by omega⟩

/-- The point nearest to centre `c` in `k`-th place. -/
def near (c : Fin 256) (k : ℕ) : BitVec 32 := BitVec.ofNat 32 (pick gone (fun p => -apart X Y c p) k : Fin 20000)

/-- The least squared distance from point `p` to the centres of block `b`. -/
def least (b : Fin 4) (p : Fin 20000) : EReal := Finset.univ.fold min ⊤ fun r : Fin 64 => apart X Y (centre b r) p

/-- The first centre of block `b` at that distance, counted over all blocks. -/
def which (b : Fin 4) (p : Fin 20000) : BitVec 32 := BitVec.ofNat 32 (first (fun r : Fin 64 => -apart X Y (centre b r) p) + (b : ℕ) * 64)

end

theorem bits_gone : Ideal.ofBits .f32 0xFF7FC99E#32 = ((-(16763294 * 2 ^ 104) : ℝ) : EReal) := by
  simp [Ideal.ofBits, Ideal.ieee, -EReal.coe_mul, -EReal.coe_neg]

theorem bits_bound : Ideal.ofBits .f32 0x5E8AC723#32 = ((9094947 * 2 ^ 39 : ℝ) : EReal) := by
  simp [Ideal.ofBits, Ideal.ieee, -EReal.coe_mul]

/-- A conjunction of words over a finite set is one only if each is. -/
theorem all_one {ι : Type} {f : ι → BitVec 1} {s : Finset ι} (h : s.fold IntOp.andi 1#1 f = 1#1) : ∀ i ∈ s, f i = 1#1 := by
  classical
  induction s using Finset.induction_on with
  | empty => exact fun i hi => absurd hi (Finset.notMem_empty i)
  | insert a s ha ih =>
    rw [Finset.fold_insert ha] at h
    obtain ⟨h1, h2⟩ := Entries.andi_one _ _ h
    intro i hi
    rcases Finset.mem_insert.1 hi with rfl | hi
    · exact h1
    · exact ih h2 i hi

/-- The same over a whole type. -/
theorem every_one {ι : Type} [Fintype ι] {f : ι → BitVec 1} (h : Finset.univ.fold IntOp.andi 1#1 f = 1#1) (i : ι) : f i = 1#1 :=
  all_one h i (Finset.mem_univ i)

/-- The greatest coordinate the precondition lets pass. -/
def bound : ℝ := 9094947 * 2 ^ 39

/-- Reals of magnitude at most the bound, as the points' coordinates. -/
def Small (a : Fin 3 → EReal) : Prop := ∀ d, |(a d).toReal| ≤ bound ∧ a d = ((a d).toReal : EReal)

section
variable {X : S20000x3.Idx → EReal} {Y : S256x3.Idx → EReal}
  (hp : ∀ x, fn (F := Ideal) X Y x = 1#1)
include hp

/-- The precondition's words, entry by entry. -/
theorem all_small : (∀ p : Fin 20000, Small fun d => X (ix2 p d)) ∧ ∀ c : Fin 256, Small fun d => Y (ix2 c d) := by
  have h := hp ix0
  unfold fn at h
  pointwise at h
  rw [bits_bound] at h
  obtain ⟨h1, h2⟩ := Entries.andi_one _ _ h
  have h1 := every_one h1
  have h2 := every_one h2
  refine ⟨fun p d => Entries.real_of_abs ?_, fun c d => Entries.real_of_abs ?_⟩
  · exact Entries.of_ofBool (h1 (p, d))
  · exact Entries.of_ofBool (h2 (c, d))

end

section
variable {a b : Fin 3 → EReal} (ha : Small a) (hb : Small b)
include ha hb

/-- The squared distance of two such points as a real. -/
theorem gap_real : gap a b = ((((a 0).toReal - (b 0).toReal) ^ 2 + ((a 1).toReal - (b 1).toReal) ^ 2 + ((a 2).toReal - (b 2).toReal) ^ 2 : ℝ) : EReal) := by
  have h : ∀ d, (a d - b d) * (a d - b d) = ((((a d).toReal - (b d).toReal) ^ 2 : ℝ) : EReal) := fun d => by
    rw [pow_two, EReal.coe_mul, EReal.coe_sub, ← (ha d).2, ← (hb d).2]
  unfold gap
  rw [h 0, h 1, h 2, EReal.coe_add, EReal.coe_add]

/-- It is the same from either point. -/
theorem gap_comm : gap a b = gap b a := by
  rw [gap_real ha hb, gap_real hb ha]
  congr 1
  ring

/-- Its negation is above the stand-in for a picked entry. -/
theorem gone_lt : gone < -gap a b := by
  have h : ∀ d, ((a d).toReal - (b d).toReal) ^ 2 ≤ (2 * bound) ^ 2 := fun d => by
    have h1 := abs_le.1 (ha d).1
    have h2 := abs_le.1 (hb d).1
    exact sq_le_sq' (by linarith [h1.1, h2.2]) (by linarith [h1.2, h2.1])
  have hn : (2 * bound) ^ 2 * 3 < 16763294 * 2 ^ 104 := by
    unfold bound
    norm_num
  unfold gone
  rw [bits_gone, gap_real ha hb, ← EReal.coe_neg, EReal.coe_lt_coe_iff]
  linarith [h 0, h 1, h 2]

end

end Cert.NearestEntries

end
-- ==== Proof.NearestRef.lean ====
/- The reference's three results of the nearest-points call, entry by entry. -/
module

public import proofs.«01_k».proof.Proof.NearestEntries
public import proofs.«01_k».proof.Proof.Gen.NearestReferenceIdeal.Run
public import Idealize.ShloMosaic.Lib.Quiescent
public import Idealize.ShloMosaic.Lib.Pointwise

@[expose] public section

set_option maxRecDepth 16384

noncomputable section

open Idealize.ShloMosaic Idealize.ShloMosaic.TcCoe Idealize.SL.Sem
open Cert.NearestReferenceIdeal Cert.NearestReferenceIdeal.Gen Cert.Picks Cert.NearestBlock Cert.NearestEntries

namespace Cert.NearestRef

/-- The reference's array of squared distances. -/
def dist2 (X : FVec Ideal S20000x3 .f32) (Y : FVec Ideal S256x3 .f32) : FVec Ideal S20000x256 .f32 :=
  Host.reduceAdd (mulf (subf (broadcastInDim S20000x256x3 ![0, 1, 2] bcast_S20000x1x3_S20000x256x3_0_1_2 (broadcastInDim S20000x1x3 ![0, 2] bcast_S20000x3_S20000x1x3_0_2 X)) (broadcastInDim S20000x256x3 ![0, 1, 2] bcast_S1x256x3_S20000x256x3_0_1_2 (broadcastInDim S1x256x3 ![1, 2] bcast_S256x3_S1x256x3_1_2 Y))) (subf (broadcastInDim S20000x256x3 ![0, 1, 2] bcast_S20000x1x3_S20000x256x3_0_1_2 (broadcastInDim S20000x1x3 ![0, 2] bcast_S20000x3_S20000x1x3_0_2 X)) (broadcastInDim S20000x256x3 ![0, 1, 2] bcast_S1x256x3_S20000x256x3_0_1_2 (broadcastInDim S1x256x3 ![1, 2] bcast_S256x3_S1x256x3_1_2 Y)))) (constant S_ .f32 0x00000000#32) reducesTo_S20000x256x3_S20000x256_d2 h_S_

theorem dist2_at (X : FVec Ideal S20000x3 .f32) (Y : FVec Ideal S256x3 .f32) (p : Fin 20000) (c : Fin 256) :
    dist2 X Y (ix2 p c) = gap (fun d => X (ix2 p d)) (fun d => Y (ix2 c d)) := by
  pointwise [dist2, gap]
  exact Fin.sum_univ_three _

/-- The comparator of a descending sort. -/
theorem greater (a b : Ideal .f32) : (FloatOps.cmpfTotal .gt a b == 1#1) = decide (b < a) := by
  show (BitVec.ofBool (decide (b < a)) == 1#1) = decide (b < a)
  cases decide (b < a) <;> rfl

theorem along2 {R N : ℕ} (c : Fin R) (q b : Fin N) : (ix2 c q : (⟨2, ![R, N]⟩ : Shape).Idx).along 1 b = ix2 c b := by
  funext a
  fin_cases a <;> rfl

theorem along3 {P R N : ℕ} (p : Fin P) (c : Fin R) (q b : Fin N) : (ix3 p c q : (⟨3, ![P, R, N]⟩ : Shape).Idx).along 2 b = ix3 p c b := by
  funext a
  fin_cases a <;> rfl

/-- A position of the descending order of a row. -/
theorem rank2 {R N K : ℕ} (hK : K ≤ N) (x : FVec Ideal ⟨2, ![R, N]⟩ .f32) (h : (⟨2, ![R, N]⟩ : Shape).Slices (fun _ => 0) ⟨2, ![R, K]⟩) (c : Fin R) (k : Fin K) {y : Fin N → EReal} (hy : ∀ b, x (ix2 c b) = y b) :
    (Host.topK ⟨2, ![R, K]⟩ 1 (FloatOps.cmpfTotal .gt) x h).2 (ix2 c k)
      = BitVec.ofNat 32 (sortedFrom (fun a b : Fin N => decide (y b < y a)) (k.castLE hK)) := by
  have e : (fun a => ⟨0 + ((ix2 c k : (⟨2, ![R, K]⟩ : Shape).Idx) (a.cast h.1.symm)).val, Nat.lt_of_lt_of_le (Nat.add_lt_add_left (Fin.isLt _) _) (h.2 a)⟩ : (⟨2, ![R, N]⟩ : Shape).Idx)
      = ix2 c (k.castLE hK) := by
    funext a
    apply Fin.ext
    fin_cases a <;> exact Nat.zero_add _
  have f : (fun a b : Fin N => FloatOps.cmpfTotal .gt (x ((ix2 c (k.castLE hK) : (⟨2, ![R, N]⟩ : Shape).Idx).along 1 a)) (x ((ix2 c (k.castLE hK) : (⟨2, ![R, N]⟩ : Shape).Idx).along 1 b)) == 1#1)
      = fun a b => decide (y b < y a) := by
    funext a b
    rw [greater, along2, along2, hy, hy]
  unfold Host.topK Host.sort2 extractStridedSlice
  dsimp only
  rw [e, dif_pos (show 1 < 2 by decide)]
  exact congrArg (fun f => BitVec.ofNat 32 (sortedFrom f (k.castLE hK) : Fin N)) f

/-- The same over three axes. -/
theorem rank3 {P R N K : ℕ} (hK : K ≤ N) (x : FVec Ideal ⟨3, ![P, R, N]⟩ .f32) (h : (⟨3, ![P, R, N]⟩ : Shape).Slices (fun _ => 0) ⟨3, ![P, R, K]⟩) (p : Fin P) (c : Fin R) (k : Fin K) {y : Fin N → EReal} (hy : ∀ b, x (ix3 p c b) = y b) :
    (Host.topK ⟨3, ![P, R, K]⟩ 2 (FloatOps.cmpfTotal .gt) x h).2 (ix3 p c k)
      = BitVec.ofNat 32 (sortedFrom (fun a b : Fin N => decide (y b < y a)) (k.castLE hK)) := by
  have e : (fun a => ⟨0 + ((ix3 p c k : (⟨3, ![P, R, K]⟩ : Shape).Idx) (a.cast h.1.symm)).val, Nat.lt_of_lt_of_le (Nat.add_lt_add_left (Fin.isLt _) _) (h.2 a)⟩ : (⟨3, ![P, R, N]⟩ : Shape).Idx)
      = ix3 p c (k.castLE hK) := by
    funext a
    apply Fin.ext
    fin_cases a <;> exact Nat.zero_add _
  have f : (fun a b : Fin N => FloatOps.cmpfTotal .gt (x ((ix3 p c (k.castLE hK) : (⟨3, ![P, R, N]⟩ : Shape).Idx).along 2 a)) (x ((ix3 p c (k.castLE hK) : (⟨3, ![P, R, N]⟩ : Shape).Idx).along 2 b)) == 1#1)
      = fun a b => decide (y b < y a) := by
    funext a b
    rw [greater, along3, along3, hy, hy]
  unfold Host.topK Host.sort2 extractStridedSlice
  dsimp only
  rw [e, dif_pos (show 2 < 3 by decide)]
  exact congrArg (fun f => BitVec.ofNat 32 (sortedFrom f (k.castLE hK) : Fin N)) f

theorem least_of (D : FVec Ideal S20000x256 .f32) (b : Fin 4) (p : Fin 20000) :
    broadcastInDim S4x1x20000 ![0, 2] bcast_S4x20000_S4x1x20000_0_2 (transpose S4x20000 [1, 0] (Host.reduce FloatOps.minimumf (shapeCast _ D shapeCasts_S20000x256_S20000x4x64) (constant S_ .f32 0x7F800000#32) reducesTo_S20000x4x64_S20000x4_d2 h_S_) transposes_S20000x4_S4x20000_1_0) (ix3 b 0 p)
      = Finset.univ.fold min ⊤ fun r : Fin 64 => D (ix2 p (centre b r)) := by
  pointwise
  rw [bits_top]
  rfl

theorem which_of (I : IVec S20000x4x1 32) (b : Fin 4) (p : Fin 20000) :
    broadcastInDim S4x1x20000 ![0, 2] bcast_S4x20000_S4x1x20000_0_2 (transpose S4x20000 [1, 0] (addi (shapeCast _ I shapeCasts_S20000x4x1_S20000x4) (broadcastInDim S20000x4 ![0, 1] bcast_S1x4_S20000x4_0_1 (broadcastInDim S1x4 ![1] bcast_S4_S1x4_1 (muli (broadcastInDim S4 ![] bcast_S_S4 (constantI S_ 32 64#32)) (iotaInDim S4 32 0))))) transposes_S20000x4_S4x20000_1_0) (ix3 b 0 p)
      = I (ix3 p b 0) + 64#32 * BitVec.ofNat 32 b := by
  pointwise
  rfl

/-- The negated distances as the reference sorts them. -/
theorem flipped (D : FVec Ideal S20000x256 .f32) (c : Fin 256) (p : Fin 20000) :
    (Host.negf (transpose S256x20000 [1, 0] D transposes_S20000x256_S256x20000_1_0) : FVec Ideal S256x20000 .f32) (ix2 c p) = -D (ix2 p c) := by
  pointwise

theorem grouped (D : FVec Ideal S20000x256 .f32) (p : Fin 20000) (b : Fin 4) (r : Fin 64) :
    (Host.negf (shapeCast _ D shapeCasts_S20000x256_S20000x4x64) : FVec Ideal S20000x4x64 .f32) (ix3 p b r) = -D (ix2 p (centre b r)) := by
  pointwise
  rfl

theorem flat (y : S4x1x20000.Idx) : y = ix3 (y 0) (0 : Fin 1) (y 2) :=
  (eq_ix3 y).trans (congrArg (fun b : Fin 1 => (ix3 (y 0) b (y 2) : S4x1x20000.Idx)) (Subsingleton.elim (α := Fin 1) (y 1) 0))

section
variable {X : S20000x3.Idx → EReal} {Y : S256x3.Idx → EReal}
  (hp : ∀ x, Pre_points_at_most_5e18.fn (F := Ideal) X Y x = 1#1)
include hp

theorem dist2_eq (p : Fin 20000) (c : Fin 256) : dist2 X Y (ix2 p c) = apart X Y c p :=
  (dist2_at X Y p c).trans (gap_comm ((all_small hp).1 p) ((all_small hp).2 c))

theorem near_of (c : Fin 256) (k : Fin 64) :
    (Host.topK S256x64 1 (FloatOps.cmpfTotal .gt) (Host.negf (transpose S256x20000 [1, 0] (dist2 X Y) transposes_S20000x256_S256x20000_1_0)) sliceFits_S256x20000_S256x64).2 (ix2 c k)
      = near X Y c k := by
  have e := rank2 (R := 256) (N := 20000) (K := 64) (by norm_num) (Host.negf (transpose S256x20000 [1, 0] (dist2 X Y) transposes_S20000x256_S256x20000_1_0)) sliceFits_S256x20000_S256x64 c k
    (y := fun p => -apart X Y c p) fun p => (flipped _ c p).trans (congrArg Neg.neg (dist2_eq hp p c))
  have hx : ∀ p : Fin 20000, gone < -apart X Y c p := fun p => gone_lt ((all_small hp).2 c) ((all_small hp).1 p)
  have h := sortedFrom_eq_pick (x := fun p => -apart X Y c p) hx (k := 64) (by norm_num) k
  unfold near
  rw [e, h]

theorem least_eq (b : Fin 4) (p : Fin 20000) :
    broadcastInDim S4x1x20000 ![0, 2] bcast_S4x20000_S4x1x20000_0_2 (transpose S4x20000 [1, 0] (Host.reduce FloatOps.minimumf (shapeCast _ (dist2 X Y) shapeCasts_S20000x256_S20000x4x64) (constant S_ .f32 0x7F800000#32) reducesTo_S20000x4x64_S20000x4_d2 h_S_) transposes_S20000x4_S4x20000_1_0) (ix3 b 0 p)
      = least X Y b p := by
  rw [least_of]
  simp only [dist2_eq hp]
  rfl

theorem which_eq (b : Fin 4) (p : Fin 20000) :
    broadcastInDim S4x1x20000 ![0, 2] bcast_S4x20000_S4x1x20000_0_2 (transpose S4x20000 [1, 0] (addi (shapeCast _ (Host.topK S20000x4x1 2 (FloatOps.cmpfTotal .gt) (Host.negf (shapeCast _ (dist2 X Y) shapeCasts_S20000x256_S20000x4x64)) sliceFits_S20000x4x64_S20000x4x1).2 shapeCasts_S20000x4x1_S20000x4) (broadcastInDim S20000x4 ![0, 1] bcast_S1x4_S20000x4_0_1 (broadcastInDim S1x4 ![1] bcast_S4_S1x4_1 (muli (broadcastInDim S4 ![] bcast_S_S4 (constantI S_ 32 64#32)) (iotaInDim S4 32 0))))) transposes_S20000x4_S4x20000_1_0) (ix3 b 0 p)
      = which X Y b p := by
  rw [which_of]
  have e := rank3 (P := 20000) (R := 4) (N := 64) (K := 1) (by norm_num) (Host.negf (shapeCast _ (dist2 X Y) shapeCasts_S20000x256_S20000x4x64)) sliceFits_S20000x4x64_S20000x4x1 p b 0
    (y := fun r => -apart X Y (centre b r) p) fun r => (grouped _ p b r).trans (congrArg Neg.neg (dist2_eq hp p (centre b r)))
  rw [e]
  have h := sortedFrom_zero (first_spec fun r : Fin 64 => -apart X Y (centre b r) p) (by norm_num) 0
  unfold which
  rw [BitVec.ofNat_add, BitVec.ofNat_mul, BitVec.mul_comm]
  exact congrArg (fun j : Fin 64 => BitVec.ofNat 32 j + BitVec.ofNat 32 b * BitVec.ofNat 32 64) h

/-- The three results of the reference. -/
theorem near_final :
    (Host.topK S256x64 1 (FloatOps.cmpfTotal .gt) (Host.negf (transpose S256x20000 [1, 0] (dist2 X Y) transposes_S20000x256_S256x20000_1_0)) sliceFits_S256x20000_S256x64).2
      = fun x : S256x64.Idx => near X Y (x 0) (x 1 : ℕ) := by
  funext x
  idx_vars x
  exact near_of hp _ _

theorem least_final :
    broadcastInDim S4x1x20000 ![0, 2] bcast_S4x20000_S4x1x20000_0_2 (transpose S4x20000 [1, 0] (Host.reduce FloatOps.minimumf (shapeCast _ (dist2 X Y) shapeCasts_S20000x256_S20000x4x64) (constant S_ .f32 0x7F800000#32) reducesTo_S20000x4x64_S20000x4_d2 h_S_) transposes_S20000x4_S4x20000_1_0)
      = fun y : S4x1x20000.Idx => least X Y (y 0) (y 2) := by
  funext y
  rw [flat y]
  exact least_eq hp (y 0) (y 2)

theorem which_final :
    broadcastInDim S4x1x20000 ![0, 2] bcast_S4x20000_S4x1x20000_0_2 (transpose S4x20000 [1, 0] (addi (shapeCast _ (Host.topK S20000x4x1 2 (FloatOps.cmpfTotal .gt) (Host.negf (shapeCast _ (dist2 X Y) shapeCasts_S20000x256_S20000x4x64)) sliceFits_S20000x4x64_S20000x4x1).2 shapeCasts_S20000x4x1_S20000x4) (broadcastInDim S20000x4 ![0, 1] bcast_S1x4_S20000x4_0_1 (broadcastInDim S1x4 ![1] bcast_S4_S1x4_1 (muli (broadcastInDim S4 ![] bcast_S_S4 (constantI S_ 32 64#32)) (iotaInDim S4 32 0))))) transposes_S20000x4_S4x20000_1_0)
      = fun y : S4x1x20000.Idx => which X Y (y 0) (y 2) := by
  funext y
  rw [flat y]
  exact which_eq hp (y 0) (y 2)

end

/-- The reference runs and keeps its arguments. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2.2.2, sem_eq_zero_of_no_sems rfl _⟩) (Value.run m ρ)

end Cert.NearestRef

end
-- ==== Proof.PartitionOut.lean ====
/- The three blocks the kernel's body leaves at a grid point when the whole partition is computed: the same as in the
   nearest-points call. -/
module

public import proofs.«01_k».proof.Proof.NearestOut
public import proofs.«01_k».proof.Proof.Gen.PartitionIdeal.Frame
public import Idealize.ShloMosaic.Lib.Pipeline.ValueKit

@[expose] public section

set_option maxRecDepth 16384

noncomputable section

open Idealize.ShloMosaic Idealize.ShloMosaic.TcCoe Idealize.SL.Sem
open Cert.PartitionIdeal Cert.PartitionIdeal.Gen
open Cert.NearestOut (coord dists)

namespace Cert.PartitionOut
variable (m : (ℓ : Loc nD τ sig) → Buf (Elt Ideal) ℓ)

theorem of_rows (i : grid0.Coords) (x0 : FVec Ideal S64x3 .f32) (x1 : FVec Ideal S3x20000 .f32) {u0 u1 u2 : FVec Ideal S1x20000 .f32}
    (h0 : u0 = coord x1 0) (h1 : u1 = coord x1 1) (h2 : u2 = coord x1 2) :
    ((Scf.fold (n := k0_t1_loop.trips) (fun t s => (k0_pay5 s.1, k0_pay4 t s.1 s.2)) (k0_pay1 (k0_pay6 (F := Ideal) x0 u0 u1 u2), k0_pay2)).2,
        k0_pay8 (F := Ideal) x0 u0 u1 u2, k0_pay9 (F := Ideal) i x0 u0 u1 u2)
      = ((Scf.fold (n := Cert.NearestIdeal.k0_t1_loop.trips) NearestBlock.trip (Cert.NearestIdeal.Gen.k0_pay1 (F := Ideal) (dists x0 x1), Cert.NearestIdeal.Gen.k0_pay2)).2,
        Cert.NearestIdeal.Gen.k0_pay8 (F := Ideal) x0 (coord x1 0) (coord x1 1) (coord x1 2),
        Cert.NearestIdeal.Gen.k0_pay9 (F := Ideal) i x0 (coord x1 0) (coord x1 1) (coord x1 2)) := by
  subst h0 h1 h2
  rfl

theorem out_eq (c : Dev nD) (t : Fin cfg0.N) :
    outsAt0 m c t = ((Scf.fold (n := Cert.NearestIdeal.k0_t1_loop.trips) NearestBlock.trip (Cert.NearestIdeal.Gen.k0_pay1 (F := Ideal) (dists (iblk m c 0 t) (iblk m c 1 t)), Cert.NearestIdeal.Gen.k0_pay2)).2,
      Cert.NearestIdeal.Gen.k0_pay8 (F := Ideal) (iblk m c 0 t) (coord (iblk m c 1 t) 0) (coord (iblk m c 1 t) 1) (coord (iblk m c 1 t) 2),
      Cert.NearestIdeal.Gen.k0_pay9 (F := Ideal) (grid0.coords t) (iblk m c 0 t) (coord (iblk m c 1 t) 0) (coord (iblk m c 1 t) 1) (coord (iblk m c 1 t) 2)) := by
  unfold outsAt0 out0_A_2 out0_A_3 out0_A_4
  rw [View.read_writes_eq_canon _ _ _ (cover0_A_2 c (grid0.coords t) (ms0_0 t) (hs0_0 t) (ms0_1 t) (hs0_1 t) (ms0_2 t) (hs0_2 t) (ms0_3 t) (hs0_3 t) (ms0_4 t) (hs0_4 t) (iblk m c 0 t) (iblk m c 1 t)),
    View.read_writes_eq_canon _ _ _ (cover0_A_3 c (grid0.coords t) (ms0_0 t) (hs0_0 t) (ms0_1 t) (hs0_1 t) (ms0_2 t) (hs0_2 t) (ms0_3 t) (hs0_3 t) (ms0_4 t) (hs0_4 t) (iblk m c 0 t) (iblk m c 1 t)),
    View.read_writes_eq_canon _ _ _ (cover0_A_4 c (grid0.coords t) (ms0_0 t) (hs0_0 t) (ms0_1 t) (hs0_1 t) (ms0_2 t) (hs0_2 t) (ms0_3 t) (hs0_3 t) (ms0_4 t) (hs0_4 t) (iblk m c 0 t) (iblk m c 1 t))]
  unfold kernelRun0_A
  dsimp only
  sl_unfold_words
  have hz2 : (![0, 0] : Fin 2 → ℕ) = fun _ => 0 := by decide
  have hz3 : (![0, 0, 0] : Fin 3 → ℕ) = fun _ => 0 := by decide
  simp only [View.readAt_eq_ld, (hs0_0 t).read_unread, (hs0_1 t).read_unread]
  rw [View.canon_unit_zero hz2, View.canon_unit_zero hz3, View.canon_unit_zero hz3]
  simp only [View.ld_unit_zero (S := S64x3) hz2]
  have h0 : View.ld (iblk m c 1 t) (Rect.unit ![0, 0] ![1, 20000] inb_S3x20000_S1x20000_0_0) = coord (iblk m c 1 t) 0 :=
    funext fun y => View.ld_unit_apply_of _ _ _ _ y (ix2 0 (y 1)) fun a => by
      have hy : (y 0 : ℕ) < 1 := (y 0).isLt
      refine Fin.cases ?_ (fun b => ?_) a
      · show (0 : ℕ) = 0 + (y 0 : ℕ)
        omega
      · rw [Subsingleton.elim b 0]
        exact (Nat.zero_add _).symm
  have h1 : View.ld (iblk m c 1 t) (Rect.unit ![1, 0] ![1, 20000] inb_S3x20000_S1x20000_1_0) = coord (iblk m c 1 t) 1 :=
    funext fun y => View.ld_unit_apply_of _ _ _ _ y (ix2 1 (y 1)) fun a => by
      have hy : (y 0 : ℕ) < 1 := (y 0).isLt
      refine Fin.cases ?_ (fun b => ?_) a
      · show (1 : ℕ) = 1 + (y 0 : ℕ)
        omega
      · rw [Subsingleton.elim b 0]
        exact (Nat.zero_add _).symm
  have h2 : View.ld (iblk m c 1 t) (Rect.unit ![2, 0] ![1, 20000] inb_S3x20000_S1x20000_2_0) = coord (iblk m c 1 t) 2 :=
    funext fun y => View.ld_unit_apply_of _ _ _ _ y (ix2 2 (y 1)) fun a => by
      have hy : (y 0 : ℕ) < 1 := (y 0).isLt
      refine Fin.cases ?_ (fun b => ?_) a
      · show (2 : ℕ) = 2 + (y 0 : ℕ)
        omega
      · rw [Subsingleton.elim b 0]
        exact (Nat.zero_add _).symm
  exact of_rows (grid0.coords t) (iblk m c 0 t) (iblk m c 1 t) h0 h1 h2

end Cert.PartitionOut

end
-- ==== Proof.PartitionArray.lean ====
/- The partition's three arrays off the kernel call, entry by entry. -/
module

public import proofs.«01_k».proof.Proof.PartitionOut
public import proofs.«01_k».proof.Proof.NearestEntries
public import Idealize.ShloMosaic.Lib.Pipeline.ValueKit
public import Idealize.ShloMosaic.Lib.Claim
public import Idealize.ShloMosaic.Lib.Routing.OpsSet
public import Idealize.ShloMosaic.Lib.Pointwise
public import Idealize.ShloMosaic.Lib.StableHlo.RunClose

@[expose] public section

set_option maxRecDepth 16384

noncomputable section

open Idealize.ShloMosaic Idealize.ShloMosaic.TcCoe Idealize.SL.Sem
open Cert.PartitionIdeal Cert.PartitionIdeal.Gen Cert.Picks Cert.NearestBlock Cert.NearestEntries Cert.PartitionOut
open Cert.NearestOut (coord dists)

namespace Cert.PartitionArray
variable (m : (ℓ : Loc nD τ sig) → Buf (Elt Ideal) ℓ)

abbrev points (c : Dev nD) : S20000x3.Idx → EReal := m (c, Proc.tc.devRef main_arg0)
abbrev centres (c : Dev nD) : S256x3.Idx → EReal := m (c, Proc.tc.devRef main_arg1)

/-- The points as the call receives them: one row per coordinate. -/
theorem v0_eq (c : Dev nD) : (V m c main_v0 : S3x20000.Idx → EReal) = transpose S3x20000 [1, 0] (points m c) transposes_S20000x3_S3x20000_1_0 := by
  unfold V V0
  simp only [hostOps0, List.flatten_cons, List.flatten_nil, List.cons_append, List.nil_append, List.append_nil]
  after_results_entrywise [cast_eq]

theorem flip_at (x : FVec Ideal S20000x3 .f32) (d : Fin 3) (p : Fin 20000) :
    transpose S3x20000 [1, 0] x transposes_S20000x3_S3x20000_1_0 (ix2 d p) = x (ix2 p d) := by
  pointwise

theorem v0_at (c : Dev nD) (d : Fin 3) (p : Fin 20000) : (V m c main_v0 : S3x20000.Idx → EReal) (ix2 d p) = points m c (ix2 p d) := by
  rw [v0_eq]
  exact flip_at _ d p

/-- Block `t` holds centres `64 t` to `64 t + 63` and every point. -/
theorem idx (t : Fin cfg0.N) : (win0_0.index t 0 = (t : ℕ) ∧ win0_0.index t 1 = 0) ∧ (win0_1.index t 0 = 0 ∧ win0_1.index t 1 = 0)
    ∧ (win0_2.index t 0 = (t : ℕ) ∧ win0_2.index t 1 = 0) ∧ (win0_3.index t 0 = (t : ℕ) ∧ win0_3.index t 1 = 0 ∧ win0_3.index t 2 = 0)
    ∧ (win0_4.index t 0 = (t : ℕ) ∧ win0_4.index t 1 = 0 ∧ win0_4.index t 2 = 0) ∧ (grid0.coords t 0 : ℕ) = t := by
  revert t
  decide +kernel

def block (t : Fin cfg0.N) : Fin 4 := ⟨t, t.isLt⟩

theorem iblk0_at (c : Dev nD) (t : Fin cfg0.N) (r : Fin 64) (d : Fin 3) :
    (iblk m c 0 t : S64x3.Idx → EReal) (ix2 r d) = centres m c (ix2 (centre (block t) r) d) := by
  have h : (iblk m c 0 t : S64x3.Idx → EReal) (ix2 r d) = (V m c main_arg1 : S256x3.Idx → EReal) (ix2 (centre (block t) r) d) := by
    blk_ext [iblk, idx t, centre, block]
  exact h.trans (congrFun (V_main_arg1 m c) _)

theorem iblk1_at (c : Dev nD) (t : Fin cfg0.N) (d : Fin 3) (p : Fin 20000) :
    (iblk m c 1 t : S3x20000.Idx → EReal) (ix2 d p) = (V m c main_v0 : S3x20000.Idx → EReal) (ix2 d p) := by
  blk_ext [iblk, idx t]

/-- One block's squared distances are those of the arrays. -/
theorem row (c : Dev nD) (t : Fin cfg0.N) (r : Fin 64) (p : Fin 20000) :
    gap (fun d => (iblk m c 0 t : S64x3.Idx → EReal) (ix2 r d)) ![coord (iblk m c 1 t) 0 (ix2 0 p), coord (iblk m c 1 t) 1 (ix2 0 p), coord (iblk m c 1 t) 2 (ix2 0 p)]
      = apart (points m c) (centres m c) (centre (block t) r) p := by
  have h : ∀ d : Fin 3, coord (iblk m c 1 t) d (ix2 0 p) = points m c (ix2 p d) := fun d => (iblk1_at m c t d p).trans (v0_at m c d p)
  unfold apart gap
  simp only [iblk0_at]
  rw [h 0, h 1, h 2]
  rfl

theorem near_at (c : Dev nD) (t : Fin cfg0.N) (r k : Fin 64) :
    (outsAt0 m c t).1 (ix2 r k) = near (points m c) (centres m c) (centre (block t) r) k := by
  rw [out_eq]
  refine (loop_at _ _ r k).trans ?_
  have h : (fun p : Fin 20000 => Cert.NearestIdeal.Gen.k0_pay1 (F := Ideal) (dists (iblk m c 0 t) (iblk m c 1 t)) (ix2 r p)) = fun p => -apart (points m c) (centres m c) (centre (block t) r) p :=
    funext fun p => (start_at _ r p).trans (congrArg Neg.neg ((gap_at _ _ _ _ r p).trans (row m c t r p)))
  rw [h]
  rfl

theorem least_block (c : Dev nD) (t : Fin cfg0.N) :
    (outsAt0 m c t).2.1 = Cert.NearestIdeal.Gen.k0_pay8 (F := Ideal) (iblk m c 0 t) (coord (iblk m c 1 t) 0) (coord (iblk m c 1 t) 1) (coord (iblk m c 1 t) 2) := by
  rw [out_eq]

theorem which_block (c : Dev nD) (t : Fin cfg0.N) :
    (outsAt0 m c t).2.2 = Cert.NearestIdeal.Gen.k0_pay9 (F := Ideal) (grid0.coords t) (iblk m c 0 t) (coord (iblk m c 1 t) 0) (coord (iblk m c 1 t) 1) (coord (iblk m c 1 t) 2) := by
  rw [out_eq]

theorem least_at' (c : Dev nD) (t : Fin cfg0.N) (p : Fin 20000) :
    (outsAt0 m c t).2.1 (ix3 0 0 p) = least (points m c) (centres m c) (block t) p := by
  rw [least_block]
  refine (least_at (iblk m c 0 t) (coord (iblk m c 1 t) 0) (coord (iblk m c 1 t) 1) (coord (iblk m c 1 t) 2) p).trans ?_
  exact congrArg (fun f => Finset.univ.fold min ⊤ f) (funext fun r => row m c t r p)

theorem which_at' (c : Dev nD) (t : Fin cfg0.N) (p : Fin 20000) :
    (outsAt0 m c t).2.2 (ix3 0 0 p) = which (points m c) (centres m c) (block t) p := by
  rw [which_block]
  have h : (fun r : Fin 64 => -gap (fun d => (iblk m c 0 t : S64x3.Idx → EReal) (ix2 r d)) ![coord (iblk m c 1 t) 0 (ix2 0 p), coord (iblk m c 1 t) 1 (ix2 0 p), coord (iblk m c 1 t) 2 (ix2 0 p)])
      = fun r => -apart (points m c) (centres m c) (centre (block t) r) p := funext fun r => congrArg Neg.neg (row m c t r p)
  refine (which_at (grid0.coords t) (iblk m c 0 t) (coord (iblk m c 1 t) 0) (coord (iblk m c 1 t) 1) (coord (iblk m c 1 t) 2) p (j := first (fun r => -apart (points m c) (centres m c) (centre (block t) r) p)) (by rw [h]; exact first_spec _)).trans ?_
  rw [(idx t).2.2.2.2.2]
  rfl

theorem near_entry (c : Dev nD) (t : Fin cfg0.N) (y : S64x64.Idx) :
    (outsAt0 m c t).1 y = near (points m c) (centres m c) (centre (block t) (y 0)) (y 1 : ℕ) := by
  idx_vars y
  exact near_at m c t _ _

theorem least_entry (c : Dev nD) (t : Fin cfg0.N) (y : S1x1x20000.Idx) :
    (outsAt0 m c t).2.1 y = least (points m c) (centres m c) (block t) (y 2) := by
  have hy : y = ix3 (0 : Fin 1) (0 : Fin 1) (y 2) := (eq_ix3 y).trans
    (congrArg₂ (fun a b : Fin 1 => (ix3 a b (y 2) : S1x1x20000.Idx)) (Subsingleton.elim (α := Fin 1) (y 0) 0) (Subsingleton.elim (α := Fin 1) (y 1) 0))
  rw [hy]
  exact least_at' m c t _

theorem which_entry (c : Dev nD) (t : Fin cfg0.N) (y : S1x1x20000.Idx) :
    (outsAt0 m c t).2.2 y = which (points m c) (centres m c) (block t) (y 2) := by
  have hy : y = ix3 (0 : Fin 1) (0 : Fin 1) (y 2) := (eq_ix3 y).trans
    (congrArg₂ (fun a b : Fin 1 => (ix3 a b (y 2) : S1x1x20000.Idx)) (Subsingleton.elim (α := Fin 1) (y 0) 0) (Subsingleton.elim (α := Fin 1) (y 1) 0))
  rw [hy]
  exact which_at' m c t _

/-- The array of nearest points. -/
theorem near_final (c : Dev nD) : (dats m 0 c).arrAt 2 cfg0.N = fun x : S256x64.Idx => near (points m c) (centres m c) (x 0) (x 1 : ℕ) := by
  refine (dats m 0 c).arrAt_eq_of_covers 2 _ (by decide +kernel) fun t _ y => ?_
  blk_simp
  rw [after0_2]
  refine (near_entry m c t y).trans ?_
  have hb : centre (block t) (y 0) = (win0_2.blk t).view.emb y 0 := by
    apply Fin.ext
    blk_simp [idx t, centre, block]
  rw [hb, (idx t).2.2.1.2, Nat.zero_mul, Nat.zero_add]

/-- The array of least squared distances. -/
theorem least_final (c : Dev nD) : (dats m 0 c).arrAt 3 cfg0.N = fun x : S4x1x20000.Idx => least (points m c) (centres m c) (x 0) (x 2) := by
  refine (dats m 0 c).arrAt_eq_of_covers 3 _ (by decide +kernel) fun t _ y => ?_
  blk_simp
  rw [after0_3]
  refine (least_entry m c t y).trans ?_
  have hb : block t = (win0_3.blk t).view.emb y 0 := by
    apply Fin.ext
    blk_simp [idx t, block]
  have hc : y 2 = (win0_3.blk t).view.emb y 2 := by
    apply Fin.ext
    blk_simp [idx t]
  exact congrArg₂ (least (points m c) (centres m c)) hb hc

/-- The array of centres at those distances. -/
theorem which_final (c : Dev nD) : (dats m 0 c).arrAt 4 cfg0.N = fun x : S4x1x20000.Idx => which (points m c) (centres m c) (x 0) (x 2) := by
  refine (dats m 0 c).arrAt_eq_of_covers 4 _ (by decide +kernel) fun t _ y => ?_
  blk_simp
  rw [after0_4]
  refine (which_entry m c t y).trans ?_
  have hb : block t = (win0_4.blk t).view.emb y 0 := by
    apply Fin.ext
    blk_simp [idx t, block]
  have hc : y 2 = (win0_4.blk t).view.emb y 2 := by
    apply Fin.ext
    blk_simp [idx t]
  exact congrArg₂ (which (points m c) (centres m c)) hb hc

end Cert.PartitionArray

end
-- ==== Proof.Least.lean ====
/- The arg-min of a row: folding the pairs of value and position, in any order, ends with the least value and the first
   position that holds it. -/
module

public import proofs.«01_k».proof.Proof.Picks
public import proofs.«01_k».proof.Proof.NearestBlock
public import Idealize.ShloMosaic.PureOps.Ideal.Laws
public import Idealize.ShloMosaic.PureOps.Reduce

@[expose] public section

noncomputable section

open Idealize.ShloMosaic Cert.Picks

namespace Cert.Least

/-- The lesser of two pairs of value and position: by value, then by position. -/
def lesser (a b : EReal × BitVec 32) : EReal × BitVec 32 :=
  if a.1 < b.1 ∨ (a.1 = b.1 ∧ a.2.toInt < b.2.toInt) then a else b

theorem int_of {a : ℕ} (ha : a < 2 ^ 31) : (BitVec.ofNat 32 a).toInt = a := by
  have h : (BitVec.ofNat 32 a).toNat = a := by
    rw [BitVec.toNat_ofNat]
    omega
  rw [BitVec.toInt_eq_toNat_of_lt (by omega), h]

section
variable {n : ℕ} {y : Fin n → EReal} {j : Fin n}

/-- A pair the fold can meet: the one it starts from or an entry of the row. -/
def Met (y : Fin n → EReal) (a : EReal × BitVec 32) : Prop := a = (⊤, 0#32) ∨ ∃ i : Fin n, a = (y i, BitVec.ofNat 32 i)

variable (hn : n ≤ 2 ^ 31) (hj : First (fun i => -y i) j)
include hn hj

theorem lesser_left (i : Fin n) : lesser (y j, BitVec.ofNat 32 j) (y i, BitVec.ofNat 32 i) = (y j, BitVec.ofNat 32 j) := by
  unfold lesser
  dsimp only
  rw [int_of (by omega), int_of (by omega)]
  split_ifs with h
  · rfl
  · rw [not_or] at h
    have he : y j = y i := le_antisymm (EReal.neg_le_neg_iff.1 (hj.le i)) (not_lt.1 h.1)
    have hij : i = j := by
      have hle : ¬ (j : ℕ) < i := fun hlt => h.2 ⟨he, by exact_mod_cast hlt⟩
      rcases lt_trichotomy i j with hlt | heq | hgt
      · exact absurd (hj.lt i hlt) (by rw [he]; exact lt_irrefl _)
      · exact heq
      · exact absurd hgt hle
    rw [hij]

theorem lesser_right {a : EReal × BitVec 32} (ha : Met y a) : lesser a (y j, BitVec.ofNat 32 j) = (y j, BitVec.ofNat 32 j) := by
  rcases ha with rfl | ⟨i, rfl⟩
  · unfold lesser
    dsimp only
    rw [if_neg]
    rintro (h | ⟨h, h'⟩)
    · exact not_top_lt h
    · rw [int_of (by omega)] at h'
      have hz : (j : ℕ) ≠ 0 := fun hz => by rw [hz] at h'; exact absurd h' (by decide)
      have := hj.lt ⟨0, by omega⟩ (Fin.lt_def.2 (Nat.pos_of_ne_zero hz))
      rw [← h] at this
      exact absurd this (by simp)
  · unfold lesser
    dsimp only
    rw [int_of (by omega), int_of (by omega)]
    split_ifs with h
    · rcases h with h | ⟨h, h'⟩
      · exact absurd (EReal.neg_le_neg_iff.1 (hj.le i)) (not_le.2 h)
      · exact absurd (hj.lt i (by exact_mod_cast h')) (by rw [h]; exact lt_irrefl _)
    · rfl

theorem foldl_lesser {L : List (EReal × BitVec 32)} (hL : ∀ q ∈ L, ∃ i : Fin n, q = (y i, BitVec.ofNat 32 i)) :
    ∀ a, Met y a → (a = (y j, BitVec.ofNat 32 j) ∨ (y j, BitVec.ofNat 32 j) ∈ L) → L.foldl lesser a = (y j, BitVec.ofNat 32 j) := by
  induction L with
  | nil => exact fun a _ h => h.elim id fun h => absurd h List.not_mem_nil
  | cons q L ih =>
    intro a ha h
    obtain ⟨i, hi⟩ := hL q List.mem_cons_self
    rw [List.foldl_cons]
    have hL' : ∀ q ∈ L, ∃ i : Fin n, q = (y i, BitVec.ofNat 32 i) := fun q hq => hL q (List.mem_cons_of_mem _ hq)
    have hm : Met y (lesser a q) := by
      unfold lesser
      split_ifs
      · exact ha
      · exact .inr ⟨i, hi⟩
    refine ih hL' _ hm ?_
    rcases h with rfl | h
    · exact .inl (hi ▸ lesser_left hn hj i)
    · rcases List.mem_cons.1 h with rfl | h
      · exact .inl (lesser_right hn hj ha)
      · exact .inr h

/-- The arg-min over a fiber whose pairs are the entries of a row and their positions. -/
theorem argmin_of {s t u : Shape} {axes : List (Fin s.rank)} {f : Ideal .f32 × BitVec 32 → Ideal .f32 × BitVec 32 → Ideal .f32 × BitVec 32}
    (hf : f = lesser) (x : FVec Ideal s .f32) (k : IVec s 32) {ix : u.Idx → Ideal .f32} {iy : u.Idx → BitVec 32} (h : s.ReducesTo axes t) (hu : 0 < u.numel) (c : t.Idx)
    (hx : ∀ z, ix z = ⊤) (hy : ∀ z, iy z = 0#32) (at_ : Fin n → s.Idx) (hd : ∀ z, h.drop z = c ↔ ∃ i, z = at_ i)
    (hv : ∀ i, x (at_ i) = y i) (hk : ∀ i, k (at_ i) = BitVec.ofNat 32 i) :
    Host.argReduce f x k ix iy h hu c = (y j, BitVec.ofNat 32 j) := by
  rw [Ideal.argReduce_eq_reduce2, Host.reduce2_eq_foldl_fiber, hf, hx, hy]
  refine foldl_lesser hn hj (fun q hq => ?_) _ (.inl rfl) (.inr ?_)
  · obtain ⟨z, hz, rfl⟩ := List.mem_map.1 hq
    obtain ⟨i, hi⟩ := (hd _).1 (of_decide_eq_true (List.mem_filter.1 hz).2)
    exact ⟨i, by rw [hi, hv, hk]⟩
  · refine List.mem_map.2 ⟨s.rowMajor (at_ j), List.mem_filter.2 ⟨List.mem_finRange _, ?_⟩, ?_⟩
    · rw [Equiv.symm_apply_apply]
      exact decide_eq_true ((hd _).2 ⟨j, rfl⟩)
    · rw [Equiv.symm_apply_apply, hv, hk]

end

end Cert.Least

end
-- ==== Proof.PartitionEntries.lean ====
/- Each point's nearest centre, as the blocks' least distances and as one arg-min give it. -/
module

public import proofs.«01_k».proof.Proof.Least
public import proofs.«01_k».proof.Proof.NearestEntries
public import proofs.«01_k».proof.Proof.Gen.PartitionIdeal
public import proofs.«01_k».proof.Proof.Gen.PartitionReferenceIdeal
public import Idealize.ShloMosaic.Lib.Pointwise
public import Idealize.ShloMosaic.Lib.ValueIdx

@[expose] public section

set_option maxRecDepth 16384

noncomputable section

open Idealize.ShloMosaic Cert.Pre_points_at_most_5e18 Cert.Picks Cert.NearestBlock Cert.NearestEntries Cert.Least

namespace Cert.PartitionEntries

section
variable (X : S20000x3.Idx → EReal) (Y : S256x3.Idx → EReal)

/-- The centre nearest to point `p`, the first of equally near ones. -/
def node (p : Fin 20000) : Fin 256 := first fun c => -apart X Y c p

/-- The first block whose least distance to point `p` is least. -/
def block (p : Fin 20000) : Fin 4 := first fun b => -least X Y b p

/-- The first centre of block `b` at the block's least distance. -/
def inner (b : Fin 4) (p : Fin 20000) : Fin 64 := first fun r => -apart X Y (centre b r) p

variable {X Y}

theorem node_first (p : Fin 20000) : First (fun c => -apart X Y c p) (node X Y p) := first_spec _

theorem least_inner (b : Fin 4) (p : Fin 20000) : least X Y b p = apart X Y (centre b (inner X Y b p)) p :=
  fold_min (first_spec fun r => -apart X Y (centre b r) p)

theorem first_centre (p : Fin 20000) : First (fun c => -apart X Y c p) (centre (block X Y p) (inner X Y (block X Y p) p)) := by
  have hb := first_spec fun b => -least X Y b p
  have hi := fun b => first_spec fun r => -apart X Y (centre b r) p
  have hc : ∀ c : Fin 256, ∃ b r, c = centre b r := fun c => ⟨⟨(c : ℕ) / 64, by omega⟩, ⟨(c : ℕ) % 64, by omega⟩, Fin.ext (Nat.div_add_mod' (c : ℕ) 64).symm⟩
  have hw : ∀ b r, -apart X Y (centre b r) p ≤ -least X Y b p := fun b r => by
    rw [least_inner]
    exact (hi b).le r
  constructor
  · intro c
    obtain ⟨b, r, rfl⟩ := hc c
    exact (hw b r).trans ((hb.le b).trans (by rw [least_inner]; exact le_rfl))
  · intro c h
    obtain ⟨b, r, rfl⟩ := hc c
    have h : (b : ℕ) * 64 + r < (block X Y p : ℕ) * 64 + inner X Y (block X Y p) p := h
    rcases lt_trichotomy b (block X Y p) with hl | rfl | hl
    · exact (hw b r).trans_lt ((hb.lt b hl).trans_le (by rw [least_inner]; exact le_rfl))
    · exact (hi _).lt r (by show (r : ℕ) < (inner X Y (block X Y p) p : ℕ); omega)
    · have hl : (block X Y p : ℕ) < b := hl
      have := (inner X Y (block X Y p) p).isLt
      omega

/-- The nearest centre lies in that block. -/
theorem two_stage (p : Fin 20000) : which X Y (block X Y p) p = BitVec.ofNat 32 (node X Y p) := by
  have h := (first_centre (X := X) (Y := Y) p).eq (first_spec _)
  have e : (inner X Y (block X Y p) p : ℕ) + (block X Y p : ℕ) * 64 = (centre (block X Y p) (inner X Y (block X Y p) p) : ℕ) := Nat.add_comm _ _
  show BitVec.ofNat 32 ((inner X Y (block X Y p) p : ℕ) + (block X Y p : ℕ) * 64) = _
  rw [e, h]
  rfl

end

/-- The arg-min's comparator. -/
theorem kernel_lesser : Cert.PartitionIdeal.reducer_argmin_f32_i32 (F := Ideal) = lesser := by
  funext a b
  obtain ⟨a, i⟩ := a
  obtain ⟨b, k⟩ := b
  unfold Cert.PartitionIdeal.reducer_argmin_f32_i32 lesser
  dsimp only
  show (_, _) = _
  have h1 : FloatOps.cmpf (F := Ideal) (φ := .f32) .olt a b = BitVec.ofBool (decide (a < b)) := rfl
  have h2 : FloatOps.cmpf (F := Ideal) (φ := .f32) .une a a = 0#1 := by
    show BitVec.ofBool (decide (a ≠ a)) = _
    simp
  have h3 : FloatOps.cmpf (F := Ideal) (φ := .f32) .oeq a b = BitVec.ofBool (decide (a = b)) := rfl
  have h4 : IntOp.cmpi .slt i k = BitVec.ofBool (decide (i.toInt < k.toInt)) := rfl
  rw [h1, h2, h3, h4]
  by_cases h : a < b
  · simp [h, h.ne, IntOp.ori, IntOp.andi, Scalar.select]
  · by_cases e : a = b
    · subst e
      by_cases u : i.toInt < k.toInt <;> simp [u, IntOp.ori, IntOp.andi, Scalar.select]
    · simp [h, e, IntOp.ori, IntOp.andi, Scalar.select]

theorem reference_lesser : Cert.PartitionReferenceIdeal.reducer_argmin_f32_i32 (F := Ideal) = lesser := kernel_lesser

theorem column {N C : ℕ} (h : (⟨2, ![N, C]⟩ : Shape).ReducesTo [0] ⟨1, ![C]⟩) (p : Fin C) (z : (⟨2, ![N, C]⟩ : Shape).Idx) :
    h.drop z = ix1 p ↔ ∃ i : Fin N, z = ix2 i p :=
  (h.fiber_r2_a0 _ z).trans ⟨fun ⟨i, e⟩ => ⟨i, e.symm⟩, fun ⟨i, e⟩ => ⟨i, e.symm⟩⟩

theorem row {N C : ℕ} (h : (⟨2, ![N, C]⟩ : Shape).ReducesTo [1] ⟨1, ![N]⟩) (p : Fin N) (z : (⟨2, ![N, C]⟩ : Shape).Idx) :
    h.drop z = ix1 p ↔ ∃ i : Fin C, z = ix2 p i :=
  (h.fiber_r2_a1 _ z).trans ⟨fun ⟨i, e⟩ => ⟨i, e.symm⟩, fun ⟨i, e⟩ => ⟨i, e.symm⟩⟩

section
variable {N C : ℕ} {u : Shape} {f : Ideal .f32 × BitVec 32 → Ideal .f32 × BitVec 32 → Ideal .f32 × BitVec 32} (hf : f = lesser)
  (D : FVec Ideal ⟨2, ![N, C]⟩ .f32) (k : IVec ⟨2, ![N, C]⟩ 32) {ix : u.Idx → Ideal .f32} {iy : u.Idx → BitVec 32} (hu : 0 < u.numel)
  (hx : ∀ z, ix z = ⊤) (hy : ∀ z, iy z = 0#32)
include hf hx hy

/-- The arg-min down a column. -/
theorem argmin_column (hN : N ≤ 2 ^ 31) (h : (⟨2, ![N, C]⟩ : Shape).ReducesTo [0] ⟨1, ![C]⟩) (p : Fin C) (hk : ∀ i, k (ix2 i p) = BitVec.ofNat 32 i)
    {y : Fin N → EReal} (hD : ∀ i, D (ix2 i p) = y i) {j : Fin N} (hj : First (fun i => -y i) j) :
    (Host.argReduce f D k ix iy h hu (ix1 p)).2 = BitVec.ofNat 32 j :=
  congrArg Prod.snd (argmin_of hN hj hf D k h hu (ix1 p) hx hy (fun i => ix2 i p) (column h p) hD hk)

/-- The arg-min along a row. -/
theorem argmin_row (hC : C ≤ 2 ^ 31) (h : (⟨2, ![N, C]⟩ : Shape).ReducesTo [1] ⟨1, ![N]⟩) (p : Fin N) (hk : ∀ i, k (ix2 p i) = BitVec.ofNat 32 i)
    {y : Fin C → EReal} (hD : ∀ i, D (ix2 p i) = y i) {j : Fin C} (hj : First (fun i => -y i) j) :
    (Host.argReduce f D k ix iy h hu (ix1 p)).2 = BitVec.ofNat 32 j :=
  congrArg Prod.snd (argmin_of hC hj hf D k h hu (ix1 p) hx hy (fun i => ix2 p i) (row h p) hD hk)

end

theorem top_at (z : (⟨0, ![]⟩ : Shape).Idx) : (constant ⟨0, ![]⟩ .f32 0x7F800000#32 : FVec Ideal _ .f32) z = ⊤ := bits_top

theorem zero_at (z : (⟨0, ![]⟩ : Shape).Idx) : (constantI ⟨0, ![]⟩ 32 0#32 : IVec _ 32) z = 0#32 := rfl

theorem rows_at {N C : ℕ} (i : Fin N) (p : Fin C) : iotaInDim ⟨2, ![N, C]⟩ 32 0 (ix2 i p) = BitVec.ofNat 32 i := rfl

theorem columns_at {N C : ℕ} (p : Fin N) (i : Fin C) : iotaInDim ⟨2, ![N, C]⟩ 32 1 (ix2 p i) = BitVec.ofNat 32 i := rfl

end Cert.PartitionEntries

end
-- ==== Proof.PartitionRef.lean ====
/- The reference of the whole partition call: its run, and its four results entry by entry. -/
module

public import proofs.«01_k».proof.Proof.PartitionEntries
public import proofs.«01_k».proof.Proof.NearestRef
public import Idealize.ShloMosaic.Lib.StableHlo.Run
public import Idealize.ShloMosaic.Lib.Pipeline.Regions
public import Idealize.ShloMosaic.Lib.Quiescent
public import Idealize.ShloMosaic.Lib.Pointwise

@[expose] public section

set_option maxRecDepth 16384

noncomputable section

open Idealize.ShloMosaic Idealize.ShloMosaic.TcCoe Idealize.SL.Sem Idealize.ShloMosaic.StableHlo
open Cert.PartitionReferenceIdeal Cert.PartitionReferenceIdeal.Gen Cert.Picks Cert.NearestBlock Cert.NearestEntries Cert.NearestRef Cert.PartitionEntries

namespace Cert.PartitionRef

section
variable {F : FTy → Type} [FloatOps F]

/-- The reference's operations up to its arg-min, in order. -/
abbrev ops0 : List (HloOp τ sig (Elt F)) :=
  [ unary main_arg0 main_v0 (broadcastInDim S20000x1x3 ![0, 2] bcast_S20000x3_S20000x1x3_0_2 : (⟨S20000x3, .f32⟩ : BufTy).Contents (Elt F) → (⟨S20000x1x3, .f32⟩ : BufTy).Contents (Elt F)),
    unary main_arg1 main_v1 (broadcastInDim S1x256x3 ![1, 2] bcast_S256x3_S1x256x3_1_2 : (⟨S256x3, .f32⟩ : BufTy).Contents (Elt F) → (⟨S1x256x3, .f32⟩ : BufTy).Contents (Elt F)),
    unary main_v0 main_v2 (broadcastInDim S20000x256x3 ![0, 1, 2] bcast_S20000x1x3_S20000x256x3_0_1_2 : (⟨S20000x1x3, .f32⟩ : BufTy).Contents (Elt F) → (⟨S20000x256x3, .f32⟩ : BufTy).Contents (Elt F)),
    unary main_v1 main_v3 (broadcastInDim S20000x256x3 ![0, 1, 2] bcast_S1x256x3_S20000x256x3_0_1_2 : (⟨S1x256x3, .f32⟩ : BufTy).Contents (Elt F) → (⟨S20000x256x3, .f32⟩ : BufTy).Contents (Elt F)),
    binary main_v2 main_v3 main_v4 (subf : (⟨S20000x256x3, .f32⟩ : BufTy).Contents (Elt F) → (⟨S20000x256x3, .f32⟩ : BufTy).Contents (Elt F) → (⟨S20000x256x3, .f32⟩ : BufTy).Contents (Elt F)),
    binary main_v4 main_v4 main_v5 (mulf : (⟨S20000x256x3, .f32⟩ : BufTy).Contents (Elt F) → (⟨S20000x256x3, .f32⟩ : BufTy).Contents (Elt F) → (⟨S20000x256x3, .f32⟩ : BufTy).Contents (Elt F)),
    nullary main_cst (constant S_ .f32 0x00000000#32),
    binary main_v5 main_cst main_v6 ((fun x v => Host.reduceAdd x v reducesTo_S20000x256x3_S20000x256_d2 h_S_) : (⟨S20000x256x3, .f32⟩ : BufTy).Contents (Elt F) → (⟨S_, .f32⟩ : BufTy).Contents (Elt F) → (⟨S20000x256, .f32⟩ : BufTy).Contents (Elt F)) ]

/-- Those of the arg-min. -/
abbrev ops1 : List (HloOp τ sig (Elt F)) :=
  [ TRef.nullary (.of main_call0_v0 : TRef sig ⟨S20000x256, .i32⟩) (iotaInDim S20000x256 32 1),
    TRef.nullary (.of main_call0_cst : TRef sig ⟨S_, .f32⟩) (constant S_ .f32 0x7F800000#32),
    TRef.nullary (.of main_call0_c : TRef sig ⟨S_, .i32⟩) (constantI S_ 32 0#32),
    TRef.quaternary (.of main_v6 : TRef sig ⟨S20000x256, .f32⟩) (.of main_call0_v0 : TRef sig ⟨S20000x256, .i32⟩) (.of main_call0_cst : TRef sig ⟨S_, .f32⟩) (.of main_call0_c : TRef sig ⟨S_, .i32⟩) (.of main_call0_v1_0 : TRef sig ⟨S20000, .f32⟩) (fun x y u v j => (Host.argReduce reducer_argmin_f32_i32 x y u v reducesTo_S20000x256_S20000_d1 h_S_ j).1),
    TRef.quaternary (.of main_v6 : TRef sig ⟨S20000x256, .f32⟩) (.of main_call0_v0 : TRef sig ⟨S20000x256, .i32⟩) (.of main_call0_cst : TRef sig ⟨S_, .f32⟩) (.of main_call0_c : TRef sig ⟨S_, .i32⟩) (.of main_v7 : TRef sig ⟨S20000, .i32⟩) (fun x y u v j => (Host.argReduce reducer_argmin_f32_i32 x y u v reducesTo_S20000x256_S20000_d1 h_S_ j).2) ]

/-- Those after it. -/
abbrev ops2 : List (HloOp τ sig (Elt F)) :=
  [ nullary main_c (constantI S_ 1 0#1),
    unary main_c main_v8 (broadcastInDim S256 ![] bcast_S_S256 : (⟨S_, .i1⟩ : BufTy).Contents (Elt F) → (⟨S256, .i1⟩ : BufTy).Contents (Elt F)),
    nullary main_c_0 (constantI S_ 32 0#32),
    unary main_c_0 main_v9 (broadcastInDim S20000 ![] bcast_S_S20000 : (⟨S_, .i32⟩ : BufTy).Contents (Elt F) → (⟨S20000, .i32⟩ : BufTy).Contents (Elt F)),
    binary main_v7 main_v9 main_v10 (cmpi .slt : (⟨S20000, .i32⟩ : BufTy).Contents (Elt F) → (⟨S20000, .i32⟩ : BufTy).Contents (Elt F) → (⟨S20000, .i1⟩ : BufTy).Contents (Elt F)),
    nullary main_c_1 (constantI S_ 32 256#32),
    unary main_c_1 main_v11 (broadcastInDim S20000 ![] bcast_S_S20000 : (⟨S_, .i32⟩ : BufTy).Contents (Elt F) → (⟨S20000, .i32⟩ : BufTy).Contents (Elt F)),
    binary main_v7 main_v11 main_v12 (addi : (⟨S20000, .i32⟩ : BufTy).Contents (Elt F) → (⟨S20000, .i32⟩ : BufTy).Contents (Elt F) → (⟨S20000, .i32⟩ : BufTy).Contents (Elt F)),
    ternary main_v10 main_v12 main_v7 main_v13 (select : (⟨S20000, .i1⟩ : BufTy).Contents (Elt F) → (⟨S20000, .i32⟩ : BufTy).Contents (Elt F) → (⟨S20000, .i32⟩ : BufTy).Contents (Elt F) → (⟨S20000, .i32⟩ : BufTy).Contents (Elt F)),
    unary main_v13 main_v14 (broadcastInDim S20000x1 ![0] bcast_S20000_S20000x1_0 : (⟨S20000, .i32⟩ : BufTy).Contents (Elt F) → (⟨S20000x1, .i32⟩ : BufTy).Contents (Elt F)),
    nullary main_c_2 (constantI S_ 1 1#1),
    unary main_c_2 main_v15 (broadcastInDim S20000 ![] bcast_S_S20000 : (⟨S_, .i1⟩ : BufTy).Contents (Elt F) → (⟨S20000, .i1⟩ : BufTy).Contents (Elt F)),
    ternary main_v8 main_v14 main_v15 main_v16 ((fun x i u => Host.scatter scatter_S256_S20000x1_S20000_n_0_0_1 (fun _ b => b) x i u) : (⟨S256, .i1⟩ : BufTy).Contents (Elt F) → (⟨S20000x1, .i32⟩ : BufTy).Contents (Elt F) → (⟨S20000, .i1⟩ : BufTy).Contents (Elt F) → (⟨S256, .i1⟩ : BufTy).Contents (Elt F)),
    unary main_v6 main_v17 ((transpose S256x20000 [1, 0] · transposes_S20000x256_S256x20000_1_0) : (⟨S20000x256, .f32⟩ : BufTy).Contents (Elt F) → (⟨S256x20000, .f32⟩ : BufTy).Contents (Elt F)),
    unary main_v17 main_v18 (Host.negf : (⟨S256x20000, .f32⟩ : BufTy).Contents (Elt F) → (⟨S256x20000, .f32⟩ : BufTy).Contents (Elt F)),
    unary main_v18 main_values ((fun x => (Host.topK S256x64 1 (FloatOps.cmpfTotal .gt) x sliceFits_S256x20000_S256x64).1) : (⟨S256x20000, .f32⟩ : BufTy).Contents (Elt F) → (⟨S256x64, .f32⟩ : BufTy).Contents (Elt F)),
    unary main_v18 main_indices ((fun x => (Host.topK S256x64 1 (FloatOps.cmpfTotal .gt) x sliceFits_S256x20000_S256x64).2) : (⟨S256x20000, .f32⟩ : BufTy).Contents (Elt F) → (⟨S256x64, .i32⟩ : BufTy).Contents (Elt F)),
    nullary main_c_3 (constantI S_ 32 0#32),
    unary main_c_3 main_v19 (broadcastInDim S256x64 ![] bcast_S_S256x64 : (⟨S_, .i32⟩ : BufTy).Contents (Elt F) → (⟨S256x64, .i32⟩ : BufTy).Contents (Elt F)),
    binary main_indices main_v19 main_v20 (cmpi .slt : (⟨S256x64, .i32⟩ : BufTy).Contents (Elt F) → (⟨S256x64, .i32⟩ : BufTy).Contents (Elt F) → (⟨S256x64, .i1⟩ : BufTy).Contents (Elt F)),
    nullary main_c_4 (constantI S_ 32 20000#32),
    unary main_c_4 main_v21 (broadcastInDim S256x64 ![] bcast_S_S256x64 : (⟨S_, .i32⟩ : BufTy).Contents (Elt F) → (⟨S256x64, .i32⟩ : BufTy).Contents (Elt F)),
    binary main_indices main_v21 main_v22 (addi : (⟨S256x64, .i32⟩ : BufTy).Contents (Elt F) → (⟨S256x64, .i32⟩ : BufTy).Contents (Elt F) → (⟨S256x64, .i32⟩ : BufTy).Contents (Elt F)),
    ternary main_v20 main_v22 main_indices main_v23 (select : (⟨S256x64, .i1⟩ : BufTy).Contents (Elt F) → (⟨S256x64, .i32⟩ : BufTy).Contents (Elt F) → (⟨S256x64, .i32⟩ : BufTy).Contents (Elt F) → (⟨S256x64, .i32⟩ : BufTy).Contents (Elt F)),
    unary main_v23 main_v24 (broadcastInDim S256x64x1 ![0, 1] bcast_S256x64_S256x64x1_0_1 : (⟨S256x64, .i32⟩ : BufTy).Contents (Elt F) → (⟨S256x64x1, .i32⟩ : BufTy).Contents (Elt F)),
    binary main_v7 main_v24 main_v25 ((fun x i => Host.gather gather_S20000_S256x64x1_S256x64_n_0_n_n_0_2_1 x i) : (⟨S20000, .i32⟩ : BufTy).Contents (Elt F) → (⟨S256x64x1, .i32⟩ : BufTy).Contents (Elt F) → (⟨S256x64, .i32⟩ : BufTy).Contents (Elt F)),
    nullary main_v26 (iotaInDim S256 32 0),
    unary main_v26 main_v27 (broadcastInDim S256x1 ![0] bcast_S256_S256x1_0 : (⟨S256, .i32⟩ : BufTy).Contents (Elt F) → (⟨S256x1, .i32⟩ : BufTy).Contents (Elt F)),
    unary main_v27 main_v28 (broadcastInDim S256x64 ![0, 1] bcast_S256x1_S256x64_0_1 : (⟨S256x1, .i32⟩ : BufTy).Contents (Elt F) → (⟨S256x64, .i32⟩ : BufTy).Contents (Elt F)),
    binary main_v25 main_v28 main_v29 (cmpi .eq : (⟨S256x64, .i32⟩ : BufTy).Contents (Elt F) → (⟨S256x64, .i32⟩ : BufTy).Contents (Elt F) → (⟨S256x64, .i1⟩ : BufTy).Contents (Elt F)) ]

/-- All of them. -/
abbrev ops : List (HloOp τ sig (Elt F)) := ops0 ++ (ops1 ++ ops2)

theorem main_chain (c : Dev nD) : main (F := F) c = Pipeline.chain [seq ops0, seq ops1, seq ops2] := by
  rewrite [chain_seq_cons, Pipeline.chain_cons, chain_seq_cons]
  chain_rfl

theorem main_eq (c : Dev nD) : main (F := F) c = seq ops := by
  rw [main_chain, seq_append, seq_append]
  exact congrArg (fun q => seq ops0 >>= fun _ => seq ops1 >>= fun _ => q) (bind_pure (seq ops2))

theorem no_refs : (Finset.univ.filter fun b : Ref sig .tc => b.isScoped) = ∅ := by decide
theorem no_sems : (Finset.univ.filter fun s : SemLoc sig => s.isScoped .tc) = ∅ := by decide
theorem ops_sub : (ops : List (HloOp τ sig (Elt F))).Forall fun op => op.bufs ⊆ tcRefs τ sig :=
  ⟨unary_bufs_sub .., unary_bufs_sub .., unary_bufs_sub .., unary_bufs_sub .., binary_bufs_sub .., binary_bufs_sub .., nullary_bufs_sub .., binary_bufs_sub .., nullary_bufs_sub .., nullary_bufs_sub .., nullary_bufs_sub .., quaternary_bufs_sub .., quaternary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., unary_bufs_sub .., unary_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., binary_bufs_sub ..⟩

end

/-- Each centre's nearest points as the reference finds them. -/
def nearest (D : FVec Ideal S20000x256 .f32) : IVec S256x64 32 :=
  (Host.topK S256x64 1 (FloatOps.cmpfTotal .gt) (Host.negf (transpose S256x20000 [1, 0] D transposes_S20000x256_S256x20000_1_0)) sliceFits_S256x20000_S256x64).2

/-- Whether some point has the centre as its nearest. -/
def used (N : IVec S20000 32) : IVec S256 1 :=
  Host.scatter scatter_S256_S20000x1_S20000_n_0_0_1 (fun _ b => b) (broadcastInDim S256 ![] bcast_S_S256 (constantI S_ 1 0#1)) (broadcastInDim S20000x1 ![0] bcast_S20000_S20000x1_0 (select (cmpi .slt N (broadcastInDim S20000 ![] bcast_S_S20000 (constantI S_ 32 0#32))) (addi N (broadcastInDim S20000 ![] bcast_S_S20000 (constantI S_ 32 256#32))) N)) (broadcastInDim S20000 ![] bcast_S_S20000 (constantI S_ 1 1#1))

/-- Whether a centre's nearest point has that centre as its own nearest. -/
def paired (N : IVec S20000 32) (K : IVec S256x64 32) : IVec S256x64 1 :=
  cmpi .eq (Host.gather gather_S20000_S256x64x1_S256x64_n_0_n_n_0_2_1 N (broadcastInDim S256x64x1 ![0, 1] bcast_S256x64_S256x64x1_0_1 (select (cmpi .slt K (broadcastInDim S256x64 ![] bcast_S_S256x64 (constantI S_ 32 0#32))) (addi K (broadcastInDim S256x64 ![] bcast_S_S256x64 (constantI S_ 32 20000#32))) K))) (broadcastInDim S256x64 ![0, 1] bcast_S256x1_S256x64_0_1 (broadcastInDim S256x1 ![0] bcast_S256_S256x1_0 (iotaInDim S256 32 0)))

section
variable (V : Valuation τ sig (Elt Ideal))

theorem ops_after : after ops V = after ops2 (after ops1 (after ops0 V)) := by
  simp only [ops, ops0, ops1, ops2, List.cons_append, List.nil_append, after_cons, after_nil]

theorem dist_after : after ops0 V (Proc.devRef .tc main_v6) = dist2 (V (Proc.devRef .tc main_arg0)) (V (Proc.devRef .tc main_arg1)) := by
  after_results_simp
  rfl

theorem nodes_after {D : FVec Ideal S20000x256 .f32} (h : V (Proc.devRef .tc main_v6) = D) : after ops1 V (Proc.devRef .tc main_v7) = (fun j => (Host.argReduce reducer_argmin_f32_i32 D (iotaInDim S20000x256 32 1) (constant S_ .f32 0x7F800000#32) (constantI S_ 32 0#32) reducesTo_S20000x256_S20000_d1 h_S_ j).2) := by
  subst h
  after_results_simp
  simp only [cast_eq]

theorem dist_kept : after ops1 V (Proc.devRef .tc main_v6) = V (Proc.devRef .tc main_v6) := by
  after_results_simp

theorem nodes_kept : after ops2 V (Proc.devRef .tc main_v7) = V (Proc.devRef .tc main_v7) := by
  after_results_simp

theorem used_after : after ops2 V (Proc.devRef .tc main_v16) = used (V (Proc.devRef .tc main_v7)) := by
  after_results_simp
  rfl

theorem nearest_after : after ops2 V (Proc.devRef .tc main_indices) = nearest (V (Proc.devRef .tc main_v6)) := by
  after_results_simp
  rfl

theorem paired_after : after ops2 V (Proc.devRef .tc main_v29) = paired (V (Proc.devRef .tc main_v7)) (nearest (V (Proc.devRef .tc main_v6))) := by
  after_results_simp
  rfl

theorem points_kept : after ops V (Proc.devRef .tc main_arg0) = V (Proc.devRef .tc main_arg0) := by
  rw [ops_after]
  after_results_simp

theorem centres_kept : after ops V (Proc.devRef .tc main_arg1) = V (Proc.devRef .tc main_arg1) := by
  rw [ops_after]
  after_results_simp

theorem nodes_end : after ops V (Proc.devRef .tc main_v7) = (fun j => (Host.argReduce reducer_argmin_f32_i32 (dist2 (V (Proc.devRef .tc main_arg0)) (V (Proc.devRef .tc main_arg1))) (iotaInDim S20000x256 32 1) (constant S_ .f32 0x7F800000#32) (constantI S_ 32 0#32) reducesTo_S20000x256_S20000_d1 h_S_ j).2) := by
  rw [ops_after, nodes_kept, nodes_after _ (dist_after V)]

theorem used_end : after ops V (Proc.devRef .tc main_v16) = used (fun j => (Host.argReduce reducer_argmin_f32_i32 (dist2 (V (Proc.devRef .tc main_arg0)) (V (Proc.devRef .tc main_arg1))) (iotaInDim S20000x256 32 1) (constant S_ .f32 0x7F800000#32) (constantI S_ 32 0#32) reducesTo_S20000x256_S20000_d1 h_S_ j).2) := by
  rw [ops_after, used_after, nodes_after _ (dist_after V)]

theorem nearest_end : after ops V (Proc.devRef .tc main_indices) = nearest (dist2 (V (Proc.devRef .tc main_arg0)) (V (Proc.devRef .tc main_arg1))) := by
  rw [ops_after, nearest_after, dist_kept, dist_after]

theorem paired_end : after ops V (Proc.devRef .tc main_v29) = paired (fun j => (Host.argReduce reducer_argmin_f32_i32 (dist2 (V (Proc.devRef .tc main_arg0)) (V (Proc.devRef .tc main_arg1))) (iotaInDim S20000x256 32 1) (constant S_ .f32 0x7F800000#32) (constantI S_ 32 0#32) reducesTo_S20000x256_S20000_d1 h_S_ j).2) (nearest (dist2 (V (Proc.devRef .tc main_arg0)) (V (Proc.devRef .tc main_arg1)))) := by
  rw [ops_after, paired_after, nodes_after _ (dist_after V), dist_kept, dist_after]

end

section
variable (m : (ℓ : Loc nD τ sig) → Buf (Elt Ideal) ℓ) (ρ : Dev nD → PrngReg)

abbrev away (c : Dev nD) : FVec Ideal S20000x256 .f32 := dist2 (m ((c.tc : Thread nD τ).loc main_arg0)) (m ((c.tc : Thread nD τ).loc main_arg1))

/-- The reference runs, ends with those four results and keeps its arguments. -/
theorem run : θ_run (defs (F := Ideal)) (onTc (τ := τ) (main (F := Ideal))) ⟨m, fun _ => 0, ρ⟩ fun r => ∀ c : Dev nD,
      r.2.mem ((c.tc : Thread nD τ).loc main_v7) = (fun j => (Host.argReduce reducer_argmin_f32_i32 (away m c) (iotaInDim S20000x256 32 1) (constant S_ .f32 0x7F800000#32) (constantI S_ 32 0#32) reducesTo_S20000x256_S20000_d1 h_S_ j).2)
      ∧ r.2.mem ((c.tc : Thread nD τ).loc main_v16) = used (fun j => (Host.argReduce reducer_argmin_f32_i32 (away m c) (iotaInDim S20000x256 32 1) (constant S_ .f32 0x7F800000#32) (constantI S_ 32 0#32) reducesTo_S20000x256_S20000_d1 h_S_ j).2)
      ∧ r.2.mem ((c.tc : Thread nD τ).loc main_indices) = nearest (away m c)
      ∧ r.2.mem ((c.tc : Thread nD τ).loc main_v29) = paired (fun j => (Host.argReduce reducer_argmin_f32_i32 (away m c) (iotaInDim S20000x256 32 1) (constant S_ .f32 0x7F800000#32) (constantI S_ 32 0#32) reducesTo_S20000x256_S20000_d1 h_S_ j).2) (nearest (away m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v7).trans (nodes_end _), (h c main_v16).trans (used_end _), (h c main_indices).trans (nearest_end _),
      (h c main_v29).trans (paired_end _), (h c main_arg0).trans (points_kept _), (h c main_arg1).trans (centres_kept _)⟩)
    (run_seq no_refs no_sems defs main (fun _ => ops) main_eq (fun _ => ops_sub) m ρ)

theorem frame : θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2.2.2.2, sem_eq_zero_of_no_sems rfl _⟩) (run m ρ)

end

theorem nodes_with (D : FVec Ideal S20000x256 .f32) (p : Fin 20000) {y : Fin 256 → EReal} (hD : ∀ c, D (ix2 p c) = y c) {j : Fin 256}
    (hj : First (fun c => -y c) j) {ix : S_.Idx → Ideal .f32} {iy : S_.Idx → BitVec 32} (hx : ∀ z, ix z = ⊤) (hy : ∀ z, iy z = 0#32)
    (k : IVec S20000x256 32) (hk : ∀ i, k (ix2 p i) = BitVec.ofNat 32 i) :
    (Host.argReduce reducer_argmin_f32_i32 D k ix iy reducesTo_S20000x256_S20000_d1 h_S_ (ix1 p)).2 = BitVec.ofNat 32 j :=
  argmin_row (u := S_) reference_lesser D k h_S_ hx hy (by norm_num) reducesTo_S20000x256_S20000_d1 p hk hD hj

theorem nodes_of (D : FVec Ideal S20000x256 .f32) (p : Fin 20000) {y : Fin 256 → EReal} (hD : ∀ c, D (ix2 p c) = y c) {j : Fin 256}
    (hj : First (fun c => -y c) j) : (Host.argReduce reducer_argmin_f32_i32 D (iotaInDim S20000x256 32 1) (constant S_ .f32 0x7F800000#32) (constantI S_ 32 0#32) reducesTo_S20000x256_S20000_d1 h_S_ (ix1 p)).2 = BitVec.ofNat 32 j :=
  nodes_with D p hD hj (fun z => top_at z) (fun z => zero_at z) _ (fun i => columns_at p i)

section
variable {X : S20000x3.Idx → EReal} {Y : S256x3.Idx → EReal}
  (hp : ∀ x, Pre_points_at_most_5e18.fn (F := Ideal) X Y x = 1#1)
include hp

theorem nodes_at (p : Fin 20000) : (Host.argReduce reducer_argmin_f32_i32 (dist2 X Y) (iotaInDim S20000x256 32 1) (constant S_ .f32 0x7F800000#32) (constantI S_ 32 0#32) reducesTo_S20000x256_S20000_d1 h_S_ (ix1 p)).2 = BitVec.ofNat 32 (node X Y p) :=
  nodes_of (dist2 X Y) p (fun c => dist2_eq hp p c) (node_first p)

theorem nodes_eq : (fun j => (Host.argReduce reducer_argmin_f32_i32 (dist2 X Y) (iotaInDim S20000x256 32 1) (constant S_ .f32 0x7F800000#32) (constantI S_ 32 0#32) reducesTo_S20000x256_S20000_d1 h_S_ j).2) = fun j : S20000.Idx => BitVec.ofNat 32 (node X Y (j 0)) := by
  funext j
  obtain ⟨p, rfl⟩ : ∃ p : Fin 20000, j = ix1 p := ⟨j 0, eq_ix1 j⟩
  exact nodes_at hp p

theorem nearest_eq : nearest (dist2 X Y) = fun x : S256x64.Idx => near X Y (x 0) (x 1 : ℕ) := near_final hp

end

end Cert.PartitionRef

end
-- ==== Proof.PartitionTail.lean ====
/- The host's lines after the kernel call: each point's nearest centre over all the blocks, the centres used, and the pairs. -/
module

public import proofs.«01_k».proof.Proof.PartitionArray
public import proofs.«01_k».proof.Proof.PartitionRef
public import Idealize.ShloMosaic.Lib.ReduceAll

@[expose] public section

set_option maxRecDepth 16384

noncomputable section

open Idealize.ShloMosaic Idealize.ShloMosaic.TcCoe Idealize.SL.Sem Idealize.ShloMosaic.StableHlo
open Cert.PartitionIdeal Cert.PartitionIdeal.Gen Cert.Picks Cert.NearestBlock Cert.NearestEntries Cert.PartitionEntries

namespace Cert.PartitionTail

/-- Row numbers with a negative one counted from the end. -/
def wrapped (A : IVec S1x20000 32) : IVec S1x20000 32 :=
  select (cmpi .slt A (broadcastInDim S1x20000 ![] bcast_S_S1x20000 (constantI S_ 32 0#32)))
    (addi A (broadcastInDim S1x20000 ![] bcast_S_S1x20000 (constantI S_ 32 4#32))) A

/-- Whether each row number is one of the four. -/
def within (I : IVec S1x20000x1 32) : IVec S1x20000 1 :=
  Host.reduce IntOp.andi (andi (cmpi .sge I (broadcastInDim S1x20000x1 ![] bcast_S_S1x20000x1 (constantI S_ 32 0#32)))
    (cmpi .sle I (broadcastInDim S1x20000x1 ![0, 1, 2] bcast_S1x1x1_S1x20000x1_0_1_2 (broadcastInDim S1x1x1 ![2] bcast_S1_S1x1x1_2 (constantI S1 32 3#32)))))
    (constantI S_ 1 1#1) reducesTo_S1x20000x1_S1x20000_d2 h_S_

/-- The entry of each column in the row given for it. -/
def taken (W : IVec S4x20000 32) (I : IVec S1x20000x1 32) : IVec S1x20000 32 :=
  select (within I) (Host.gather gather_S4x20000_S1x20000x1_S1x20000_n_0_1_1_0_2_11 W I) (broadcastInDim S1x20000 ![] bcast_S_S1x20000 (constantI S_ 32 2147483648#32))

theorem wrapped_at {A : IVec S1x20000 32} {y : S1x20000.Idx} {b : Fin 4} (h : A y = BitVec.ofNat 32 b) : wrapped A y = BitVec.ofNat 32 b := by
  have e : wrapped A y = Scalar.select (IntOp.cmpi .slt (A y) 0#32) (A y + 4#32) (A y) := by
    unfold wrapped
    pointwise
    rfl
  rw [e, h]
  clear h e
  revert b
  decide

theorem within_at {I : IVec S1x20000x1 32} (h : ∀ i, ∃ b : Fin 4, I i = BitVec.ofNat 32 b) (y : S1x20000.Idx) : within I y = 1#1 := by
  refine Host.reduce_andi_one _ _ _ _ y rfl fun i => ?_
  obtain ⟨b, hb⟩ := h i
  show IntOp.andi (IntOp.cmpi .sge (I i) 0#32) (IntOp.cmpi .sle (I i) 3#32) = 1#1
  rw [hb]
  clear hb
  revert b
  decide

theorem taken_at (W : IVec S4x20000 32) {I : IVec S1x20000x1 32} (h : ∀ i, ∃ b : Fin 4, I i = BitVec.ofNat 32 b) (p : Fin 20000) {b : Fin 4}
    (hb : I (ix3 0 p 0) = BitVec.ofNat 32 b) : taken W I (ix2 0 p) = W (ix2 b p) := by
  have e : taken W I (ix2 0 p) = Scalar.select (within I (ix2 0 p)) (Host.gather gather_S4x20000_S1x20000x1_S1x20000_n_0_1_1_0_2_11 W I (ix2 0 p)) 2147483648#32 := rfl
  rw [e, within_at h]
  have g := ValueIdx.gather_take_rows_apply (N := 4) (C := 20000) (B := 1) (by decide) gather_S4x20000_S1x20000x1_S1x20000_n_0_1_1_0_2_11_wf W I (ix2 0 p)
  have t : (ValueIdx.takeIdx (ix2 0 p : S1x20000.Idx) : S1x20000x1.Idx) = ix3 0 p 0 := by
    funext a
    fin_cases a <;> rfl
  refine Eq.trans rfl (g.trans (congrArg W (congrArg₂ (fun (a : Fin 4) (q : Fin 20000) => (ix2 a q : S4x20000.Idx)) (Fin.ext ?_) rfl)))
  show min (I (ValueIdx.takeIdx (ix2 0 p : S1x20000.Idx))).toInt.toNat 3 = (b : ℕ)
  rw [t, hb]
  clear hb t g e
  revert b
  decide

/-- The row numbers as the look-up takes them. -/
def listed (A : IVec S20000 32) : IVec S1x20000x1 32 :=
  shapeCast S1x20000x1 (wrapped (broadcastInDim S1x20000 ![1] bcast_S20000_S1x20000_1 A)) shapeCasts_S1x20000_S1x20000x1

theorem lifted_at (A : IVec S20000 32) (p : Fin 20000) : broadcastInDim S1x20000 ![1] bcast_S20000_S1x20000_1 A (ix2 0 p) = A (ix1 p) := by
  pointwise

theorem cast_at (A : IVec S1x20000 32) (p : Fin 20000) : shapeCast S1x20000x1 A shapeCasts_S1x20000_S1x20000x1 (ix3 0 p 0) = A (ix2 0 p) := by
  pointwise

theorem listed_at {A : IVec S20000 32} {p : Fin 20000} {b : Fin 4} (h : A (ix1 p) = BitVec.ofNat 32 b) : listed A (ix3 0 p 0) = BitVec.ofNat 32 b :=
  (cast_at _ p).trans (wrapped_at ((lifted_at A p).trans h))

theorem entry_of (i : S1x20000x1.Idx) : i = ix3 (0 : Fin 1) (i 1) (0 : Fin 1) := (eq_ix3 i).trans
  (congrArg₂ (fun a b : Fin 1 => (ix3 a (i 1) b : S1x20000x1.Idx)) (Subsingleton.elim (α := Fin 1) (i 0) 0) (Subsingleton.elim (α := Fin 1) (i 2) 0))

/-- The look-up of each column's entry in the row named for it. -/
theorem look_up (W : IVec S4x20000 32) {A : IVec S20000 32} (b : Fin 20000 → Fin 4) (h : ∀ p, A (ix1 p) = BitVec.ofNat 32 (b p)) (p : Fin 20000) :
    taken W (listed A) (ix2 0 p) = W (ix2 (b p) p) :=
  taken_at W (fun i => ⟨b (i 1), by rw [entry_of i]; exact listed_at (h _)⟩) p (listed_at (h p))

section
variable (V : Valuation τ sig (Elt Ideal))

theorem dist_flat {L : FVec Ideal S4x1x20000 .f32} (h : V (Proc.devRef .tc main_v1_1) = L) :
    after hostOps1 V (Proc.devRef .tc main_v2) = shapeCast S4x20000 L shapeCasts_S4x1x20000_S4x20000 := by
  subst h
  after_results_simp
  rfl

theorem which_flat {W : IVec S4x1x20000 32} (h : V (Proc.devRef .tc main_v1_2) = W) :
    after hostOps1 V (Proc.devRef .tc main_v3) = shapeCast S4x20000 W shapeCasts_S4x1x20000_S4x20000 := by
  subst h
  after_results_simp
  rfl

theorem near_kept : after hostOps1_3 (after hostOps1_2 (after hostOps1_1 (after hostOps1 V))) (Proc.devRef .tc main_v1_0) = V (Proc.devRef .tc main_v1_0) := by
  after_results_simp

theorem near_end : after hostOps1_4 V (Proc.devRef .tc main_v1_0) = V (Proc.devRef .tc main_v1_0) := by
  after_results_simp

theorem block_after {D : FVec Ideal S4x20000 .f32} (h : V (Proc.devRef .tc main_v2) = D) : after hostOps1_1 V (Proc.devRef .tc main_v4)
    = (fun j => (Host.argReduce reducer_argmin_f32_i32 D (iotaInDim S4x20000 32 0) (constant S_ .f32 0x7F800000#32) (constantI S_ 32 0#32) reducesTo_S4x20000_S20000_d0 h_S_ j).2) := by
  subst h
  after_results_simp
  simp only [cast_eq]

theorem which_kept : after hostOps1_2 (after hostOps1_1 V) (Proc.devRef .tc main_v3) = V (Proc.devRef .tc main_v3) := by
  after_results_simp

theorem lifted_after {A : IVec S20000 32} (h : V (Proc.devRef .tc main_v4) = A) :
    after hostOps1_2 V (Proc.devRef .tc main_v5) = broadcastInDim S1x20000 ![1] bcast_S20000_S1x20000_1 A := by
  subst h
  after_results_simp

theorem taken_after {W : IVec S4x20000 32} {A : IVec S1x20000 32} (hW : V (Proc.devRef .tc main_v3) = W) (hA : V (Proc.devRef .tc main_v5) = A) :
    after hostOps1_3 V (Proc.devRef .tc main_v6) = taken W (shapeCast S1x20000x1 (wrapped A) shapeCasts_S1x20000_S1x20000x1) := by
  subst hW hA
  after_results_simp
  simp only [cast_eq]
  rfl

theorem nodes_after {T : IVec S1x20000 32} (h : V (Proc.devRef .tc main_v6) = T) :
    after hostOps1_4 V (Proc.devRef .tc main_v7) = shapeCast S20000 T shapeCasts_S1x20000_S20000 := by
  subst h
  after_results_simp
  rfl

theorem used_after {T : IVec S1x20000 32} (h : V (Proc.devRef .tc main_v6) = T) :
    after hostOps1_4 V (Proc.devRef .tc main_v16) = PartitionRef.used (shapeCast S20000 T shapeCasts_S1x20000_S20000) := by
  subst h
  after_results_simp
  rfl

theorem paired_after {T : IVec S1x20000 32} {K : IVec S256x64 32} (h : V (Proc.devRef .tc main_v6) = T) (hK : V (Proc.devRef .tc main_v1_0) = K) :
    after hostOps1_4 V (Proc.devRef .tc main_v27) = PartitionRef.paired (shapeCast S20000 T shapeCasts_S1x20000_S20000) K := by
  subst h hK
  after_results_simp
  rfl

end

section
variable (X : S20000x3.Idx → EReal) (Y : S256x3.Idx → EReal)

/-- The arrays the kernel call leaves. -/
abbrev nears : IVec S256x64 32 := fun x => near X Y (x 0) (x 1 : ℕ)
abbrev leasts : FVec Ideal S4x1x20000 .f32 := fun x => least X Y (x 0) (x 2)
abbrev whichs : IVec S4x1x20000 32 := fun x => which X Y (x 0) (x 2)
/-- Each point's nearest centre. -/
abbrev nodes : IVec S20000 32 := fun j => BitVec.ofNat 32 (node X Y (j 0))

theorem leasts_at (b : Fin 4) (p : Fin 20000) : shapeCast S4x20000 (leasts X Y) shapeCasts_S4x1x20000_S4x20000 (ix2 b p) = least X Y b p := by
  have h : ∀ L : FVec Ideal S4x1x20000 .f32, shapeCast S4x20000 L shapeCasts_S4x1x20000_S4x20000 (ix2 b p) = L (ix3 b 0 p) := fun L => by pointwise
  exact h _

theorem whichs_at (b : Fin 4) (p : Fin 20000) : shapeCast S4x20000 (whichs X Y) shapeCasts_S4x1x20000_S4x20000 (ix2 b p) = which X Y b p := by
  have h : ∀ W : IVec S4x1x20000 32, shapeCast S4x20000 W shapeCasts_S4x1x20000_S4x20000 (ix2 b p) = W (ix3 b 0 p) := fun W => by pointwise
  exact h _

theorem block_with (D : FVec Ideal S4x20000 .f32) (p : Fin 20000) {y : Fin 4 → EReal} (hD : ∀ b, D (ix2 b p) = y b) {j : Fin 4}
    (hj : First (fun b => -y b) j) {ix : S_.Idx → Ideal .f32} {iy : S_.Idx → BitVec 32} (hx : ∀ z, ix z = ⊤) (hy : ∀ z, iy z = 0#32)
    (k : IVec S4x20000 32) (hk : ∀ i, k (ix2 i p) = BitVec.ofNat 32 i) :
    (Host.argReduce reducer_argmin_f32_i32 D k ix iy reducesTo_S4x20000_S20000_d0 h_S_ (ix1 p)).2 = BitVec.ofNat 32 j :=
  argmin_column (u := S_) kernel_lesser D k h_S_ hx hy (by norm_num) reducesTo_S4x20000_S20000_d0 p hk hD hj

theorem block_at (p : Fin 20000) : (Host.argReduce reducer_argmin_f32_i32 (shapeCast S4x20000 (leasts X Y) shapeCasts_S4x1x20000_S4x20000) (iotaInDim S4x20000 32 0) (constant S_ .f32 0x7F800000#32) (constantI S_ 32 0#32) reducesTo_S4x20000_S20000_d0 h_S_ (ix1 p)).2
    = BitVec.ofNat 32 (block X Y p) :=
  block_with _ p (fun b => leasts_at X Y b p) (first_spec _) (fun z => top_at z) (fun z => zero_at z) _ (fun i => rows_at i p)

theorem flat_at (T : IVec S1x20000 32) (p : Fin 20000) : shapeCast S20000 T shapeCasts_S1x20000_S20000 (ix1 p) = T (ix2 0 p) := by
  pointwise

theorem nodes_of {A : IVec S20000 32} (h : ∀ p, A (ix1 p) = BitVec.ofNat 32 (block X Y p)) :
    shapeCast S20000 (taken (shapeCast S4x20000 (whichs X Y) shapeCasts_S4x1x20000_S4x20000) (listed A)) shapeCasts_S1x20000_S20000 = nodes X Y := by
  funext j
  obtain ⟨p, rfl⟩ : ∃ p : Fin 20000, j = ix1 p := ⟨j 0, eq_ix1 j⟩
  exact (flat_at _ p).trans ((look_up _ (block X Y) h p).trans ((whichs_at X Y _ p).trans (two_stage p)))

section
variable {X Y} (V : Valuation τ sig (Elt Ideal)) (h0 : V (Proc.devRef .tc main_v1_0) = nears X Y) (h1 : V (Proc.devRef .tc main_v1_1) = leasts X Y)
  (h2 : V (Proc.devRef .tc main_v1_2) = whichs X Y)

/-- The host's lines up to the last stretch. -/
abbrev early : Valuation τ sig (Elt Ideal) := after hostOps1_3 (after hostOps1_2 (after hostOps1_1 (after hostOps1 V)))

include h2 in
theorem taken_of {A : IVec S20000 32} (h : after hostOps1_1 (after hostOps1 V) (Proc.devRef .tc main_v4) = A) :
    early V (Proc.devRef .tc main_v6) = taken (shapeCast S4x20000 (whichs X Y) shapeCasts_S4x1x20000_S4x20000) (listed A) :=
  taken_after _ ((which_kept _).trans (which_flat V h2)) (lifted_after _ h)

include h1 in
theorem block_of {A : IVec S20000 32} (h : after hostOps1_1 (after hostOps1 V) (Proc.devRef .tc main_v4) = A) (p : Fin 20000) :
    A (ix1 p) = BitVec.ofNat 32 (block X Y p) := by
  rw [← h, block_after _ (dist_flat V h1)]
  exact block_at X Y p

include h1 h2 in
theorem taken_end : ∃ A : IVec S20000 32, (∀ p, A (ix1 p) = BitVec.ofNat 32 (block X Y p))
    ∧ early V (Proc.devRef .tc main_v6) = taken (shapeCast S4x20000 (whichs X Y) shapeCasts_S4x1x20000_S4x20000) (listed A) := by
  obtain ⟨A, h⟩ : ∃ A : IVec S20000 32, after hostOps1_1 (after hostOps1 V) (Proc.devRef .tc main_v4) = A := ⟨_, rfl⟩
  exact ⟨A, block_of V h1 h, taken_of V h2 h⟩

include h1 h2 in
theorem nodes_end : after hostOps1_4 (early V) (Proc.devRef .tc main_v7) = nodes X Y := by
  obtain ⟨A, hA, h⟩ := taken_end V h1 h2
  exact (nodes_after _ h).trans (nodes_of X Y hA)

include h1 h2 in
theorem used_end : after hostOps1_4 (early V) (Proc.devRef .tc main_v16) = PartitionRef.used (nodes X Y) := by
  obtain ⟨A, hA, h⟩ := taken_end V h1 h2
  exact (used_after _ h).trans (congrArg PartitionRef.used (nodes_of X Y hA))

include h0 h1 h2 in
theorem paired_end : after hostOps1_4 (early V) (Proc.devRef .tc main_v27) = PartitionRef.paired (nodes X Y) (nears X Y) := by
  obtain ⟨A, hA, h⟩ := taken_end V h1 h2
  exact (paired_after _ h ((near_kept V).trans h0)).trans (congrArg (PartitionRef.paired · (nears X Y)) (nodes_of X Y hA))

end

end

theorem flat_after (V : Valuation τ sig (Elt Ideal)) : after (List.flatten [hostOps1, hostOps1_1, hostOps1_2, hostOps1_3, hostOps1_4]) V = after hostOps1_4 (early V) := by
  simp only [List.flatten_cons, List.flatten_nil, early, hostOps1, hostOps1_1, hostOps1_2, hostOps1_3, hostOps1_4, List.cons_append, List.nil_append, List.append_nil, after_cons, after_nil]

section
variable (m : (ℓ : Loc nD τ sig) → Buf (Elt Ideal) ℓ) (ρ : Dev nD → PrngReg)

abbrev points (c : Dev nD) : S20000x3.Idx → EReal := m ((c.tc : Thread nD τ).loc main_arg0)
abbrev centres (c : Dev nD) : S256x3.Idx → EReal := m ((c.tc : Thread nD τ).loc main_arg1)

/-- The buffers as the kernel call leaves them. -/
abbrev left (c : Dev nD) : Valuation τ sig (Elt Ideal) := Pipeline.withArrays (cfgs 0).spec c (V0 m c) fun w => (dats m 0 c).arrAt w (cfgs 0).N

theorem arrays_inj : Function.Injective (Pipeline.arrRef spec0) := by decide

theorem left0 (c : Dev nD) : left m c (Proc.devRef .tc main_v1_0) = nears (points m c) (centres m c) :=
  (Pipeline.withArrays_arr _ arrays_inj c _ _ 2).trans (PartitionArray.near_final m c)

theorem left1 (c : Dev nD) : left m c (Proc.devRef .tc main_v1_1) = leasts (points m c) (centres m c) :=
  (Pipeline.withArrays_arr _ arrays_inj c _ _ 3).trans (PartitionArray.least_final m c)

theorem left2 (c : Dev nD) : left m c (Proc.devRef .tc main_v1_2) = whichs (points m c) (centres m c) :=
  (Pipeline.withArrays_arr _ arrays_inj c _ _ 4).trans (PartitionArray.which_final m c)

/-- The call and its host lines run, end with those results and keep the arguments. -/
theorem run : θ_run (defs (F := Ideal)) (onTc (τ := τ) (main (F := Ideal))) ⟨m, fun _ => 0, ρ⟩ fun r => ∀ c : Dev nD,
      r.2.mem ((c.tc : Thread nD τ).loc main_v7) = nodes (points m c) (centres m c)
      ∧ r.2.mem ((c.tc : Thread nD τ).loc main_v16) = PartitionRef.used (nodes (points m c) (centres m c))
      ∧ r.2.mem ((c.tc : Thread nD τ).loc main_v1_0) = nears (points m c) (centres m c)
      ∧ r.2.mem ((c.tc : Thread nD τ).loc main_v27) = PartitionRef.paired (nodes (points m c) (centres m c)) (nears (points m c) (centres m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨
      ((h c).2 main_v7 (Pipeline.mem_restRefs_of main_v7 (by decide) (by decide))).trans ((congrFun (flat_after (left m c)) _).trans (nodes_end _ (left1 m c) (left2 m c))),
      ((h c).2 main_v16 (Pipeline.mem_restRefs_of main_v16 (by decide) (by decide))).trans ((congrFun (flat_after (left m c)) _).trans (used_end _ (left1 m c) (left2 m c))),
      ((h c).1 2).trans (PartitionArray.near_final m c),
      ((h c).2 main_v27 (Pipeline.mem_restRefs_of main_v27 (by decide) (by decide))).trans ((congrFun (flat_after (left m c)) _).trans (paired_end _ (left0 m c) (left1 m c) (left2 m c))),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c)))⟩)
    (run_main m ρ)

end

end Cert.PartitionTail

end
-- ==== Proof.MatchingOut.lean ====
module

public import proofs.«01_k».proof.Proof.KernelLoop
public import proofs.«01_k».proof.Proof.Gen.MatchingIdeal.Value
public import Idealize.ShloMosaic.Lib.Pipeline.ValueKit

@[expose] public section

set_option maxRecDepth 16384

noncomputable section

open Idealize.ShloMosaic Idealize.ShloMosaic.TcCoe Idealize.SL.Sem
open Cert.MatchingIdeal Cert.MatchingIdeal.Gen Cert.Sinkhorn

namespace Cert.MatchingOut
variable (m : (ℓ : Loc nD τ sig) → Buf (Elt Ideal) ℓ)

/-- What the body leaves in its output block, as in `OutBlock`. -/
theorem out_eq (c : Dev nD) (t : Fin cfg0.N) :
    outsAt0 m c t = KernelBlock.block (iblk m c 0 t (ix1 0)) (iblk m c 1 t) (iblk m c 2 t) (iblk m c 3 t) (iblk m c 4 t) := by
  unfold outsAt0 out0_A_5
  rw [View.read_writes_eq_canon _ _ _ (cover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (iblk m c 4 t))]
  unfold kernelRun0_A
  dsimp only
  sl_unfold_words
  have hz1 : (![0] : Fin 1 → ℕ) = fun _ => 0 := by decide
  have hz2 : (![0, 0] : Fin 2 → ℕ) = fun _ => 0 := by decide
  have hz3 : (![0, 0, 0] : Fin 3 → ℕ) = fun _ => 0 := by decide
  simp only [View.readAt_eq_ld, (hs0_0 t).read_unread, (hs0_1 t).read_unread, (hs0_2 t).read_unread, (hs0_3 t).read_unread, (hs0_4 t).read_unread]
  rw [View.canon_unit_zero hz3]
  simp only [View.ld_unit_zero (S := S32x72x256) hz3, View.ld_unit_zero (S := S32x128x256) hz3, View.ld_unit_zero (S := S32x72) hz2, View.ld_unit_zero (S := S32x128) hz2]
  have hx : View.ld (iblk m c 0 t) (Rect.unit ![0] ![1] inb_S1_S1_0) (Shape.Idx.first (Nat.one_pos)) = iblk m c 0 t (ix1 0) :=
    congrArg (iblk m c 0 t) (by funext a; fin_cases a; rfl)
  exact congrArg (fun x => KernelBlock.block x (iblk m c 1 t) (iblk m c 2 t) (iblk m c 3 t) (iblk m c 4 t)) hx

end Cert.MatchingOut

end
-- ==== Proof.Gathered.lean ====
/- The host's lines before the matching's optimal transport: the scores of the coarse points, the best 256 pairs among them, and
   the features and masks of the patches they name. Both programs begin with them; here they are functions of the arguments, and
   the reference's buffers are shown to hold them. -/
module

public import proofs.«01_k».proof.Proof.Entries
public import proofs.«01_k».proof.Proof.Gen.MatchingReferenceIdeal.Run
public import Idealize.ShloMosaic.Lib.StableHlo.RunClose

@[expose] public section

set_option maxRecDepth 16384

noncomputable section

open Idealize.ShloMosaic Idealize.ShloMosaic.TcCoe Idealize.SL.Sem Idealize.ShloMosaic.StableHlo
open Cert.MatchingReferenceIdeal Cert.MatchingReferenceIdeal.Gen Cert.MatchingReferenceIdeal.Value

namespace Cert.Gathered

/-- The rows over their lengths, a small constant added to each length. -/
def unit (X : FVec Ideal S256x256 .f32) : FVec Ideal S256x256 .f32 :=
  Host.divf X (broadcastInDim S256x256 ![0, 1] bcast_S256x1_S256x256_0_1 (addf
    (Host.sqrt (broadcastInDim S256x1 ![0] bcast_S256_S256x1_0 (Host.reduceAdd (mulf X X) (constant S_ .f32 0x00000000#32) reducesTo_S256x256_S256_d1 h_S_)))
    (broadcastInDim S256x1 ![] bcast_S_S256x1 (constant S_ .f32 0x2B8CBCCC#32))))

/-- The scores of the pairs of coarse points, 0 where a mask drops one of the two. -/
def paired (X Y : FVec Ideal S256x256 .f32) (M N : IVec S256 1) : FVec Ideal S256x256 .f32 :=
  select (andi (broadcastInDim S256x256 ![0, 1] bcast_S256x1_S256x256_0_1 (broadcastInDim S256x1 ![0] bcast_S256_S256x1_0 M))
      (broadcastInDim S256x256 ![0, 1] bcast_S1x256_S256x256_0_1 (broadcastInDim S1x256 ![1] bcast_S256_S1x256_1 N)))
    (Host.exp (Host.negf (subf (broadcastInDim S256x256 ![] bcast_S_S256x256 (constant S_ .f32 0x40000000#32))
      (mulf (broadcastInDim S256x256 ![] bcast_S_S256x256 (constant S_ .f32 0x40000000#32))
        (Host.dotGeneral dot_S256x256_S256x256_S256x256_1_0_0_1_n_n none (unit X) (transpose S256x256 [1, 0] (unit Y) transposes_S256x256_S256x256_1_0))))))
    (broadcastInDim S256x256 ![] bcast_S_S256x256 (constant S_ .f32 0x00000000#32))

/-- The scores over their row sums times the scores over their column sums, as one vector. -/
def dual (s : FVec Ideal S256x256 .f32) : FVec Ideal S65536 .f32 :=
  shapeCast S65536 (mulf
    (Host.divf s (broadcastInDim S256x256 ![0, 1] bcast_S256x1_S256x256_0_1 (addf
      (broadcastInDim S256x1 ![0] bcast_S256_S256x1_0 (Host.reduceAdd s (constant S_ .f32 0x00000000#32) reducesTo_S256x256_S256_d1 h_S_))
      (broadcastInDim S256x1 ![] bcast_S_S256x1 (constant S_ .f32 0x2B8CBCCC#32)))))
    (Host.divf s (broadcastInDim S256x256 ![0, 1] bcast_S1x256_S256x256_0_1 (addf
      (broadcastInDim S1x256 ![1] bcast_S256_S1x256_1 (Host.reduceAdd s (constant S_ .f32 0x00000000#32) reducesTo_S256x256_S256_d0 h_S_))
      (broadcastInDim S1x256 ![] bcast_S_S1x256 (constant S_ .f32 0x2B8CBCCC#32)))))) shapeCasts_S256x256_S65536

/-- Where the 256 largest scores are. -/
def best (s : FVec Ideal S256x256 .f32) : IVec S256 32 := (Host.topK S256 0 (FloatOps.cmpfTotal .gt) (dual s) sliceFits_S65536_S256).2

/-- The quotients of whole numbers, rounded down. -/
def quotients (x : IVec S256 32) (y : IVec S_ 32) : IVec S256 32 :=
  select (andi (cmpi .ne (signi x) (broadcastInDim S256 ![] bcast_S_S256 (signi y)))
      (cmpi .ne (Host.remsi x (broadcastInDim S256 ![] bcast_S_S256 y)) (broadcastInDim S256 ![] bcast_S_S256 (constantI S_ 32 0#32))))
    (subi (Host.divsi x (broadcastInDim S256 ![] bcast_S_S256 y)) (broadcastInDim S256 ![] bcast_S_S256 (constantI S_ 32 1#32)))
    (Host.divsi x (broadcastInDim S256 ![] bcast_S_S256 y))

/-- A divisor, with 1 in place of 0. -/
def divisor (y : IVec S_ 32) : IVec S_ 32 := select (cmpi .eq y (constantI S_ 32 0#32)) (constantI S_ 32 1#32) y

/-- The remainders that go with `quotients`. -/
def remainders (x : IVec S256 32) (y : IVec S_ 32) : IVec S256 32 :=
  select (andi (cmpi .ne (cmpi .slt (Host.remsi x (broadcastInDim S256 ![] bcast_S_S256 (divisor y))) (broadcastInDim S256 ![] bcast_S_S256 (constantI S_ 32 0#32)))
        (broadcastInDim S256 ![] bcast_S_S256 (cmpi .slt (divisor y) (constantI S_ 32 0#32))))
      (cmpi .ne (Host.remsi x (broadcastInDim S256 ![] bcast_S_S256 (divisor y))) (broadcastInDim S256 ![] bcast_S_S256 (constantI S_ 32 0#32))))
    (addi (Host.remsi x (broadcastInDim S256 ![] bcast_S_S256 (divisor y))) (broadcastInDim S256 ![] bcast_S_S256 (divisor y)))
    (Host.remsi x (broadcastInDim S256 ![] bcast_S_S256 (divisor y)))

/-- The rows of the best pairs. -/
def rows (s : FVec Ideal S256x256 .f32) : IVec S256 32 := quotients (best s) (constantI S_ 32 256#32)

/-- The columns of the best pairs. -/
def cols (s : FVec Ideal S256x256 .f32) : IVec S256 32 := remainders (best s) (constantI S_ 32 256#32)

/-- The rows that `i` names; a negative number counts from the end. -/
def pick {w : ℕ} (X : IVec S256x64 w) (i : IVec S256 32) : IVec S256x64 w :=
  Host.gather gather_S256x64_S256x1_S256x64_1_0_n_n_0_1_164 X (broadcastInDim S256x1 ![0] bcast_S256_S256x1_0
    (select (cmpi .slt i (broadcastInDim S256 ![] bcast_S_S256 (constantI S_ 32 0#32))) (addi i (broadcastInDim S256 ![] bcast_S_S256 (constantI S_ 32 256#32))) i))

/-- The features of the points `i`, with a last point whose features are 0. -/
def featuresOf (X : FVec Ideal S20000x256 .f32) (i : IVec S256x64 32) : FVec Ideal S256x64x256 .f32 :=
  Host.gather gather_S20001x256_S256x64x1_S256x64x256_2_0_n_n_0_2_1256
    (concatenate S20001x256 0 [⟨S20000x256, X⟩, ⟨S1x256, broadcastInDim S1x256 ![] bcast_S_S1x256 (constant S_ .f32 0x00000000#32)⟩] concatenates_S20000x256_S1x256_S20001x256_d0)
    (broadcastInDim S256x64x1 ![0, 1] bcast_S256x64_S256x64x1_0_1
      (select (cmpi .slt i (broadcastInDim S256x64 ![] bcast_S_S256x64 (constantI S_ 32 0#32))) (addi i (broadcastInDim S256x64 ![] bcast_S_S256x64 (constantI S_ 32 20001#32))) i))

section
variable (V : Valuation τ sig (Elt Ideal))

/-- The memory after the host's lines up to the two lists of indices. -/
abbrev paired_end : Valuation τ sig (Elt Ideal) := after hostOps0_4 (after hostOps0_3 (after hostOps0_2 (after hostOps0_1 (after hostOps0 V))))
abbrev best_end : Valuation τ sig (Elt Ideal) := after hostOps0_5 (paired_end V)
abbrev lists_end : Valuation τ sig (Elt Ideal) := after hostOps0_8 (after hostOps0_7 (after hostOps0_6 (best_end V)))

theorem paired_at : paired_end V (Proc.devRef .tc main_v23) = paired (V (Proc.devRef .tc main_arg2)) (V (Proc.devRef .tc main_arg3)) (V (Proc.devRef .tc main_arg4)) (V (Proc.devRef .tc main_arg5)) := by
  after_results_simp
  simp only [cast_eq]
  rfl

theorem best_at' (Y : Valuation τ sig (Elt Ideal)) : after hostOps0_5 Y (Proc.devRef .tc main_indices) = best (Y (Proc.devRef .tc main_v23)) := by
  after_results_simp
  rfl

theorem divisor_at' (Y : Valuation τ sig (Elt Ideal)) : after hostOps0_5 Y (Proc.devRef .tc main_c) = constantI S_ 32 256#32 := by
  after_results_simp

theorem rows_at' (Y : Valuation τ sig (Elt Ideal)) : after hostOps0_6 Y (Proc.devRef .tc main_v38) = quotients (Y (Proc.devRef .tc main_indices)) (Y (Proc.devRef .tc main_c)) := by
  after_results_simp
  simp only [cast_eq]
  rfl

theorem cols_at' (Y : Valuation τ sig (Elt Ideal)) : after hostOps0_8 Y (Proc.devRef .tc main_v39) = remainders (Y (Proc.devRef .tc main_indices)) (Y (Proc.devRef .tc main_c_8)) := by
  after_results_simp
  simp only [cast_eq]
  rfl

/-- What the lines up to the lists do not write, they leave alone. -/
theorem lists_keep (r : Ref sig .tc) (h : r ∉ hostOps0_W ++ hostOps0_1_W ++ hostOps0_2_W ++ hostOps0_3_W ++ hostOps0_4_W ++ hostOps0_5_W ++ hostOps0_6_W ++ hostOps0_7_W ++ hostOps0_8_W) :
    lists_end V (Proc.devRef .tc r) = V (Proc.devRef .tc r) := by
  simp only [List.mem_append, not_or] at h
  obtain ⟨⟨⟨⟨⟨⟨⟨⟨h0, h1⟩, h2⟩, h3⟩, h4⟩, h5⟩, h6⟩, h7⟩, h8⟩ := h
  rw [lists_end, after_of_writes_sub hostOps0_8 _ hostOps0_8_writes h8, after_of_writes_sub hostOps0_7 _ hostOps0_7_writes h7,
    after_of_writes_sub hostOps0_6 _ hostOps0_6_writes h6, best_end, after_of_writes_sub hostOps0_5 _ hostOps0_5_writes h5, paired_end,
    after_of_writes_sub hostOps0_4 _ hostOps0_4_writes h4, after_of_writes_sub hostOps0_3 _ hostOps0_3_writes h3,
    after_of_writes_sub hostOps0_2 _ hostOps0_2_writes h2, after_of_writes_sub hostOps0_1 _ hostOps0_1_writes h1,
    after_of_writes_sub hostOps0 _ hostOps0_writes h0]

theorem rows_at : lists_end V (Proc.devRef .tc main_v38) = rows (paired (V (Proc.devRef .tc main_arg2)) (V (Proc.devRef .tc main_arg3)) (V (Proc.devRef .tc main_arg4)) (V (Proc.devRef .tc main_arg5))) := by
  rw [lists_end, after_of_writes_sub hostOps0_8 _ hostOps0_8_writes (by decide), after_of_writes_sub hostOps0_7 _ hostOps0_7_writes (by decide), rows_at',
    best_end, best_at', divisor_at', paired_at]
  rfl

theorem cols_at : lists_end V (Proc.devRef .tc main_v39) = cols (paired (V (Proc.devRef .tc main_arg2)) (V (Proc.devRef .tc main_arg3)) (V (Proc.devRef .tc main_arg4)) (V (Proc.devRef .tc main_arg5))) := by
  have h : after hostOps0_7 (after hostOps0_6 (best_end V)) (Proc.devRef .tc main_c_8) = constantI S_ 32 256#32 := by
    after_results_simp
  rw [lists_end, cols_at', h, after_of_writes_sub hostOps0_7 _ hostOps0_7_writes (by decide), after_of_writes_sub hostOps0_6 _ hostOps0_6_writes (by decide),
    best_end, best_at', paired_at]
  rfl

end

end Cert.Gathered

end
-- ==== Proof.MatchingHost.lean ====
/- The arrays that the matching's call receives: the gathered features and masks with rows of zeros more, and the dustbin's entry. -/
module

public import proofs.«01_k».proof.Proof.HostArrays
public import proofs.«01_k».proof.Proof.Gathered
public import proofs.«01_k».proof.Proof.Gen.MatchingIdeal.Value
public import Idealize.ShloMosaic.Lib.StableHlo.RunClose

@[expose] public section

set_option maxRecDepth 16384

noncomputable section

open Idealize.ShloMosaic Idealize.ShloMosaic.TcCoe Idealize.SL.Sem Idealize.ShloMosaic.StableHlo
open Cert.MatchingIdeal Cert.MatchingIdeal.Gen Cert.Entries
open Cert.HostArrays (column72 column128 pad3_72 pad3_128 pad2_72 pad2_128)

namespace Cert.MatchingHost

section
variable (V : Valuation τ sig (Elt Ideal))

/-- The memory after the host's lines up to the two lists of indices. -/
abbrev paired_end : Valuation τ sig (Elt Ideal) := after hostOps0_4 (after hostOps0_3 (after hostOps0_2 (after hostOps0_1 (after hostOps0 V))))
abbrev best_end : Valuation τ sig (Elt Ideal) := after hostOps0_5 (paired_end V)
abbrev lists_end : Valuation τ sig (Elt Ideal) := after hostOps0_8 (after hostOps0_7 (after hostOps0_6 (best_end V)))

theorem paired_at : paired_end V (Proc.devRef .tc main_v23) = Gathered.paired (V (Proc.devRef .tc main_arg2)) (V (Proc.devRef .tc main_arg3)) (V (Proc.devRef .tc main_arg4)) (V (Proc.devRef .tc main_arg5)) := by
  after_results_simp
  simp only [cast_eq]
  rfl

theorem best_at' (Y : Valuation τ sig (Elt Ideal)) : after hostOps0_5 Y (Proc.devRef .tc main_indices) = Gathered.best (Y (Proc.devRef .tc main_v23)) := by
  after_results_simp
  rfl

theorem divisor_at' (Y : Valuation τ sig (Elt Ideal)) : after hostOps0_5 Y (Proc.devRef .tc main_c) = constantI S_ 32 256#32 := by
  after_results_simp

theorem rows_at' (Y : Valuation τ sig (Elt Ideal)) : after hostOps0_6 Y (Proc.devRef .tc main_v38) = Gathered.quotients (Y (Proc.devRef .tc main_indices)) (Y (Proc.devRef .tc main_c)) := by
  after_results_simp
  simp only [cast_eq]
  rfl

theorem cols_at' (Y : Valuation τ sig (Elt Ideal)) : after hostOps0_8 Y (Proc.devRef .tc main_v39) = Gathered.remainders (Y (Proc.devRef .tc main_indices)) (Y (Proc.devRef .tc main_c_8)) := by
  after_results_simp
  simp only [cast_eq]
  rfl

theorem keep_arg0 : lists_end V (Proc.devRef .tc main_arg0) = V (Proc.devRef .tc main_arg0) := by
  after_results_simp

theorem keep_arg1 : lists_end V (Proc.devRef .tc main_arg1) = V (Proc.devRef .tc main_arg1) := by
  after_results_simp

theorem keep_arg6 : lists_end V (Proc.devRef .tc main_arg6) = V (Proc.devRef .tc main_arg6) := by
  after_results_simp

theorem keep_arg7 : lists_end V (Proc.devRef .tc main_arg7) = V (Proc.devRef .tc main_arg7) := by
  after_results_simp

theorem keep_arg8 : lists_end V (Proc.devRef .tc main_arg8) = V (Proc.devRef .tc main_arg8) := by
  after_results_simp

theorem keep_arg9 : lists_end V (Proc.devRef .tc main_arg9) = V (Proc.devRef .tc main_arg9) := by
  after_results_simp

theorem keep_arg10 : lists_end V (Proc.devRef .tc main_arg10) = V (Proc.devRef .tc main_arg10) := by
  after_results_simp

theorem indices_after_rows (Y : Valuation τ sig (Elt Ideal)) : after hostOps0_7 (after hostOps0_6 Y) (Proc.devRef .tc main_indices) = Y (Proc.devRef .tc main_indices) := by
  after_results_simp

theorem rows_after_cols (Y : Valuation τ sig (Elt Ideal)) : after hostOps0_8 (after hostOps0_7 Y) (Proc.devRef .tc main_v38) = Y (Proc.devRef .tc main_v38) := by
  after_results_simp

theorem rows_at : lists_end V (Proc.devRef .tc main_v38) = Gathered.rows (Gathered.paired (V (Proc.devRef .tc main_arg2)) (V (Proc.devRef .tc main_arg3)) (V (Proc.devRef .tc main_arg4)) (V (Proc.devRef .tc main_arg5))) := by
  rw [lists_end, rows_after_cols, rows_at', best_end, best_at', divisor_at', paired_at]
  rfl

theorem cols_at : lists_end V (Proc.devRef .tc main_v39) = Gathered.cols (Gathered.paired (V (Proc.devRef .tc main_arg2)) (V (Proc.devRef .tc main_arg3)) (V (Proc.devRef .tc main_arg4)) (V (Proc.devRef .tc main_arg5))) := by
  have h : after hostOps0_7 (after hostOps0_6 (best_end V)) (Proc.devRef .tc main_c_8) = constantI S_ 32 256#32 := by
    after_results_simp
  rw [lists_end, cols_at', h, indices_after_rows, best_end, best_at', paired_at]
  rfl

/-- The memory after the gathers. -/
abbrev gathered_end : Valuation τ sig (Elt Ideal) := after hostOps0_9 V

theorem feats0_at : gathered_end V (Proc.devRef .tc main_v80) = Gathered.featuresOf (V (Proc.devRef .tc main_arg0)) (Gathered.pick (V (Proc.devRef .tc main_arg6)) (V (Proc.devRef .tc main_v38))) := by
  after_results_simp
  rfl

theorem feats1_at : gathered_end V (Proc.devRef .tc main_v87) = Gathered.featuresOf (V (Proc.devRef .tc main_arg1)) (Gathered.pick (V (Proc.devRef .tc main_arg7)) (V (Proc.devRef .tc main_v39))) := by
  after_results_simp
  rfl

theorem mask0_at : gathered_end V (Proc.devRef .tc main_v60) = Gathered.pick (V (Proc.devRef .tc main_arg8)) (V (Proc.devRef .tc main_v38)) := by
  after_results_simp
  rfl

theorem mask1_at : gathered_end V (Proc.devRef .tc main_v67) = Gathered.pick (V (Proc.devRef .tc main_arg9)) (V (Proc.devRef .tc main_v39)) := by
  after_results_simp
  rfl

/-- The memory when the call starts, from the memory after the gathers. -/
abbrev call_end : Valuation τ sig (Elt Ideal) := after hostOps0_17 (after hostOps0_16 (after hostOps0_15 (after hostOps0_14 (after hostOps0_13 (after hostOps0_12 (after hostOps0_11 (after hostOps0_10 V)))))))

theorem v88_eq : (call_end V (Proc.devRef .tc main_v88) : S256x72x256.Idx → EReal) =
    pad S256x72x256 ![0, 0, 0] ![0, 8, 0] ![0, 0, 0] (V (Proc.devRef .tc main_v80) : S256x64x256.Idx → EReal) (sitofp (F := Ideal) .f32 (V (Proc.devRef .tc main_c_23) : IVec S_ 32)) pads_S256x64x256_S256x72x256_000_080_000 h_S_ := by
  after_results_simp
  simp only [cast_eq]

theorem v89_eq : (call_end V (Proc.devRef .tc main_v89) : S256x128x256.Idx → EReal) =
    pad S256x128x256 ![0, 0, 0] ![0, 64, 0] ![0, 0, 0] (V (Proc.devRef .tc main_v87) : S256x64x256.Idx → EReal) (sitofp (F := Ideal) .f32 (constantI S_ 32 0#32)) pads_S256x64x256_S256x128x256_000_0640_000 h_S_ := by
  after_results_simp
  simp only [cast_eq]

theorem v94_eq : (call_end V (Proc.devRef .tc main_v94) : S256x72.Idx → EReal) =
    Host.scatter scatter_S256x72_S1_S256_0_1_1_0 (fun _ b => b)
      (pad S256x72 ![0, 0] ![0, 8] ![0, 0] (uitofp (F := Ideal) .f32 (V (Proc.devRef .tc main_v60) : IVec S256x64 1)) (sitofp (F := Ideal) .f32 (constantI S_ 32 0#32)) pads_S256x64_S256x72_000_080 h_S_)
      (broadcastInDim S1 ![] bcast_S_S1 (constantI S_ 32 64#32)) (broadcastInDim S256 ![] bcast_S_S256 (constant (F := Ideal) S_ .f32 0x3F800000#32)) := by
  after_results_simp
  simp only [cast_eq]

theorem v99_eq : (call_end V (Proc.devRef .tc main_v99) : S256x128.Idx → EReal) =
    Host.scatter scatter_S256x128_S1_S256_0_1_1_0 (fun _ b => b)
      (pad S256x128 ![0, 0] ![0, 64] ![0, 0] (uitofp (F := Ideal) .f32 (V (Proc.devRef .tc main_v67) : IVec S256x64 1)) (sitofp (F := Ideal) .f32 (constantI S_ 32 0#32)) pads_S256x64_S256x128_000_0640 h_S_)
      (broadcastInDim S1 ![] bcast_S_S1 (constantI S_ 32 64#32)) (broadcastInDim S256 ![] bcast_S_S256 (constant (F := Ideal) S_ .f32 0x3F800000#32)) := by
  after_results_simp
  simp only [cast_eq]

end

section
variable (m : (ℓ : Loc nD τ sig) → Buf (Elt Ideal) ℓ) (c : Dev nD)

/-- The scores of the coarse points. -/
abbrev coarse : FVec Ideal S256x256 .f32 :=
  Gathered.paired (m (c, Proc.tc.devRef main_arg2)) (m (c, Proc.tc.devRef main_arg3)) (m (c, Proc.tc.devRef main_arg4)) (m (c, Proc.tc.devRef main_arg5))

/-- The gathered features and masks, and the dustbin's score. -/
abbrev feats0 : S256x64x256.Idx → EReal := Gathered.featuresOf (m (c, Proc.tc.devRef main_arg0)) (Gathered.pick (m (c, Proc.tc.devRef main_arg6)) (Gathered.rows (coarse m c)))
abbrev feats1 : S256x64x256.Idx → EReal := Gathered.featuresOf (m (c, Proc.tc.devRef main_arg1)) (Gathered.pick (m (c, Proc.tc.devRef main_arg7)) (Gathered.cols (coarse m c)))
abbrev mask0 : IVec S256x64 1 := Gathered.pick (m (c, Proc.tc.devRef main_arg8)) (Gathered.rows (coarse m c))
abbrev mask1 : IVec S256x64 1 := Gathered.pick (m (c, Proc.tc.devRef main_arg9)) (Gathered.cols (coarse m c))
abbrev alpha : S1.Idx → EReal := m (c, Proc.tc.devRef main_arg10)

/-- The memory after the gathers, and when the call starts. -/
abbrev middle : Valuation τ sig (Elt Ideal) := gathered_end (lists_end fun b => m (c, b))

theorem start (r : Ref sig .tc) : V m c r = call_end (middle m c) (Proc.devRef .tc r) := by
  unfold V
  simp only [List.flatten_cons, List.flatten_nil, List.append_nil, after_append]

theorem feats0_eq : (middle m c (Proc.devRef .tc main_v80) : S256x64x256.Idx → EReal) = feats0 m c := by
  rw [middle, feats0_at, rows_at, keep_arg0, keep_arg6]

theorem feats1_eq : (middle m c (Proc.devRef .tc main_v87) : S256x64x256.Idx → EReal) = feats1 m c := by
  rw [middle, feats1_at, cols_at, keep_arg1, keep_arg7]

theorem mask0_eq : (middle m c (Proc.devRef .tc main_v60) : IVec S256x64 1) = mask0 m c := by
  rw [middle, mask0_at, rows_at, keep_arg8]

theorem mask1_eq : (middle m c (Proc.devRef .tc main_v67) : IVec S256x64 1) = mask1 m c := by
  rw [middle, mask1_at, cols_at, keep_arg9]

theorem v88_at (b : Fin 256) (i : Fin 64) (k : Fin 256) : (V m c main_v88 : S256x72x256.Idx → EReal) (ix3 b ⟨i, by omega⟩ k) = feats0 m c (ix3 b i k) := by
  rw [start, v88_eq, feats0_eq]
  exact pad3_72 _ _ b i k

theorem v89_at (b : Fin 256) (i : Fin 64) (k : Fin 256) : (V m c main_v89 : S256x128x256.Idx → EReal) (ix3 b ⟨i, by omega⟩ k) = feats1 m c (ix3 b i k) := by
  rw [start, v89_eq, feats1_eq]
  exact pad3_128 _ _ b i k

theorem v94_at (b : Fin 256) (i : Fin 72) : (V m c main_v94 : S256x72.Idx → EReal) (ix2 b i) = (if (i : ℕ) ∈ kept (mask0 m c) b then (1 : EReal) else 0) := by
  rw [start, v94_eq, mask0_eq]
  generalize mask0 m c = M
  refine (column72 _ _ b i).trans ?_
  by_cases h : (i : ℕ) = 64
  · rw [if_pos h, h, if_pos (last_kept _ b)]
    pointwise
  · rw [if_neg h]
    exact pad2_72 _ b i h

theorem v99_at (b : Fin 256) (i : Fin 128) : (V m c main_v99 : S256x128.Idx → EReal) (ix2 b i) = (if (i : ℕ) ∈ kept (mask1 m c) b then (1 : EReal) else 0) := by
  rw [start, v99_eq, mask1_eq]
  generalize mask1 m c = M
  refine (column128 _ _ b i).trans ?_
  by_cases h : (i : ℕ) = 64
  · rw [if_pos h, h, if_pos (last_kept _ b)]
    pointwise
  · rw [if_neg h]
    exact pad2_128 _ b i h

end

end Cert.MatchingHost

end
-- ==== Proof.MatchingArray.lean ====
module

public import proofs.«01_k».proof.Proof.MatchingOut
public import proofs.«01_k».proof.Proof.MatchingHost
public import Idealize.ShloMosaic.Lib.Pipeline.ValueKit

@[expose] public section

set_option maxRecDepth 16384

noncomputable section

open Idealize.ShloMosaic Idealize.ShloMosaic.TcCoe Idealize.SL.Sem
open Cert.MatchingIdeal Cert.MatchingIdeal.Gen Cert.Sinkhorn Cert.Entries
open Cert.MatchingHost (feats0 feats1 mask0 mask1 alpha)

namespace Cert.MatchingArray
variable (m : (ℓ : Loc nD τ sig) → Buf (Elt Ideal) ℓ)

/-- Block `t` holds batches `32 t` to `32 t + 31`. -/
theorem idx (t : Fin cfg0.N) : win0_0.index t 0 = 0 ∧ (win0_1.index t 0 = (t : ℕ) ∧ win0_1.index t 1 = 0 ∧ win0_1.index t 2 = 0)
    ∧ (win0_2.index t 0 = (t : ℕ) ∧ win0_2.index t 1 = 0 ∧ win0_2.index t 2 = 0) ∧ (win0_3.index t 0 = (t : ℕ) ∧ win0_3.index t 1 = 0)
    ∧ (win0_4.index t 0 = (t : ℕ) ∧ win0_4.index t 1 = 0) ∧ (win0_5.index t 0 = (t : ℕ) ∧ win0_5.index t 1 = 0 ∧ win0_5.index t 2 = 0) := by
  revert t
  decide +kernel

def batch (t : Fin cfg0.N) (r : Fin 32) : Fin 256 := ⟨(t : ℕ) * 32 + r, by have : (t : ℕ) < 8 := t.isLt; omega⟩

theorem iblk0_at (c : Dev nD) (t : Fin cfg0.N) : (iblk m c 0 t : S1.Idx → EReal) (ix1 0) = alpha m c (ix1 0) := by
  blk_ext [iblk, V_main_arg10, idx t]

theorem iblk1_at (c : Dev nD) (t : Fin cfg0.N) (r : Fin 32) (i : Fin 72) (k : Fin 256) :
    (iblk m c 1 t : S32x72x256.Idx → EReal) (ix3 r i k) = (V m c main_v88 : S256x72x256.Idx → EReal) (ix3 (batch t r) i k) := by
  blk_ext [iblk, idx t, batch]

theorem iblk2_at (c : Dev nD) (t : Fin cfg0.N) (r : Fin 32) (i : Fin 128) (k : Fin 256) :
    (iblk m c 2 t : S32x128x256.Idx → EReal) (ix3 r i k) = (V m c main_v89 : S256x128x256.Idx → EReal) (ix3 (batch t r) i k) := by
  blk_ext [iblk, idx t, batch]

theorem iblk3_at (c : Dev nD) (t : Fin cfg0.N) (r : Fin 32) (i : Fin 72) :
    (iblk m c 3 t : S32x72.Idx → EReal) (ix2 r i) = (V m c main_v94 : S256x72.Idx → EReal) (ix2 (batch t r) i) := by
  blk_ext [iblk, idx t, batch]

theorem iblk4_at (c : Dev nD) (t : Fin cfg0.N) (r : Fin 32) (i : Fin 128) :
    (iblk m c 4 t : S32x128.Idx → EReal) (ix2 r i) = (V m c main_v99 : S256x128.Idx → EReal) (ix2 (batch t r) i) := by
  blk_ext [iblk, idx t, batch]

section
variable {m} {c : Dev nD} (hp : ∀ x, Cert.Pre_scores_at_most_13.fn (F := Ideal) (feats0 m c) (feats1 m c) (mask0 m c) (mask1 m c) (alpha m c) x = 1#1)
include hp

/-- What the body leaves in its output block. -/
theorem out_at (t : Fin cfg0.N) (r : Fin 32) (i j : Fin 65) :
    (outsAt0 m c t : S32x65x65.Idx → EReal) (ix3 r i j) = value (feats0 m c) (feats1 m c) (mask0 m c) (mask1 m c) (alpha m c) (batch t r) i j := by
  rw [MatchingOut.out_eq]
  refine KernelBlock.block_at (kept_ok hp (batch t r)) (fun i => ?_) (fun j => ?_) (fun i j hi hj => ?_) i j
  · rw [iblk3_at, MatchingHost.v94_at]
  · rw [iblk4_at, MatchingHost.v99_at]
  · refine Eq.trans ?_ (score_small hp (batch t r) hi hj).2
    have hi' := Finset.mem_range.1 ((kept_ok hp (batch t r)).rows hi)
    have hj' := Finset.mem_range.1 ((kept_ok hp (batch t r)).cols hj)
    unfold score
    by_cases h : (i : ℕ) < 64 ∧ (j : ℕ) < 64
    · rw [dif_pos h, if_neg (by omega)]
      refine congrArg (· * _) (Finset.sum_congr rfl fun k _ => ?_)
      rw [iblk1_at, iblk2_at]
      exact congrArg₂ (· * ·) (MatchingHost.v88_at m c (batch t r) ⟨i, h.1⟩ k) (MatchingHost.v89_at m c (batch t r) ⟨j, h.2⟩ k)
    · rw [dif_neg h, if_pos (by omega)]
      exact iblk0_at m c t

theorem out_at' (t : Fin cfg0.N) (y : S32x65x65.Idx) :
    (outsAt0 m c t : S32x65x65.Idx → EReal) y = value (feats0 m c) (feats1 m c) (mask0 m c) (mask1 m c) (alpha m c) (batch t (y 0)) (y 1 : ℕ) (y 2 : ℕ) := by
  idx_vars y
  exact out_at hp t _ _ _

/-- The result array of the call. -/
theorem final : (dats m 0 c).arrAt 5 cfg0.N
    = fun x : S256x65x65.Idx => value (feats0 m c) (feats1 m c) (mask0 m c) (mask1 m c) (alpha m c) (x 0) (x 1 : ℕ) (x 2 : ℕ) := by
  refine (dats m 0 c).arrAt_eq_of_covers 5 _ (by decide +kernel) fun t _ y => ?_
  blk_simp
  rw [after0_5]
  refine (out_at' hp t y).trans ?_
  have hb : batch t (y 0) = (win0_5.blk t).view.emb y 0 := by
    apply Fin.ext
    blk_simp [idx t, batch]
  rw [hb, (idx t).2.2.2.2.2.2.1, (idx t).2.2.2.2.2.2.2, Nat.zero_mul, Nat.zero_add, Nat.zero_add]

end

end Cert.MatchingArray

end
-- ==== Proof.MatchingRefTrip.lean ====
/- One trip of the reference of the matching, read at an entry. It is the trip of `RefTrip`, in a program with other buffers. -/
module

public import proofs.«01_k».proof.Proof.RefTrip
public import proofs.«01_k».proof.Proof.Gen.MatchingReferenceIdeal.Run
public import Idealize.ShloMosaic.Lib.Pointwise

@[expose] public section

set_option maxRecDepth 16384

noncomputable section

open Idealize.ShloMosaic Idealize.ShloMosaic.TcCoe Idealize.SL.Sem
open Cert.MatchingReferenceIdeal Cert.MatchingReferenceIdeal.Gen Cert.MatchingReferenceIdeal.Value Cert.Sinkhorn
open Cert.RefTrip (shift_real rowMax_at colMax_at shift_at row_at' col_at')

namespace Cert.MatchingRefTrip
variable (V : Valuation τ sig (Elt Ideal))

abbrev scores : S256x65x65.Idx → EReal := V (Proc.devRef .tc main_v141_0)
abbrev rowWeights : S256x65.Idx → EReal := V (Proc.devRef .tc main_v141_1)
abbrev colWeights : S256x65.Idx → EReal := V (Proc.devRef .tc main_v141_2)
abbrev rowPot : S256x65.Idx → EReal := V (Proc.devRef .tc main_v141_5)
abbrev colPot : S256x65.Idx → EReal := V (Proc.devRef .tc main_v141_6)

theorem sums_at (b : Fin 256) (i j : Fin 65) : (res_main_while0b_v151 V : S256x65x65.Idx → EReal) (ix3 b i j) = scores V (ix3 b i j) + colPot V (ix2 b j) := by
  unfold res_main_while0b_v151
  pointwise

theorem sums2_at (b : Fin 256) (i j : Fin 65) :
    (res_main_while0b_v166 V : S256x65x65.Idx → EReal) (ix3 b i j) = scores V (ix3 b i j) + (res_main_while0b_v163 V : S256x65.Idx → EReal) (ix2 b i) := by
  unfold res_main_while0b_v166
  pointwise

/-- The arrays of the loop hold one pair's scores and weights, and the column potential so far. -/
structure Holds (A B : Finset ℕ) (Z : ℕ → ℕ → ℝ) (b : Fin 256) (k : ℕ) : Prop where
  kept : Kept A B Z
  real : ∀ i j : Fin 65, (i : ℕ) ∈ A → (j : ℕ) ∈ B → scores V (ix3 b i j) = (Z i j : EReal)
  bot : ∀ i j : Fin 65, ¬((i : ℕ) ∈ A ∧ (j : ℕ) ∈ B) → scores V (ix3 b i j) = ⊥
  row : ∀ i : Fin 65, rowWeights V (ix2 b i) = ext A (logWeight Consts.eps A B) i
  col : ∀ j : Fin 65, colWeights V (ix2 b j) = ext B (logWeight Consts.eps B A) j
  pot : ∀ j : Fin 65, (j : ℕ) ∈ B → colPot V (ix2 b j) = ((potentials A B Z k).2 j : EReal)

section
variable {V} {A B : Finset ℕ} {Z : ℕ → ℕ → ℝ} {b : Fin 256} {k : ℕ} (h : Holds V A B Z b k)
include h

theorem sums_ext (i j : Fin 65) (hi : (i : ℕ) ∈ A) :
    (res_main_while0b_v151 V : S256x65x65.Idx → EReal) (ix3 b i j) = ext B (fun j => Z i j + (potentials A B Z k).2 j) j := by
  rw [sums_at]
  by_cases hj : (j : ℕ) ∈ B
  · rw [ext_mem hj, h.real i j hi hj, h.pot j hj, EReal.coe_add]
  · rw [ext_notMem hj, h.bot i j fun hh => hj hh.2, EReal.bot_add]

/-- The row potential after the trip. -/
theorem row_at (i : Fin 65) : (res_main_while0b_v163 V : S256x65.Idx → EReal) (ix2 b i) = ext A (potentials A B Z (k + 1)).1 i := by
  unfold res_main_while0b_v163
  refine (row_at' _ _ _ b i).trans ?_
  refine (reference_half h.kept.cols ⟨_, h.kept.col64⟩ (h.row i) (fun hi j => sums_ext h i j hi) fun hi => ?_)
  unfold res_main_while0b_v155
  rw [shift_at]
  refine shift_real ?_
  unfold res_main_while0b_v152
  obtain ⟨r, hr⟩ := fold_max_real h.kept.cols ⟨_, h.kept.col64⟩ (fun j => sums_ext h i j hi)
  exact ⟨r, (rowMax_at _ b i).trans hr⟩

theorem sums2_ext (i j : Fin 65) (hj : (j : ℕ) ∈ B) :
    (res_main_while0b_v166 V : S256x65x65.Idx → EReal) (ix3 b i j) = ext A (fun i => Z i j + (potentials A B Z (k + 1)).1 i) i := by
  rw [sums2_at, row_at h]
  exact add_ext fun hi => h.real i j hi hj

/-- The column potential after the trip. -/
theorem col_at (j : Fin 65) : (step_main_v141_6 V : S256x65.Idx → EReal) (ix2 b j) = ext B (potentials A B Z (k + 1)).2 j := by
  unfold step_main_v141_6
  simp only [id_eq]
  refine (col_at' _ _ _ b j).trans ?_
  refine (reference_half (Z := fun j i => Z i j) h.kept.rows ⟨_, h.kept.row64⟩ (h.col j) (fun hj i => sums2_ext h i j hj) fun hj => ?_)
  unfold res_main_while0b_v170
  rw [shift_at]
  refine shift_real ?_
  unfold res_main_while0b_v167
  obtain ⟨r, hr⟩ := fold_max_real h.kept.rows ⟨_, h.kept.row64⟩ (fun i => sums2_ext h i j hj)
  exact ⟨r, (colMax_at _ b j).trans hr⟩

/-- One trip keeps what the arrays hold. -/
theorem trip : Holds (STEP V) A B Z b (k + 1) where
  kept := h.kept
  real := fun i j hi hj => (congrFun (STEP_main_v141_0 V) _).trans (h.real i j hi hj)
  bot := fun i j hh => (congrFun (STEP_main_v141_0 V) _).trans (h.bot i j hh)
  row := fun i => (congrFun (STEP_main_v141_1 V) _).trans (h.row i)
  col := fun j => (congrFun (STEP_main_v141_2 V) _).trans (h.col j)
  pot := fun j hj => ((congrFun (STEP_main_v141_6 V) _).trans (col_at h j)).trans (ext_mem hj _)

/-- The arrays after `n` trips. -/
theorem trips (n : ℕ) : Holds (STEP^[n] V) A B Z b (k + n) := by
  induction n with
  | zero => exact h
  | succ n ih =>
    rw [Function.iterate_succ_apply']
    exact trip ih

/-- The row potential after `n + 1` trips. -/
theorem rowPot_at (n : ℕ) (i : Fin 65) : rowPot (STEP^[n + 1] V) (ix2 b i) = ext A (potentials A B Z (k + n + 1)).1 i := by
  rw [Function.iterate_succ_apply']
  refine (congrFun (STEP_main_v141_5 _) _).trans ?_
  unfold step_main_v141_5
  simp only [id_eq]
  exact row_at (trips h n) i

/-- The column potential after `n + 1` trips. -/
theorem colPot_at (n : ℕ) (j : Fin 65) : colPot (STEP^[n + 1] V) (ix2 b j) = ext B (potentials A B Z (k + n + 1)).2 j := by
  rw [Function.iterate_succ_apply']
  exact (congrFun (STEP_main_v141_6 _) _).trans (col_at (trips h n) j)

end

end Cert.MatchingRefTrip

end
-- ==== Proof.MatchingRefEntry.lean ====
/- What the matching's reference holds when its loop starts, from the gathered features and masks. -/
module

public import proofs.«01_k».proof.Proof.RefEntry
public import proofs.«01_k».proof.Proof.MatchingRefTrip
public import proofs.«01_k».proof.Proof.Gathered
public import Idealize.ShloMosaic.Lib.StableHlo.RunClose

@[expose] public section

set_option maxRecDepth 16384

noncomputable section

open Idealize.ShloMosaic Idealize.ShloMosaic.TcCoe Idealize.SL.Sem Idealize.ShloMosaic.StableHlo
open Cert.MatchingReferenceIdeal Cert.MatchingReferenceIdeal.Gen Cert.MatchingReferenceIdeal.Value Cert.Sinkhorn Cert.Entries
open Cert.RefEntry (masked weights counts norms masked_at weights_at counts_at norms_at zero_at)

namespace Cert.MatchingRefEntry

section
variable (X : Valuation τ sig (Elt Ideal))

/-- The gathered features and masks, from the memory before the gathers. -/
abbrev feats0' : FVec Ideal S256x64x256 .f32 := Gathered.featuresOf (X (Proc.devRef .tc main_arg0)) (Gathered.pick (X (Proc.devRef .tc main_arg6)) (X (Proc.devRef .tc main_v38)))
abbrev feats1' : FVec Ideal S256x64x256 .f32 := Gathered.featuresOf (X (Proc.devRef .tc main_arg1)) (Gathered.pick (X (Proc.devRef .tc main_arg7)) (X (Proc.devRef .tc main_v39)))
abbrev mask0' : IVec S256x64 1 := Gathered.pick (X (Proc.devRef .tc main_arg8)) (X (Proc.devRef .tc main_v38))
abbrev mask1' : IVec S256x64 1 := Gathered.pick (X (Proc.devRef .tc main_arg9)) (X (Proc.devRef .tc main_v39))
abbrev alpha' : FVec Ideal S1 .f32 := X (Proc.devRef .tc main_arg10)

/-- The memory after the gathers. -/
abbrev gathered_end : Valuation τ sig (Elt Ideal) := after (List.take 62 hostOps0_9) X

theorem feats0_at : gathered_end X (Proc.devRef .tc main_v80) = feats0' X := by
  simp only [gathered_end, hostOps0_9, List.take_succ_cons, List.take_zero]
  after_results_simp
  rfl

theorem feats1_at : gathered_end X (Proc.devRef .tc main_v87) = feats1' X := by
  simp only [gathered_end, hostOps0_9, List.take_succ_cons, List.take_zero]
  after_results_simp
  rfl

theorem mask0_at : gathered_end X (Proc.devRef .tc main_v60) = mask0' X := by
  simp only [gathered_end, hostOps0_9, List.take_succ_cons, List.take_zero]
  after_results_simp
  rfl

theorem mask1_at : gathered_end X (Proc.devRef .tc main_v67) = mask1' X := by
  simp only [gathered_end, hostOps0_9, List.take_succ_cons, List.take_zero]
  after_results_simp
  rfl

theorem alpha_at : gathered_end X (Proc.devRef .tc main_arg10) = alpha' X := by
  simp only [gathered_end, hostOps0_9, List.take_succ_cons, List.take_zero]
  after_results_simp

/-- The memory when the loop starts, from the memory after the gathers. -/
abbrev rest_end : Valuation τ sig (Elt Ideal) :=
  after hostOps0_15 (after hostOps0_14 (after hostOps0_13 (after hostOps0_12 (after hostOps0_11 (after hostOps0_10 (after (List.drop 62 hostOps0_9) X))))))

theorem scores_rest : rest_end X (Proc.devRef .tc main_v141_0)
    = masked (X (Proc.devRef .tc main_v80)) (X (Proc.devRef .tc main_v87)) (X (Proc.devRef .tc main_v60)) (X (Proc.devRef .tc main_v67)) (X (Proc.devRef .tc main_arg10)) := by
  simp only [rest_end, hostOps0_9, List.drop_succ_cons, List.drop_zero]
  after_reads_simp
  rfl

theorem kept_rest : rest_end X (Proc.devRef .tc main_v111)
    = masked (X (Proc.devRef .tc main_v80)) (X (Proc.devRef .tc main_v87)) (X (Proc.devRef .tc main_v60)) (X (Proc.devRef .tc main_v67)) (X (Proc.devRef .tc main_arg10)) := by
  simp only [rest_end, hostOps0_9, List.drop_succ_cons, List.drop_zero]
  after_reads_simp
  rfl

set_option maxRecDepth 200000 in
theorem rowWeights_rest : rest_end X (Proc.devRef .tc main_v141_1)
    = weights (X (Proc.devRef .tc main_v60)) (counts (X (Proc.devRef .tc main_v67))) (norms (X (Proc.devRef .tc main_v60)) (X (Proc.devRef .tc main_v67))) := by
  simp only [rest_end, hostOps0_9, List.drop_succ_cons, List.drop_zero]
  after_reads_simp
  rfl

set_option maxRecDepth 200000 in
theorem colWeights_rest : rest_end X (Proc.devRef .tc main_v141_2)
    = weights (X (Proc.devRef .tc main_v67)) (counts (X (Proc.devRef .tc main_v60))) (norms (X (Proc.devRef .tc main_v60)) (X (Proc.devRef .tc main_v67))) := by
  simp only [rest_end, hostOps0_9, List.drop_succ_cons, List.drop_zero]
  after_reads_simp
  rfl

theorem colPot_rest : rest_end X (Proc.devRef .tc main_v141_6) = broadcastInDim S256x65 ![] bcast_S_S256x65 (constant (F := Ideal) S_ .f32 0x00000000#32) := by
  simp only [rest_end, hostOps0_9, List.drop_succ_cons, List.drop_zero]
  after_reads_simp
  rfl

end

section
variable (m : (ℓ : Loc nD τ sig) → Buf (Elt Ideal) ℓ) (c : Dev nD)

/-- The scores of the coarse points. -/
abbrev coarse : FVec Ideal S256x256 .f32 :=
  Gathered.paired (m (c, Proc.tc.devRef main_arg2)) (m (c, Proc.tc.devRef main_arg3)) (m (c, Proc.tc.devRef main_arg4)) (m (c, Proc.tc.devRef main_arg5))

abbrev feats0 : FVec Ideal S256x64x256 .f32 := Gathered.featuresOf (m (c, Proc.tc.devRef main_arg0)) (Gathered.pick (m (c, Proc.tc.devRef main_arg6)) (Gathered.rows (coarse m c)))
abbrev feats1 : FVec Ideal S256x64x256 .f32 := Gathered.featuresOf (m (c, Proc.tc.devRef main_arg1)) (Gathered.pick (m (c, Proc.tc.devRef main_arg7)) (Gathered.cols (coarse m c)))
abbrev mask0 : IVec S256x64 1 := Gathered.pick (m (c, Proc.tc.devRef main_arg8)) (Gathered.rows (coarse m c))
abbrev mask1 : IVec S256x64 1 := Gathered.pick (m (c, Proc.tc.devRef main_arg9)) (Gathered.cols (coarse m c))
abbrev alpha : FVec Ideal S1 .f32 := m (c, Proc.tc.devRef main_arg10)

/-- The memory before the gathers. -/
abbrev before : Valuation τ sig (Elt Ideal) := Gathered.lists_end fun b => m (c, b)

theorem entry_eq : entryContents preI m c = rest_end (gathered_end (before m c)) := by
  simp only [entryContents, preI, afterL_cons, afterL_nil]
  rw [← List.take_append_drop 62 hostOps0_9, after_append]

theorem feats0_eq : gathered_end (before m c) (Proc.devRef .tc main_v80) = feats0 m c := by
  rw [feats0_at, feats0', before, Gathered.rows_at, Gathered.lists_keep _ main_arg0 (by decide), Gathered.lists_keep _ main_arg6 (by decide)]

theorem feats1_eq : gathered_end (before m c) (Proc.devRef .tc main_v87) = feats1 m c := by
  rw [feats1_at, feats1', before, Gathered.cols_at, Gathered.lists_keep _ main_arg1 (by decide), Gathered.lists_keep _ main_arg7 (by decide)]

theorem mask0_eq : gathered_end (before m c) (Proc.devRef .tc main_v60) = mask0 m c := by
  rw [mask0_at, mask0', before, Gathered.rows_at, Gathered.lists_keep _ main_arg8 (by decide)]

theorem mask1_eq : gathered_end (before m c) (Proc.devRef .tc main_v67) = mask1 m c := by
  rw [mask1_at, mask1', before, Gathered.cols_at, Gathered.lists_keep _ main_arg9 (by decide)]

theorem alpha_eq : gathered_end (before m c) (Proc.devRef .tc main_arg10) = alpha m c :=
  (alpha_at _).trans (Gathered.lists_keep _ main_arg10 (by decide))

theorem scores_eq : entryContents preI m c (Proc.devRef .tc main_v141_0) = masked (feats0 m c) (feats1 m c) (mask0 m c) (mask1 m c) (alpha m c) := by
  rw [entry_eq, scores_rest, feats0_eq, feats1_eq, mask0_eq, mask1_eq, alpha_eq]

theorem scores_kept : entryContents preI m c (Proc.devRef .tc main_v111) = masked (feats0 m c) (feats1 m c) (mask0 m c) (mask1 m c) (alpha m c) := by
  rw [entry_eq, kept_rest, feats0_eq, feats1_eq, mask0_eq, mask1_eq, alpha_eq]

theorem rowWeights_eq : entryContents preI m c (Proc.devRef .tc main_v141_1) = weights (mask0 m c) (counts (mask1 m c)) (norms (mask0 m c) (mask1 m c)) := by
  rw [entry_eq, rowWeights_rest, mask0_eq, mask1_eq]

theorem colWeights_eq : entryContents preI m c (Proc.devRef .tc main_v141_2) = weights (mask1 m c) (counts (mask0 m c)) (norms (mask0 m c) (mask1 m c)) := by
  rw [entry_eq, colWeights_rest, mask0_eq, mask1_eq]

theorem colPot_eq : entryContents preI m c (Proc.devRef .tc main_v141_6) = broadcastInDim S256x65 ![] bcast_S_S256x65 (constant (F := Ideal) S_ .f32 0x00000000#32) := by
  rw [entry_eq, colPot_rest]

end

section
variable {m : (ℓ : Loc nD τ sig) → Buf (Elt Ideal) ℓ} {c : Dev nD}
  (hp : ∀ x, Pre_scores_at_most_13.fn (F := Ideal) (feats0 m c) (feats1 m c) (mask0 m c) (mask1 m c) (alpha m c) x = 1#1)
include hp

/-- Before its first trip the reference holds the pair's scores and log weights, and zero potentials. -/
theorem holds (b : Fin 256) : MatchingRefTrip.Holds (entryContents preI m c) (kept (mask0 m c) b) (kept (mask1 m c) b)
    (fun i j => (score (feats0 m c) (feats1 m c) (alpha m c) b i j).toReal) b 0 where
  kept := kept_ok hp b
  real := fun i j hi hj => by
    rw [MatchingRefTrip.scores, scores_eq, masked_at, if_pos ⟨hi, hj⟩]
    exact (score_small hp b hi hj).2
  bot := fun i j h => by
    rw [MatchingRefTrip.scores, scores_eq, masked_at, if_neg h]
  row := fun i => by
    rw [MatchingRefTrip.rowWeights, rowWeights_eq]
    exact weights_at (mask0 m c) _ _ b i _ (last_kept _ b) (counts_at _ b) (norms_at _ _ b)
  col := fun j => by
    rw [MatchingRefTrip.colWeights, colWeights_eq]
    exact weights_at (mask1 m c) _ _ b j _ (last_kept _ b) (counts_at _ b) ((norms_at _ _ b).trans (by rw [norm_comm]))
  pot := fun j hj => by
    rw [MatchingRefTrip.colPot, colPot_eq, zero_at]
    rfl

end

end Cert.MatchingRefEntry

end
-- ==== Proof.MatchingRefArray.lean ====
/- The result of the matching's reference: its loop leaves the masked scores alone, and the last stretch adds the two potentials to them. -/
module

public import proofs.«01_k».proof.Proof.RefArray
public import proofs.«01_k».proof.Proof.MatchingRefEntry
public import Idealize.ShloMosaic.Lib.Quiescent

@[expose] public section

set_option maxRecDepth 16384

noncomputable section

open Idealize.ShloMosaic Idealize.ShloMosaic.TcCoe Idealize.SL.Sem Idealize.ShloMosaic.StableHlo
open Cert.MatchingReferenceIdeal Cert.MatchingReferenceIdeal.Gen Cert.MatchingReferenceIdeal.Value Cert.Sinkhorn Cert.Entries Cert.MatchingRefEntry
open Cert.RefEntry (masked masked_at)
open Cert.RefArray (total total_at)

namespace Cert.MatchingRefArray

/-- The buffers that a trip writes. -/
abbrev tripWrites : List (Ref sig .tc) := condOps_W ++ while0Ops0_W ++ while0Ops0_1_W ++ while0Ops0_2_W ++ while0Ops0_3_W ++ while0Ops0_4_W

/-- A trip leaves every other buffer as it was. -/
theorem trip_keeps (X : Valuation τ sig (Elt Ideal)) (r : Ref sig .tc) (h : r ∉ tripWrites) :
    afterL bodyI (after condOps X) (Proc.devRef .tc r) = X (Proc.devRef .tc r) := by
  simp only [tripWrites, List.mem_append, not_or] at h
  obtain ⟨⟨⟨⟨⟨h, h0⟩, h1⟩, h2⟩, h3⟩, h4⟩ := h
  simp only [afterL_cons, afterL_nil]
  rw [after_of_writes_sub while0Ops0_4 _ while0Ops0_4_writes h4, after_of_writes_sub while0Ops0_3 _ while0Ops0_3_writes h3,
    after_of_writes_sub while0Ops0_2 _ while0Ops0_2_writes h2, after_of_writes_sub while0Ops0_1 _ while0Ops0_1_writes h1,
    after_of_writes_sub while0Ops0 _ while0Ops0_writes h0, after_of_writes_sub condOps _ condOps_writes h]

/-- So does the whole loop. -/
theorem loop_keeps (m : (ℓ : Loc nD τ sig) → Buf (Elt Ideal) ℓ) (c : Dev nD) (r : Ref sig .tc) (h : r ∉ tripWrites) :
    ∀ k, atK m k c (Proc.devRef .tc r) = entryContents preI m c (Proc.devRef .tc r)
  | 0 => rfl
  | k + 1 => (trip_keeps (atK m k c) r h).trans (loop_keeps m c r h k)

/-- The buffers that the stretches before the loop write. -/
abbrev preWrites : List (Ref sig .tc) := hostOps0_W ++ hostOps0_1_W ++ hostOps0_2_W ++ hostOps0_3_W ++ hostOps0_4_W ++ hostOps0_5_W ++ hostOps0_6_W ++ hostOps0_7_W ++ hostOps0_8_W ++ hostOps0_9_W ++ hostOps0_10_W ++ hostOps0_11_W ++ hostOps0_12_W ++ hostOps0_13_W ++ hostOps0_14_W ++ hostOps0_15_W

/-- The buffers that the stretch after the loop writes. -/
abbrev postWrites : List (Ref sig .tc) := [main_v142, main_v143, main_v144, main_v145, main_v146, main_v147]

theorem post_writes : (hostOps0_16 : List (HloOp τ sig (Elt Ideal))).Forall fun op => op.writes ⊆ (postWrites.map (Proc.devRef (τ := τ) .tc)).toFinset :=
  forall_writes_sub_of_map rfl

/-- A buffer that no operation writes ends as it began. -/
theorem arg_kept (m : (ℓ : Loc nD τ sig) → Buf (Elt Ideal) ℓ) (c : Dev nD) (r : Ref sig .tc) (h : r ∉ preWrites) (h' : r ∉ tripWrites) (h'' : r ∉ postWrites) :
    finalContents condOps preI bodyI postI 100 m c (Proc.devRef .tc r) = m (c, Proc.devRef .tc r) := by
  have hc : r ∉ condOps_W := fun hr => h' (by simp only [tripWrites, List.mem_append]; tauto)
  simp only [preWrites, List.mem_append, not_or] at h
  obtain ⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩ := h
  unfold finalContents
  simp only [postI, afterL_cons, afterL_nil]
  rw [after_of_writes_sub hostOps0_16 _ post_writes h'', after_of_writes_sub condOps _ condOps_writes hc]
  refine (loop_keeps m c r h' 100).trans ?_
  simp only [entryContents, preI, afterL_cons, afterL_nil]
  rw [after_of_writes_sub hostOps0_15 _ hostOps0_15_writes h15, after_of_writes_sub hostOps0_14 _ hostOps0_14_writes h14,
    after_of_writes_sub hostOps0_13 _ hostOps0_13_writes h13, after_of_writes_sub hostOps0_12 _ hostOps0_12_writes h12,
    after_of_writes_sub hostOps0_11 _ hostOps0_11_writes h11, after_of_writes_sub hostOps0_10 _ hostOps0_10_writes h10,
    after_of_writes_sub hostOps0_9 _ hostOps0_9_writes h9, after_of_writes_sub hostOps0_8 _ hostOps0_8_writes h8,
    after_of_writes_sub hostOps0_7 _ hostOps0_7_writes h7, after_of_writes_sub hostOps0_6 _ hostOps0_6_writes h6,
    after_of_writes_sub hostOps0_5 _ hostOps0_5_writes h5, after_of_writes_sub hostOps0_4 _ hostOps0_4_writes h4,
    after_of_writes_sub hostOps0_3 _ hostOps0_3_writes h3, after_of_writes_sub hostOps0_2 _ hostOps0_2_writes h2,
    after_of_writes_sub hostOps0_1 _ hostOps0_1_writes h1, after_of_writes_sub hostOps0 _ hostOps0_writes h0]

theorem post_eq (X : Valuation τ sig (Elt Ideal)) : afterL postI X (Proc.devRef .tc main_v147)
    = total (X (Proc.devRef .tc main_v111)) (X (Proc.devRef .tc main_v141_5)) (X (Proc.devRef .tc main_v141_6)) := by
  simp only [postI, afterL_cons, afterL_nil]
  after_reads_simp
  rfl

section
variable {m : (ℓ : Loc nD τ sig) → Buf (Elt Ideal) ℓ} {c : Dev nD}
  (hp : ∀ x, Pre_scores_at_most_13.fn (F := Ideal) (feats0 m c) (feats1 m c) (mask0 m c) (mask1 m c) (alpha m c) x = 1#1)
include hp

/-- The array that the reference returns. -/
theorem final : finalContents condOps preI bodyI postI 100 m c (Proc.devRef .tc main_v147)
    = fun x : S256x65x65.Idx => value (feats0 m c) (feats1 m c) (mask0 m c) (mask1 m c) (alpha m c) (x 0) (x 1 : ℕ) (x 2 : ℕ) := by
  unfold finalContents
  rw [post_eq]
  have hs : after condOps (atTrip condOps bodyI (entryContents preI m) 100 c) (Proc.devRef .tc main_v111)
      = masked (feats0 m c) (feats1 m c) (mask0 m c) (mask1 m c) (alpha m c) :=
    (after_of_writes_sub condOps _ condOps_writes (by decide +kernel)).trans ((loop_keeps m c main_v111 (by decide +kernel) 100).trans (scores_kept m c))
  have hu := (cond_keeps (atTrip condOps bodyI (entryContents preI m) 100 c) main_v141_5 (by decide)).trans (atK_agree m c 100 main_v141_5 (by decide))
  have hv := (cond_keeps (atTrip condOps bodyI (entryContents preI m) 100 c) main_v141_6 (by decide)).trans (atK_agree m c 100 main_v141_6 (by decide))
  rw [hs, hu, hv]
  have at_entry : ∀ (b : Fin 256) (i j : Fin 65), total (masked (feats0 m c) (feats1 m c) (mask0 m c) (mask1 m c) (alpha m c))
      (STEP^[100] (entryContents preI m c) (Proc.devRef .tc main_v141_5)) (STEP^[100] (entryContents preI m c) (Proc.devRef .tc main_v141_6)) (ix3 b i j)
        = value (feats0 m c) (feats1 m c) (mask0 m c) (mask1 m c) (alpha m c) b i j := by
    intro b i j
    refine (total_at _ _ _ b i j).trans ?_
    refine (congrArg₂ (· + ·) (congrArg₂ (· + ·) rfl (MatchingRefTrip.rowPot_at (holds hp b) 99 i)) (MatchingRefTrip.colPot_at (holds hp b) 99 j)).trans ?_
    refine result_eq fun hi hj => ?_
    rw [masked_at, if_pos ⟨hi, hj⟩]
    exact (score_small hp b hi hj).2
  funext x
  idx_vars x
  exact at_entry _ _ _

end

/-- Every run of the reference ends with its result array at the fold and its arguments as they were. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v147) = finalContents condOps preI bodyI postI 100 m c (Proc.devRef .tc main_v147)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨h c main_v147 rfl,
      (h c main_arg0 rfl).trans (arg_kept m c _ (by decide +kernel) (by decide +kernel) (by decide +kernel)),
      (h c main_arg1 rfl).trans (arg_kept m c _ (by decide +kernel) (by decide +kernel) (by decide +kernel)),
      (h c main_arg2 rfl).trans (arg_kept m c _ (by decide +kernel) (by decide +kernel) (by decide +kernel)),
      (h c main_arg3 rfl).trans (arg_kept m c _ (by decide +kernel) (by decide +kernel) (by decide +kernel)),
      (h c main_arg4 rfl).trans (arg_kept m c _ (by decide +kernel) (by decide +kernel) (by decide +kernel)),
      (h c main_arg5 rfl).trans (arg_kept m c _ (by decide +kernel) (by decide +kernel) (by decide +kernel)),
      (h c main_arg6 rfl).trans (arg_kept m c _ (by decide +kernel) (by decide +kernel) (by decide +kernel)),
      (h c main_arg7 rfl).trans (arg_kept m c _ (by decide +kernel) (by decide +kernel) (by decide +kernel)),
      (h c main_arg8 rfl).trans (arg_kept m c _ (by decide +kernel) (by decide +kernel) (by decide +kernel)),
      (h c main_arg9 rfl).trans (arg_kept m c _ (by decide +kernel) (by decide +kernel) (by decide +kernel)),
      (h c main_arg10 rfl).trans (arg_kept m c _ (by decide +kernel) (by decide +kernel) (by decide +kernel))⟩)
    (run_fold m ρ)

/-- It also leaves every counter at zero: the program has none. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0 :=
  (θ_run defs _ _).mono (fun r h => ⟨fun c => (h c).2, sem_eq_zero_of_no_sems rfl _⟩) (run m ρ)

end Cert.MatchingRefArray

end
-- ==== Proof.MatchingPre.lean ====
/- The precondition of the matching is the optimal transport's, of the gathered features and masks. -/
module

public import proofs.«01_k».proof.Proof.Gathered
public import proofs.«01_k».proof.Proof.Gen.Pre_patch_scores_at_most_13
public import proofs.«01_k».proof.Proof.Gen.Pre_scores_at_most_13

@[expose] public section

set_option maxRecDepth 16384

noncomputable section

open Idealize.ShloMosaic Idealize.ShloMosaic.TcCoe
open Cert.MatchingReferenceIdeal

namespace Cert.MatchingPre

variable (F0 F1 : FVec Ideal S20000x256 .f32) (C0 C1 : FVec Ideal S256x256 .f32) (M N : IVec S256 1) (I J : IVec S256x64 32) (P Q : IVec S256x64 1)
  (a : FVec Ideal S1 .f32)

/-- The part after the scores of the coarse points, for any scores. -/
theorem part_eq (s : FVec Ideal S256x256 .f32) : Cert.Pre_patch_scores_at_most_13.fn_part2 (F := Ideal) F0 F1 I J P Q a (Gathered.dual s)
    = Cert.Pre_scores_at_most_13.fn (F := Ideal) (Gathered.featuresOf F0 (Gathered.pick I (Gathered.rows s))) (Gathered.featuresOf F1 (Gathered.pick J (Gathered.cols s)))
      (Gathered.pick P (Gathered.rows s)) (Gathered.pick Q (Gathered.cols s)) a := rfl

theorem fn_eq : Cert.Pre_patch_scores_at_most_13.fn (F := Ideal) F0 F1 C0 C1 M N I J P Q a
    = Cert.Pre_scores_at_most_13.fn (F := Ideal) (Gathered.featuresOf F0 (Gathered.pick I (Gathered.rows (Gathered.paired C0 C1 M N))))
      (Gathered.featuresOf F1 (Gathered.pick J (Gathered.cols (Gathered.paired C0 C1 M N))))
      (Gathered.pick P (Gathered.rows (Gathered.paired C0 C1 M N))) (Gathered.pick Q (Gathered.cols (Gathered.paired C0 C1 M N))) a :=
  Eq.trans rfl (part_eq F0 F1 I J P Q a (Gathered.paired C0 C1 M N))

end Cert.MatchingPre

end
-- ==== Proof.lean ====
/- The certificate of the optimal-transport kernel, of the nearest-points kernel, of the partition and of the matching. Kernel and reference run and change nothing but their result; the ideal
   kernel is the kernel with its two masking constants named; and over the extended reals both results are the one array
   `Cert.Entries.value`: `KernelArray` shows it of the kernel, `RefArray` of the reference. The nearest-points kernel goes the
   same way, with no constant named: its three arrays are `near`, `least` and `which` of `Cert.NearestEntries`, by `NearestArray`
   of the kernel and by `NearestRef` of the reference. The partition is that call with the host's lines after it: `PartitionTail`
   shows what the lines leave, and `PartitionRef` that the reference has the same. The matching is the optimal-transport call with
   the host's lines before it: both programs hold the arrays of `Gathered` when those lines end, and go on from them as above. -/
module

public import proofs.«01_k».proof.Defs
public import proofs.«01_k».proof.Proof.Gen.Matching
public import proofs.«01_k».proof.Proof.Gen.Matching.Frame
public import proofs.«01_k».proof.Proof.Gen.MatchingIdeal
public import proofs.«01_k».proof.Proof.Gen.MatchingIdeal.Frame
public import proofs.«01_k».proof.Proof.Gen.MatchingIdeal.Value
public import proofs.«01_k».proof.Proof.Gen.MatchingReferenceIdeal
public import proofs.«01_k».proof.Proof.Gen.MatchingReferenceIdeal.Run
public import proofs.«01_k».proof.Proof.Gen.Pre_patch_scores_at_most_13
public import proofs.«01_k».proof.Proof.Gen.Partition
public import proofs.«01_k».proof.Proof.Gen.Partition.Frame
public import proofs.«01_k».proof.Proof.Gen.PartitionIdeal
public import proofs.«01_k».proof.Proof.Gen.PartitionIdeal.Frame
public import proofs.«01_k».proof.Proof.Gen.PartitionReferenceIdeal
public import proofs.«01_k».proof.Proof.Gen.Nearest.Frame
public import proofs.«01_k».proof.Proof.Gen.NearestIdeal.Frame
public import proofs.«01_k».proof.Proof.Gen.NearestIdeal.Value
public import proofs.«01_k».proof.Proof.Gen.NearestReferenceIdeal.Run
public import proofs.«01_k».proof.Proof.Gen.KernelIdeal.Value
public import proofs.«01_k».proof.Proof.Gen.ReferenceIdeal.Run
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_scores_at_most_13
public import proofs.«01_k».proof.Proof.Gen.Pre_points_at_most_5e18
public import proofs.«01_k».proof.Proof.Gen.Nearest
public import proofs.«01_k».proof.Proof.Gen.NearestIdeal
public import proofs.«01_k».proof.Proof.Gen.NearestReferenceIdeal
public import proofs.«01_k».proof.Proof.KernelArray
public import proofs.«01_k».proof.Proof.RefArray
public import proofs.«01_k».proof.Proof.NearestArray
public import proofs.«01_k».proof.Proof.NearestRef
public import proofs.«01_k».proof.Proof.PartitionTail
public import proofs.«01_k».proof.Proof.PartitionRef
public import proofs.«01_k».proof.Proof.MatchingArray
public import proofs.«01_k».proof.Proof.MatchingRefArray
public import proofs.«01_k».proof.Proof.MatchingPre

@[expose] public section

noncomputable section

namespace Cert.Proof

open Idealize.ShloMosaic Idealize.SL.Sem

/-- From equal arguments that meet the precondition, kernel and reference end with the same array. -/
theorem same_result : Cert.algebraic_KernelIdeal_ReferenceIdeal_pre_scores_at_most_13 := by
  intro m g m' g' hpre hagree
  refine ⟨fun c => (Cert.KernelIdeal.Gen.dats m 0 c).arrAt 5 Cert.KernelIdeal.cfg0.N, Cert.KernelIdeal.Value.run_blocks m g, ?_⟩
  refine (θ_run _ _ _).mono (fun r h c => ⟨(h c).1.trans ?_, (h c).2⟩) (RefArray.run m' g')
  have hp : ∀ x, Cert.Pre_scores_at_most_13.fn (F := Ideal) (KernelArray.feats0 m c) (KernelArray.feats1 m c) (KernelArray.mask0 m c)
      (KernelArray.mask1 m c) (KernelArray.alpha m c) x = 1#1 := congrFun (hpre c)
  obtain ⟨h0, h1, h2, h3, h4⟩ := hagree c
  have e0 : RefEntry.feats0 m' c = KernelArray.feats0 m c := h0
  have e1 : RefEntry.feats1 m' c = KernelArray.feats1 m c := h1
  have e2 : RefEntry.mask0 m' c = KernelArray.mask0 m c := h2
  have e3 : RefEntry.mask1 m' c = KernelArray.mask1 m c := h3
  have e4 : RefEntry.alpha m' c = KernelArray.alpha m c := h4
  refine Eq.trans ?_ (KernelArray.final hp).symm
  rw [← e0, ← e1, ← e2, ← e3, ← e4] at hp ⊢
  exact RefArray.final hp

/-- The same of the nearest-points call and its three arrays. -/
theorem same_nearest : Cert.algebraic_NearestIdeal_NearestReferenceIdeal_pre_points_at_most_5e18 := by
  intro m g m' g' hpre hagree
  refine ⟨fun c => (Cert.NearestIdeal.Gen.dats m 0 c).arrAt 2 Cert.NearestIdeal.cfg0.N, fun c => (Cert.NearestIdeal.Gen.dats m 0 c).arrAt 3 Cert.NearestIdeal.cfg0.N,
    fun c => (Cert.NearestIdeal.Gen.dats m 0 c).arrAt 4 Cert.NearestIdeal.cfg0.N, Cert.NearestIdeal.Value.run_blocks m g, ?_⟩
  have hp : ∀ c x, Cert.Pre_points_at_most_5e18.fn (F := Ideal) (NearestArray.points m c) (NearestArray.centres m c) x = 1#1 := fun c => congrFun (hpre c)
  refine (θ_run _ _ _).mono (fun r h c => ?_) (Cert.NearestReferenceIdeal.Value.run m' g')
  have h := h c
  rw [(hagree c).1, (hagree c).2] at h
  rw [(hagree c).1, (hagree c).2]
  exact ⟨h.1.trans ((NearestRef.near_final (hp c)).trans (NearestArray.near_final m c).symm),
    h.2.1.trans ((NearestRef.least_final (hp c)).trans (NearestArray.least_final m c).symm),
    h.2.2.1.trans ((NearestRef.which_final (hp c)).trans (NearestArray.which_final m c).symm), h.2.2.2⟩

/-- The same of the partition and its four results. -/
theorem same_partition : Cert.algebraic_PartitionIdeal_PartitionReferenceIdeal_pre_points_at_most_5e18 := by
  intro m g m' g' hpre hagree
  refine ⟨fun c => PartitionTail.nodes (PartitionTail.points m c) (PartitionTail.centres m c),
    fun c => PartitionRef.used (PartitionTail.nodes (PartitionTail.points m c) (PartitionTail.centres m c)),
    fun c => PartitionTail.nears (PartitionTail.points m c) (PartitionTail.centres m c),
    fun c => PartitionRef.paired (PartitionTail.nodes (PartitionTail.points m c) (PartitionTail.centres m c)) (PartitionTail.nears (PartitionTail.points m c) (PartitionTail.centres m c)),
    PartitionTail.run m g, ?_⟩
  have hp : ∀ c x, Cert.Pre_points_at_most_5e18.fn (F := Ideal) (PartitionTail.points m c) (PartitionTail.centres m c) x = 1#1 := fun c => congrFun (hpre c)
  refine (θ_run _ _ _).mono (fun r h c => ?_) (PartitionRef.run m' g')
  have e : PartitionRef.away m' c = NearestRef.dist2 (PartitionTail.points m c) (PartitionTail.centres m c) :=
    congrArg₂ NearestRef.dist2 (hagree c).1 (hagree c).2
  have h := h c
  rw [e, PartitionRef.nodes_eq (hp c), PartitionRef.nearest_eq (hp c)] at h
  exact h

/-- The same of the matching. -/
theorem same_matching : Cert.algebraic_MatchingIdeal_MatchingReferenceIdeal_pre_patch_scores_at_most_13 := by
  intro m g m' g' hpre hagree
  refine ⟨fun c => (Cert.MatchingIdeal.Gen.dats m 0 c).arrAt 5 Cert.MatchingIdeal.cfg0.N, Cert.MatchingIdeal.Value.run_blocks m g, ?_⟩
  refine (θ_run _ _ _).mono (fun r h c => ⟨(h c).1.trans ?_, (h c).2⟩) (MatchingRefArray.run m' g')
  have hp : ∀ x, Cert.Pre_scores_at_most_13.fn (F := Ideal) (MatchingHost.feats0 m c) (MatchingHost.feats1 m c) (MatchingHost.mask0 m c)
      (MatchingHost.mask1 m c) (MatchingHost.alpha m c) x = 1#1 := congrFun ((MatchingPre.fn_eq _ _ _ _ _ _ _ _ _ _ _).symm.trans (hpre c))
  obtain ⟨h0, h1, h2, h3, h4, h5, h6, h7, h8, h9, h10⟩ := hagree c
  have es : MatchingRefEntry.coarse m' c = MatchingHost.coarse m c := by
    unfold MatchingRefEntry.coarse MatchingHost.coarse
    exact congr (congr (congrArg₂ Gathered.paired h2 h3) h4) h5
  have e0 : MatchingRefEntry.feats0 m' c = MatchingHost.feats0 m c := congrArg₂ Gathered.featuresOf h0 (congrArg₂ Gathered.pick h6 (congrArg Gathered.rows es))
  have e1 : MatchingRefEntry.feats1 m' c = MatchingHost.feats1 m c := congrArg₂ Gathered.featuresOf h1 (congrArg₂ Gathered.pick h7 (congrArg Gathered.cols es))
  have e2 : MatchingRefEntry.mask0 m' c = MatchingHost.mask0 m c := congrArg₂ Gathered.pick h8 (congrArg Gathered.rows es)
  have e3 : MatchingRefEntry.mask1 m' c = MatchingHost.mask1 m c := congrArg₂ Gathered.pick h9 (congrArg Gathered.cols es)
  have e4 : MatchingRefEntry.alpha m' c = MatchingHost.alpha m c := h10
  refine Eq.trans ?_ (MatchingArray.final hp).symm
  rw [← e0, ← e1, ← e2, ← e3, ← e4] at hp ⊢
  exact MatchingRefArray.final hp

theorem claim : Cert.Claim := ⟨Cert.Kernel.Gen.facts, Cert.KernelIdeal.Gen.facts, Cert.ReferenceIdeal.Gen.facts,
  Cert.Nearest.Gen.facts, Cert.NearestIdeal.Gen.facts, Cert.NearestReferenceIdeal.Gen.facts,
  Cert.Partition.Gen.facts, Cert.PartitionIdeal.Gen.facts, Cert.PartitionReferenceIdeal.Gen.facts,
  Cert.Matching.Gen.facts, Cert.MatchingIdeal.Gen.facts, Cert.MatchingReferenceIdeal.Gen.facts,
  Cert.Pre_scores_at_most_13.Gen.facts, Cert.Pre_points_at_most_5e18.Gen.facts, Cert.Pre_patch_scores_at_most_13.Gen.facts,
  fun m g _ => Cert.Kernel.Gen.frame m g,
  fun m g _ => Cert.KernelIdeal.Gen.frame m g,
  fun m g _ => Cert.KernelIdeal.Gen.frame m g,
  fun m g _ => RefArray.frame m g,
  fun m g _ => RefArray.frame m g,
  fun m g _ => Cert.Nearest.Gen.frame m g,
  fun m g _ => Cert.NearestIdeal.Gen.frame m g,
  fun m g _ => Cert.NearestIdeal.Gen.frame m g,
  fun m g _ => NearestRef.frame m g,
  fun m g _ => NearestRef.frame m g,
  fun m g _ => Cert.Partition.Gen.frame m g,
  fun m g _ => Cert.PartitionIdeal.Gen.frame m g,
  fun m g _ => Cert.PartitionIdeal.Gen.frame m g,
  fun m g _ => PartitionRef.frame m g,
  fun m g _ => PartitionRef.frame m g,
  fun m g _ => Cert.Matching.Gen.frame m g,
  fun m g _ => Cert.MatchingIdeal.Gen.frame m g,
  fun m g _ => Cert.MatchingIdeal.Gen.frame m g,
  fun m g _ => MatchingRefArray.frame m g,
  fun m g _ => MatchingRefArray.frame m g,
  ⟨IdealRules.named_const.statement Cert.KernelIdeal.κ "unmask" .f32 0x461C4000#32 ⊤ rfl,
    IdealRules.named_const.statement Cert.KernelIdeal.κ "mask" .f32 0xC61C4000#32 ⊥ rfl⟩,
  same_result, trivial, same_nearest, trivial, same_partition,
  ⟨IdealRules.named_const.statement Cert.MatchingIdeal.κ "unmask" .f32 0x461C4000#32 ⊤ rfl,
    IdealRules.named_const.statement Cert.MatchingIdeal.κ "mask" .f32 0xC61C4000#32 ⊥ rfl⟩, same_matching⟩

end Cert.Proof

end
